-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_positive [hPre_finite_positive : Cert.Pre_finite_positive.Facts] (m : (ℓ : Loc Cert.KernelIdeal.nD Cert.KernelIdeal.τ Cert.KernelIdeal.sig) → Buf (Elt Ideal) ℓ) : Prop :=
  ∀ c : Dev Cert.KernelIdeal.nD,
    (Cert.Pre_finite_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.1 = (fun _ => 1#1)
    ∧ (Cert.Pre_finite_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_positive [hPre_finite_positive : Cert.Pre_finite_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.1 = (fun _ => 1#1)
    ∧ (Cert.Pre_finite_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_positive [hKernelIdeal : Cert.KernelIdeal.Facts] [hPre_finite_positive : Cert.Pre_finite_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_positive [hReferenceIdeal : Cert.ReferenceIdeal.Facts] [hPre_finite_positive : Cert.Pre_finite_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal_pre_finite_positive [hKernelIdeal : Cert.KernelIdeal.Facts] [hReferenceIdeal : Cert.ReferenceIdeal.Facts] [hPre_finite_positive : Cert.Pre_finite_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v213) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_v166) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_positive : Cert.Pre_finite_positive.Facts),
    quiescent_Kernel (hKernel := hKernel)
    ∧ quiescent_KernelIdeal (hKernelIdeal := hKernelIdeal)
    ∧ quiescent_KernelIdeal_pre_finite_positive (hKernelIdeal := hKernelIdeal) (hPre_finite_positive := hPre_finite_positive)
    ∧ quiescent_ReferenceIdeal (hReferenceIdeal := hReferenceIdeal)
    ∧ quiescent_ReferenceIdeal_pre_finite_positive (hReferenceIdeal := hReferenceIdeal) (hPre_finite_positive := hPre_finite_positive)
    ∧ preserves_Kernel_KernelIdeal
    ∧ algebraic_KernelIdeal_ReferenceIdeal_pre_finite_positive (hKernelIdeal := hKernelIdeal) (hReferenceIdeal := hReferenceIdeal) (hPre_finite_positive := hPre_finite_positive)
-- ==== Pre_finite_positive.lean ====
abbrev S3x10240x30x96 : Shape := ⟨4, ![3, 10240, 30, 96]⟩
abbrev S3x5x30 : Shape := ⟨3, ![3, 5, 30]⟩
abbrev S3x10240x30 : Shape := ⟨3, ![3, 10240, 30]⟩
abbrev S3x30x96x96 : Shape := ⟨4, ![3, 30, 96, 96]⟩
abbrev S3x30x96 : Shape := ⟨3, ![3, 30, 96]⟩
abbrev S30 : Shape := ⟨1, ![30]⟩
abbrev S_ : Shape := ⟨0, ![]⟩

class Facts : Prop where
  natLt_8_32 : 8 < 32
  bcast_S_S3x10240x30x96 : S_.BroadcastsInDim S3x10240x30x96 (![] : Fin 0 → Fin S3x10240x30x96.rank)
  bcast_S_S3x5x30 : S_.BroadcastsInDim S3x5x30 (![] : Fin 0 → Fin S3x5x30.rank)
  bcast_S_S3x10240x30 : S_.BroadcastsInDim S3x10240x30 (![] : Fin 0 → Fin S3x10240x30.rank)
  bcast_S_S3x30x96x96 : S_.BroadcastsInDim S3x30x96x96 (![] : Fin 0 → Fin S3x30x96x96.rank)
  bcast_S_S3x30x96 : S_.BroadcastsInDim S3x30x96 (![] : Fin 0 → Fin S3x30x96.rank)

variable [Facts]

def fn_part1 {F : FTy → Type} [FloatOps F] (main_arg4 : FVec F S3x10240x30 .f32) (main_arg5 : FVec F S3x10240x30 .f32) (main_arg6 : FVec F S3x30x96x96 .f32) (main_arg7 : FVec F S3x30x96 .f32) (main_v4 : IVec S3x10240x30x96 1) (main_v9 : IVec S3x10240x30x96 1) (main_v14 : IVec S3x10240x30x96 1) (main_v15 : FVec F S3x5x30 .f32) (main_v16 : FVec F S3x5x30 .f32) : IVec S3x10240x30x96 1 × IVec S3x10240x30x96 1 × IVec S3x10240x30x96 1 × IVec S3x5x30 1 × IVec S3x10240x30 1 × IVec S3x10240x30 1 × IVec S3x30x96x96 1 × IVec S3x30x96 1 × IVec S3x30x96 1 :=
  let main_v17 : IVec S3x5x30 1 := cmpf .olt main_v15 main_v16
  let main_v18 : FVec F S3x10240x30 .f32 := Host.absf main_arg4
  let main_cst_5 : FVec F S_ .f32 := constant S_ .f32 0x7F800000#32
  let main_v19 : FVec F S3x10240x30 .f32 := broadcastInDim S3x10240x30 ![] bcast_S_S3x10240x30 main_cst_5
  let main_v20 : IVec S3x10240x30 1 := cmpf .olt main_v18 main_v19
  let main_v21 : FVec F S3x10240x30 .f32 := Host.absf main_arg5
  let main_cst_6 : FVec F S_ .f32 := constant S_ .f32 0x7F800000#32
  let main_v22 : FVec F S3x10240x30 .f32 := broadcastInDim S3x10240x30 ![] bcast_S_S3x10240x30 main_cst_6
  let main_v23 : IVec S3x10240x30 1 := cmpf .olt main_v21 main_v22
  let main_v24 : FVec F S3x30x96x96 .f32 := Host.absf main_arg6
  let main_cst_7 : FVec F S_ .f32 := constant S_ .f32 0x7F800000#32
  let main_v25 : FVec F S3x30x96x96 .f32 := broadcastInDim S3x30x96x96 ![] bcast_S_S3x30x96x96 main_cst_7
  let main_v26 : IVec S3x30x96x96 1 := cmpf .olt main_v24 main_v25
  let main_v27 : FVec F S3x30x96 .f32 := Host.absf main_arg7
  let main_cst_8 : FVec F S_ .f32 := constant S_ .f32 0x7F800000#32
  let main_v28 : FVec F S3x30x96 .f32 := broadcastInDim S3x30x96 ![] bcast_S_S3x30x96 main_cst_8
  let main_v29 : IVec S3x30x96 1 := cmpf .olt main_v27 main_v28
  let main_cst_9 : FVec F S_ .f32 := constant S_ .f32 0x00000000#32
  let main_v30 : FVec F S3x30x96 .f32 := broadcastInDim S3x30x96 ![] bcast_S_S3x30x96 main_cst_9
  let main_v31 : IVec S3x30x96 1 := cmpf .ogt main_arg7 main_v30
  (main_v4, main_v9, main_v14, main_v17, main_v20, main_v23, main_v26, main_v29, main_v31)

def fn {F : FTy → Type} [FloatOps F] (main_arg0 : IVec S3x10240x30x96 8) (main_arg1 : IVec S3x10240x30x96 8) (main_arg2 : IVec S3x10240x30x96 8) (main_arg3 : FVec F S3x5x30 .f32) (main_arg4 : FVec F S3x10240x30 .f32) (main_arg5 : FVec F S3x10240x30 .f32) (main_arg6 : FVec F S3x30x96x96 .f32) (main_arg7 : FVec F S3x30x96 .f32) (main_arg8 : FVec F S30 .f32) : IVec S3x10240x30x96 1 × IVec S3x10240x30x96 1 × IVec S3x10240x30x96 1 × IVec S3x5x30 1 × IVec S3x10240x30 1 × IVec S3x10240x30 1 × IVec S3x30x96x96 1 × IVec S3x30x96 1 × IVec S3x30x96 1 :=
  let main_v0 : IVec S3x10240x30x96 32 := (extui 32 · natLt_8_32) main_arg0
  let main_c : IVec S_ 32 := constantI S_ 32 127#32
  let main_v1 : IVec S3x10240x30x96 32 := broadcastInDim S3x10240x30x96 ![] bcast_S_S3x10240x30x96 main_c
  let main_v2 : IVec S3x10240x30x96 32 := andi main_v0 main_v1
  let main_c_0 : IVec S_ 32 := constantI S_ 32 127#32
  let main_v3 : IVec S3x10240x30x96 32 := broadcastInDim S3x10240x30x96 ![] bcast_S_S3x10240x30x96 main_c_0
  let main_v4 : IVec S3x10240x30x96 1 := cmpi .ne main_v2 main_v3
  let main_v5 : IVec S3x10240x30x96 32 := (extui 32 · natLt_8_32) main_arg1
  let main_c_1 : IVec S_ 32 := constantI S_ 32 127#32
  let main_v6 : IVec S3x10240x30x96 32 := broadcastInDim S3x10240x30x96 ![] bcast_S_S3x10240x30x96 main_c_1
  let main_v7 : IVec S3x10240x30x96 32 := andi main_v5 main_v6
  let main_c_2 : IVec S_ 32 := constantI S_ 32 127#32
  let main_v8 : IVec S3x10240x30x96 32 := broadcastInDim S3x10240x30x96 ![] bcast_S_S3x10240x30x96 main_c_2
  let main_v9 : IVec S3x10240x30x96 1 := cmpi .ne main_v7 main_v8
  let main_v10 : IVec S3x10240x30x96 32 := (extui 32 · natLt_8_32) main_arg2
  let main_c_3 : IVec S_ 32 := constantI S_ 32 127#32
  let main_v11 : IVec S3x10240x30x96 32 := broadcastInDim S3x10240x30x96 ![] bcast_S_S3x10240x30x96 main_c_3
  let main_v12 : IVec S3x10240x30x96 32 := andi main_v10 main_v11
  let main_c_4 : IVec S_ 32 := constantI S_ 32 127#32
  let main_v13 : IVec S3x10240x30x96 32 := broadcastInDim S3x10240x30x96 ![] bcast_S_S3x10240x30x96 main_c_4
  let main_v14 : IVec S3x10240x30x96 1 := cmpi .ne main_v12 main_v13
  let main_v15 : FVec F S3x5x30 .f32 := Host.absf main_arg3
  let main_cst : FVec F S_ .f32 := constant S_ .f32 0x7F800000#32
  let main_v16 : FVec F S3x5x30 .f32 := broadcastInDim S3x5x30 ![] bcast_S_S3x5x30 main_cst
  fn_part1 (F := F) main_arg4 main_arg5 main_arg6 main_arg7 main_v4 main_v9 main_v14 main_v15 main_v16
-- ==== Kernel.lean ====
abbrev S3x10240x30x96 : Shape := ⟨4, ![3, 10240, 30, 96]⟩
abbrev S3x5x30 : Shape := ⟨3, ![3, 5, 30]⟩
abbrev S3x10240x30 : Shape := ⟨3, ![3, 10240, 30]⟩
abbrev S3x30x96x96 : Shape := ⟨4, ![3, 30, 96, 96]⟩
abbrev S3x30x96 : Shape := ⟨3, ![3, 30, 96]⟩
abbrev S30 : Shape := ⟨1, ![30]⟩
abbrev S3x30x96x10240 : Shape := ⟨4, ![3, 30, 96, 10240]⟩
abbrev S3x30x10240 : Shape := ⟨3, ![3, 30, 10240]⟩
abbrev S1x6x96x2048 : Shape := ⟨4, ![1, 6, 96, 2048]⟩
abbrev S1x30x2048 : Shape := ⟨3, ![1, 30, 2048]⟩
abbrev S1x30x96x96 : Shape := ⟨4, ![1, 30, 96, 96]⟩
abbrev S1x30x96 : Shape := ⟨3, ![1, 30, 96]⟩
abbrev S30x96x128 : Shape := ⟨3, ![30, 96, 128]⟩
abbrev S2048x96 : Shape := ⟨2, ![2048, 96]⟩
abbrev S2048x128 : Shape := ⟨2, ![2048, 128]⟩
abbrev S96x2048 : Shape := ⟨2, ![96, 2048]⟩
abbrev S1x1x96 : Shape := ⟨3, ![1, 1, 96]⟩
abbrev S1x96 : Shape := ⟨2, ![1, 96]⟩
abbrev S128x96 : Shape := ⟨2, ![128, 96]⟩
abbrev S96x128 : Shape := ⟨2, ![96, 128]⟩
abbrev S1x96x128 : Shape := ⟨3, ![1, 96, 128]⟩
abbrev S1x1x96x96 : Shape := ⟨4, ![1, 1, 96, 96]⟩
abbrev S96x96 : Shape := ⟨2, ![96, 96]⟩
abbrev S1x96x96 : Shape := ⟨3, ![1, 96, 96]⟩
abbrev S1x1x1 : Shape := ⟨3, ![1, 1, 1]⟩
abbrev S1x1x2048 : Shape := ⟨3, ![1, 1, 2048]⟩
abbrev S1x2048 : Shape := ⟨2, ![1, 2048]⟩
abbrev S1x1x96x2048 : Shape := ⟨4, ![1, 1, 96, 2048]⟩
abbrev S1x128 : Shape := ⟨2, ![1, 128]⟩
abbrev S128x128 : Shape := ⟨2, ![128, 128]⟩
abbrev S96 : Shape := ⟨1, ![96]⟩
abbrev S96x1 : Shape := ⟨2, ![96, 1]⟩
abbrev S32x2048 : Shape := ⟨2, ![32, 2048]⟩
abbrev S256x2048 : Shape := ⟨2, ![256, 2048]⟩
abbrev S32x128 : Shape := ⟨2, ![32, 128]⟩
abbrev S112x128 : Shape := ⟨2, ![112, 128]⟩
abbrev S112x256 : Shape := ⟨2, ![112, 256]⟩
abbrev S112x2048 : Shape := ⟨2, ![112, 2048]⟩
abbrev S1 : Shape := ⟨1, ![1]⟩
abbrev S1x1 : Shape := ⟨2, ![1, 1]⟩
abbrev S256x96 : Shape := ⟨2, ![256, 96]⟩
abbrev S1x1x96x256 : Shape := ⟨4, ![1, 1, 96, 256]⟩
abbrev S96x256 : Shape := ⟨2, ![96, 256]⟩
abbrev S256x256 : Shape := ⟨2, ![256, 256]⟩
abbrev S256x128 : Shape := ⟨2, ![256, 128]⟩
abbrev S256 : Shape := ⟨1, ![256]⟩
abbrev S1x256 : Shape := ⟨2, ![1, 256]⟩
abbrev S512x96 : Shape := ⟨2, ![512, 96]⟩
abbrev S512x256 : Shape := ⟨2, ![512, 256]⟩
abbrev S512x128 : Shape := ⟨2, ![512, 128]⟩
abbrev S96x512 : Shape := ⟨2, ![96, 512]⟩
abbrev S768x96 : Shape := ⟨2, ![768, 96]⟩
abbrev S768x256 : Shape := ⟨2, ![768, 256]⟩
abbrev S768x128 : Shape := ⟨2, ![768, 128]⟩
abbrev S96x768 : Shape := ⟨2, ![96, 768]⟩
abbrev S1024x96 : Shape := ⟨2, ![1024, 96]⟩
abbrev S1024x256 : Shape := ⟨2, ![1024, 256]⟩
abbrev S1024x128 : Shape := ⟨2, ![1024, 128]⟩
abbrev S96x1024 : Shape := ⟨2, ![96, 1024]⟩
abbrev S1280x96 : Shape := ⟨2, ![1280, 96]⟩
abbrev S1280x256 : Shape := ⟨2, ![1280, 256]⟩
abbrev S1280x128 : Shape := ⟨2, ![1280, 128]⟩
abbrev S96x1280 : Shape := ⟨2, ![96, 1280]⟩
abbrev S1536x96 : Shape := ⟨2, ![1536, 96]⟩
abbrev S1536x256 : Shape := ⟨2, ![1536, 256]⟩
abbrev S1536x128 : Shape := ⟨2, ![1536, 128]⟩
abbrev S96x1536 : Shape := ⟨2, ![96, 1536]⟩
abbrev S1792x96 : Shape := ⟨2, ![1792, 96]⟩
abbrev S1792x256 : Shape := ⟨2, ![1792, 256]⟩
abbrev S1792x128 : Shape := ⟨2, ![1792, 128]⟩
abbrev S96x1792 : Shape := ⟨2, ![96, 1792]⟩
abbrev S2048x256 : Shape := ⟨2, ![2048, 256]⟩
abbrev S2048 : Shape := ⟨1, ![2048]⟩

abbrev nBuf : Space → Nat
  | .hbm => 20
  | .vmem => 24
  | .smem => 2
  | _ => 0

abbrev bufTy : (tb : Table) → Fin (tcTables nBuf tb) → BufTy
  | .hbm, ⟨0, _⟩ => ⟨S3x10240x30x96, .i8⟩
  | .hbm, ⟨1, _⟩ => ⟨S3x10240x30x96, .i8⟩
  | .hbm, ⟨2, _⟩ => ⟨S3x10240x30x96, .i8⟩
  | .hbm, ⟨3, _⟩ => ⟨S3x5x30, .f32⟩
  | .hbm, ⟨4, _⟩ => ⟨S3x10240x30, .f32⟩
  | .hbm, ⟨5, _⟩ => ⟨S3x10240x30, .f32⟩
  | .hbm, ⟨6, _⟩ => ⟨S3x30x96x96, .f32⟩
  | .hbm, ⟨7, _⟩ => ⟨S3x30x96, .f32⟩
  | .hbm, ⟨8, _⟩ => ⟨S30, .f32⟩
  | .hbm, ⟨9, _⟩ => ⟨S3x10240x30x96, .fp8e4m3⟩
  | .hbm, ⟨10, _⟩ => ⟨S3x10240x30x96, .fp8e4m3⟩
  | .hbm, ⟨11, _⟩ => ⟨S3x10240x30x96, .fp8e4m3⟩
  | .hbm, ⟨12, _⟩ => ⟨S3x30x96x10240, .fp8e4m3⟩
  | .hbm, ⟨13, _⟩ => ⟨S3x30x96x10240, .fp8e4m3⟩
  | .hbm, ⟨14, _⟩ => ⟨S3x30x96x10240, .fp8e4m3⟩
  | .hbm, ⟨15, _⟩ => ⟨S3x30x10240, .f32⟩
  | .hbm, ⟨16, _⟩ => ⟨S3x30x10240, .f32⟩
  | .hbm, ⟨17, _⟩ => ⟨S3x30x96x10240, .bf16⟩
  | .hbm, ⟨18, _⟩ => ⟨S3x30x96x96, .f32⟩
  | .hbm, ⟨19, _⟩ => ⟨S3x30x96, .f32⟩
  | .local _ .vmem, ⟨0, _⟩ => ⟨S1x6x96x2048, .fp8e4m3⟩
  | .local _ .vmem, ⟨1, _⟩ => ⟨S1x6x96x2048, .fp8e4m3⟩
  | .local _ .vmem, ⟨2, _⟩ => ⟨S1x6x96x2048, .fp8e4m3⟩
  | .local _ .vmem, ⟨3, _⟩ => ⟨S1x6x96x2048, .fp8e4m3⟩
  | .local _ .vmem, ⟨4, _⟩ => ⟨S1x6x96x2048, .fp8e4m3⟩
  | .local _ .vmem, ⟨5, _⟩ => ⟨S1x6x96x2048, .fp8e4m3⟩
  | .local _ .vmem, ⟨6, _⟩ => ⟨S1x30x2048, .f32⟩
  | .local _ .vmem, ⟨7, _⟩ => ⟨S1x30x2048, .f32⟩
  | .local _ .vmem, ⟨8, _⟩ => ⟨S1x30x2048, .f32⟩
  | .local _ .vmem, ⟨9, _⟩ => ⟨S1x30x2048, .f32⟩
  | .local _ .vmem, ⟨10, _⟩ => ⟨S1x30x96x96, .f32⟩
  | .local _ .vmem, ⟨11, _⟩ => ⟨S1x30x96x96, .f32⟩
  | .local _ .vmem, ⟨12, _⟩ => ⟨S1x30x96, .f32⟩
  | .local _ .vmem, ⟨13, _⟩ => ⟨S1x30x96, .f32⟩
  | .local _ .vmem, ⟨14, _⟩ => ⟨S1x6x96x2048, .bf16⟩
  | .local _ .vmem, ⟨15, _⟩ => ⟨S1x6x96x2048, .bf16⟩
  | .local _ .vmem, ⟨16, _⟩ => ⟨S1x30x96x96, .f32⟩
  | .local _ .vmem, ⟨17, _⟩ => ⟨S1x30x96x96, .f32⟩
  | .local _ .vmem, ⟨18, _⟩ => ⟨S1x30x96, .f32⟩
  | .local _ .vmem, ⟨19, _⟩ => ⟨S1x30x96, .f32⟩
  | .local _ .vmem, ⟨20, _⟩ => ⟨S30x96x128, .f32⟩
  | .local _ .vmem, ⟨21, _⟩ => ⟨S2048x96, .fp8e4m3⟩
  | .local _ .vmem, ⟨22, _⟩ => ⟨S2048x128, .f32⟩
  | .local _ .vmem, ⟨23, _⟩ => ⟨S96x2048, .bf16⟩
  | .local _ .smem, ⟨0, _⟩ => ⟨S3x5x30, .f32⟩
  | .local _ .smem, ⟨1, _⟩ => ⟨S30, .f32⟩
  | _, _ => ⟨S3x10240x30x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨3, ![3, 5, 5], ![false, false, false]⟩

@[reducible] def k0_t1_loop : Scf.Loop 32 :=
  let c0_i32 : BitVec 32 := 0#32
  let c6_i32 : BitVec 32 := 6#32
  let v0 : BitVec 32 := Scalar.addi c0_i32 c6_i32
  let c1_i32 : BitVec 32 := 1#32
  ⟨c0_i32, v0, c1_i32⟩
def k0_cond1 (i : grid0.Coords) : BitVec 1 :=
  let arg1 : BitVec 32 := BitVec.ofNat 32 (i 1).val
  let c0_i32_2 : BitVec 32 := 0#32
  let v3 : BitVec 1 := Scalar.cmpi .eq arg1 c0_i32_2
  let v4 : BitVec 32 := Scalar.extui v3
  let c0_i32_3 : BitVec 32 := 0#32
  let v5 : BitVec 1 := Scalar.cmpi .ne v4 c0_i32_3
  v5

def k0_off1 (i : grid0.Coords) (k0_t1 : Fin k0_t1_loop.trips) : Fin 3 → Nat :=
  let c0_241 : Index := 0#32
  let arg2 : BitVec 32 := BitVec.ofNat 32 (i 2).val
  let c6_i32_1 : BitVec 32 := 6#32
  let v1 : BitVec 32 := Scalar.muli arg2 c6_i32_1
  let c0_i32 : BitVec 32 := 0#32
  let c1_i32 : BitVec 32 := 1#32
  let arg19 : BitVec 32 := Scf.iv c0_i32 c1_i32 k0_t1
  let v2 : BitVec 32 := Scalar.addi v1 arg19
  let v709 : Index := Scalar.indexCast v2
  let c0_242 : Index := 0#32
  ![0, v709.toNat, 0]
def k0_off2 (i : grid0.Coords) (k0_t1 : Fin k0_t1_loop.trips) : Fin 3 → Nat :=
  let arg2 : BitVec 32 := BitVec.ofNat 32 (i 2).val
  let c6_i32_1 : BitVec 32 := 6#32
  let v1 : BitVec 32 := Scalar.muli arg2 c6_i32_1
  let c0_i32 : BitVec 32 := 0#32
  let c1_i32 : BitVec 32 := 1#32
  let arg19 : BitVec 32 := Scf.iv c0_i32 c1_i32 k0_t1
  let v2 : BitVec 32 := Scalar.addi v1 arg19
  let v715 : Index := Scalar.indexCast v2
  let c0_243 : Index := 0#32
  let c0_244 : Index := 0#32
  ![v715.toNat, 0, 0]
def k0_off3 (i : grid0.Coords) (k0_t1 : Fin k0_t1_loop.trips) : Fin 4 → Nat :=
  let c0_245 : Index := 0#32
  let arg2 : BitVec 32 := BitVec.ofNat 32 (i 2).val
  let c6_i32_1 : BitVec 32 := 6#32
  let v1 : BitVec 32 := Scalar.muli arg2 c6_i32_1
  let c0_i32 : BitVec 32 := 0#32
  let c1_i32 : BitVec 32 := 1#32
  let arg19 : BitVec 32 := Scf.iv c0_i32 c1_i32 k0_t1
  let v2 : BitVec 32 := Scalar.addi v1 arg19
  let v719 : Index := Scalar.indexCast v2
  let c0_246 : Index := 0#32
  let c0_247 : Index := 0#32
  ![0, v719.toNat, 0, 0]
def k0_off4 (i : grid0.Coords) (k0_t1 : Fin k0_t1_loop.trips) : Fin 3 → Nat :=
  let arg2 : BitVec 32 := BitVec.ofNat 32 (i 2).val
  let c6_i32_1 : BitVec 32 := 6#32
  let v1 : BitVec 32 := Scalar.muli arg2 c6_i32_1
  let c0_i32 : BitVec 32 := 0#32
  let c1_i32 : BitVec 32 := 1#32
  let arg19 : BitVec 32 := Scf.iv c0_i32 c1_i32 k0_t1
  let v2 : BitVec 32 := Scalar.addi v1 arg19
  let v722 : Index := Scalar.indexCast v2
  let c0_248 : Index := 0#32
  let c0_249 : Index := 0#32
  ![v722.toNat, 0, 0]
def k0_off5 (i : grid0.Coords) (k0_t1 : Fin k0_t1_loop.trips) : Fin 3 → Nat :=
  let arg0 : BitVec 32 := BitVec.ofNat 32 (i 0).val
  let v6 : Index := Scalar.indexCast arg0
  let arg1 : BitVec 32 := BitVec.ofNat 32 (i 1).val
  let v7 : Index := Scalar.indexCast arg1
  let arg2 : BitVec 32 := BitVec.ofNat 32 (i 2).val
  let c6_i32_1 : BitVec 32 := 6#32
  let v1 : BitVec 32 := Scalar.muli arg2 c6_i32_1
  let c0_i32 : BitVec 32 := 0#32
  let c1_i32 : BitVec 32 := 1#32
  let arg19 : BitVec 32 := Scf.iv c0_i32 c1_i32 k0_t1
  let v2 : BitVec 32 := Scalar.addi v1 arg19
  let v8 : Index := Scalar.indexCast v2
  ![v6.toNat, v7.toNat, v8.toNat]
def k0_off6 (i : grid0.Coords) (k0_t1 : Fin k0_t1_loop.trips) : Fin 3 → Nat :=
  let c0 : Index := 0#32
  let arg2 : BitVec 32 := BitVec.ofNat 32 (i 2).val
  let c6_i32_1 : BitVec 32 := 6#32
  let v1 : BitVec 32 := Scalar.muli arg2 c6_i32_1
  let c0_i32 : BitVec 32 := 0#32
  let c1_i32 : BitVec 32 := 1#32
  let arg19 : BitVec 32 := Scf.iv c0_i32 c1_i32 k0_t1
  let v2 : BitVec 32 := Scalar.addi v1 arg19
  let v12 : Index := Scalar.indexCast v2
  let c0_5 : Index := 0#32
  ![0, v12.toNat, 0]
def k0_off7 (k0_t1 : Fin k0_t1_loop.trips) : Fin 4 → Nat :=
  let c0_8 : Index := 0#32
  let c0_i32 : BitVec 32 := 0#32
  let c1_i32 : BitVec 32 := 1#32
  let arg19 : BitVec 32 := Scf.iv c0_i32 c1_i32 k0_t1
  let v18 : Index := Scalar.indexCast arg19
  let c0_9 : Index := 0#32
  let c0_10 : Index := 0#32
  ![0, v18.toNat, 0, 0]
def k0_off8 (i : grid0.Coords) (k0_t1 : Fin k0_t1_loop.trips) : Fin 3 → Nat :=
  let arg2 : BitVec 32 := BitVec.ofNat 32 (i 2).val
  let c6_i32_1 : BitVec 32 := 6#32
  let v1 : BitVec 32 := Scalar.muli arg2 c6_i32_1
  let c0_i32 : BitVec 32 := 0#32
  let c1_i32 : BitVec 32 := 1#32
  let arg19 : BitVec 32 := Scf.iv c0_i32 c1_i32 k0_t1
  let v2 : BitVec 32 := Scalar.addi v1 arg19
  let v272 : Index := Scalar.indexCast v2
  let c0_65 : Index := 0#32
  let c0_66 : Index := 0#32
  ![v272.toNat, 0, 0]
def k0_off9 (i : grid0.Coords) (k0_t1 : Fin k0_t1_loop.trips) : Fin 1 → Nat :=
  let arg2 : BitVec 32 := BitVec.ofNat 32 (i 2).val
  let c6_i32_1 : BitVec 32 := 6#32
  let v1 : BitVec 32 := Scalar.muli arg2 c6_i32_1
  let c0_i32 : BitVec 32 := 0#32
  let c1_i32 : BitVec 32 := 1#32
  let arg19 : BitVec 32 := Scf.iv c0_i32 c1_i32 k0_t1
  let v2 : BitVec 32 := Scalar.addi v1 arg19
  let v325 : Index := Scalar.indexCast v2
  ![v325.toNat]
def k0_off10 (k0_t1 : Fin k0_t1_loop.trips) : Fin 4 → Nat :=
  let c0_82 : Index := 0#32
  let c0_i32 : BitVec 32 := 0#32
  let c1_i32 : BitVec 32 := 1#32
  let arg19 : BitVec 32 := Scf.iv c0_i32 c1_i32 k0_t1
  let v337 : Index := Scalar.indexCast arg19
  let c0_83 : Index := 0#32
  let c0_84 : Index := 0#32
  ![0, v337.toNat, 0, 0]
def k0_off11 (k0_t1 : Fin k0_t1_loop.trips) : Fin 4 → Nat :=
  let c0_100 : Index := 0#32
  let c0_i32 : BitVec 32 := 0#32
  let c1_i32 : BitVec 32 := 1#32
  let arg19 : BitVec 32 := Scf.iv c0_i32 c1_i32 k0_t1
  let v373 : Index := Scalar.indexCast arg19
  let c0_101 : Index := 0#32
  let c256_102 : Index := 256#32
  ![0, v373.toNat, 0, 256]
def k0_off12 (k0_t1 : Fin k0_t1_loop.trips) : Fin 4 → Nat :=
  let c0_118 : Index := 0#32
  let c0_i32 : BitVec 32 := 0#32
  let c1_i32 : BitVec 32 := 1#32
  let arg19 : BitVec 32 := Scf.iv c0_i32 c1_i32 k0_t1
  let v412 : Index := Scalar.indexCast arg19
  let c0_119 : Index := 0#32
  let c512_120 : Index := 512#32
  ![0, v412.toNat, 0, 512]
def k0_off13 (k0_t1 : Fin k0_t1_loop.trips) : Fin 4 → Nat :=
  let c0_136 : Index := 0#32
  let c0_i32 : BitVec 32 := 0#32
  let c1_i32 : BitVec 32 := 1#32
  let arg19 : BitVec 32 := Scf.iv c0_i32 c1_i32 k0_t1
  let v451 : Index := Scalar.indexCast arg19
  let c0_137 : Index := 0#32
  let c768_138 : Index := 768#32
  ![0, v451.toNat, 0, 768]
def k0_off14 (k0_t1 : Fin k0_t1_loop.trips) : Fin 4 → Nat :=
  let c0_154 : Index := 0#32
  let c0_i32 : BitVec 32 := 0#32
  let c1_i32 : BitVec 32 := 1#32
  let arg19 : BitVec 32 := Scf.iv c0_i32 c1_i32 k0_t1
  let v490 : Index := Scalar.indexCast arg19
  let c0_155 : Index := 0#32
  let c1024_156 : Index := 1024#32
  ![0, v490.toNat, 0, 1024]
def k0_off15 (k0_t1 : Fin k0_t1_loop.trips) : Fin 4 → Nat :=
  let c0_172 : Index := 0#32
  let c0_i32 : BitVec 32 := 0#32
  let c1_i32 : BitVec 32 := 1#32
  let arg19 : BitVec 32 := Scf.iv c0_i32 c1_i32 k0_t1
  let v529 : Index := Scalar.indexCast arg19
  let c0_173 : Index := 0#32
  let c1280_174 : Index := 1280#32
  ![0, v529.toNat, 0, 1280]
def k0_off16 (k0_t1 : Fin k0_t1_loop.trips) : Fin 4 → Nat :=
  let c0_190 : Index := 0#32
  let c0_i32 : BitVec 32 := 0#32
  let c1_i32 : BitVec 32 := 1#32
  let arg19 : BitVec 32 := Scf.iv c0_i32 c1_i32 k0_t1
  let v568 : Index := Scalar.indexCast arg19
  let c0_191 : Index := 0#32
  let c1536_192 : Index := 1536#32
  ![0, v568.toNat, 0, 1536]
def k0_off17 (k0_t1 : Fin k0_t1_loop.trips) : Fin 4 → Nat :=
  let c0_208 : Index := 0#32
  let c0_i32 : BitVec 32 := 0#32
  let c1_i32 : BitVec 32 := 1#32
  let arg19 : BitVec 32 := Scf.iv c0_i32 c1_i32 k0_t1
  let v607 : Index := Scalar.indexCast arg19
  let c0_209 : Index := 0#32
  let c1792_210 : Index := 1792#32
  ![0, v607.toNat, 0, 1792]
def k0_cond2 (i : grid0.Coords) : BitVec 1 :=
  let arg1 : BitVec 32 := BitVec.ofNat 32 (i 1).val
  let c4_i32 : BitVec 32 := 4#32
  let v706 : BitVec 1 := Scalar.cmpi .eq arg1 c4_i32
  let v707 : BitVec 32 := Scalar.extui v706
  let c0_i32_240 : BitVec 32 := 0#32
  let v708 : BitVec 1 := Scalar.cmpi .ne v707 c0_i32_240
  v708

def k0_off18 (i : grid0.Coords) (k0_t1 : Fin k0_t1_loop.trips) : Fin 4 → Nat :=
  let c0_241 : Index := 0#32
  let arg2 : BitVec 32 := BitVec.ofNat 32 (i 2).val
  let c6_i32_1 : BitVec 32 := 6#32
  let v1 : BitVec 32 := Scalar.muli arg2 c6_i32_1
  let c0_i32 : BitVec 32 := 0#32
  let c1_i32 : BitVec 32 := 1#32
  let arg19 : BitVec 32 := Scf.iv c0_i32 c1_i32 k0_t1
  let v2 : BitVec 32 := Scalar.addi v1 arg19
  let v710 : Index := Scalar.indexCast v2
  let c0_242 : Index := 0#32
  let c0_243 : Index := 0#32
  ![0, v710.toNat, 0, 0]
def k0_off19 (i : grid0.Coords) (k0_t1 : Fin k0_t1_loop.trips) : Fin 3 → Nat :=
  let c0_245 : Index := 0#32
  let arg2 : BitVec 32 := BitVec.ofNat 32 (i 2).val
  let c6_i32_1 : BitVec 32 := 6#32
  let v1 : BitVec 32 := Scalar.muli arg2 c6_i32_1
  let c0_i32 : BitVec 32 := 0#32
  let c1_i32 : BitVec 32 := 1#32
  let arg19 : BitVec 32 := Scf.iv c0_i32 c1_i32 k0_t1
  let v2 : BitVec 32 := Scalar.addi v1 arg19
  let v718 : Index := Scalar.indexCast v2
  let c0_246 : Index := 0#32
  ![0, v718.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S3x5x30 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S30 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x6x96x2048 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x6x96x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x6x96x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x30x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x30x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x30x96x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x30x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x6x96x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x30x96x96 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S1x30x96 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S3x10240x30x96 : Shape := ⟨4, ![3, 10240, 30, 96]⟩
abbrev S3x5x30 : Shape := ⟨3, ![3, 5, 30]⟩
abbrev S3x10240x30 : Shape := ⟨3, ![3, 10240, 30]⟩
abbrev S3x30x96x96 : Shape := ⟨4, ![3, 30, 96, 96]⟩
abbrev S3x30x96 : Shape := ⟨3, ![3, 30, 96]⟩
abbrev S30 : Shape := ⟨1, ![30]⟩
abbrev S3x5x2048x30x96 : Shape := ⟨5, ![3, 5, 2048, 30, 96]⟩
abbrev S3x5x2048x30 : Shape := ⟨4, ![3, 5, 2048, 30]⟩
abbrev S2048 : Shape := ⟨1, ![2048]⟩
abbrev S3x5x30x2048x2048 : Shape := ⟨5, ![3, 5, 30, 2048, 2048]⟩
abbrev S_ : Shape := ⟨0, ![]⟩
abbrev S3x5x30x1x1 : Shape := ⟨5, ![3, 5, 30, 1, 1]⟩
abbrev S3x5x30x2048 : Shape := ⟨4, ![3, 5, 30, 2048]⟩
abbrev S3x5x30x1x2048 : Shape := ⟨5, ![3, 5, 30, 1, 2048]⟩
abbrev S1x2048 : Shape := ⟨2, ![1, 2048]⟩
abbrev S2048x1 : Shape := ⟨2, ![2048, 1]⟩
abbrev S2048x2048 : Shape := ⟨2, ![2048, 2048]⟩
abbrev S3x5x30x2048x1 : Shape := ⟨5, ![3, 5, 30, 2048, 1]⟩
abbrev S3x5x30x96x2048 : Shape := ⟨5, ![3, 5, 30, 96, 2048]⟩
abbrev S3x5x2048x30x1 : Shape := ⟨5, ![3, 5, 2048, 30, 1]⟩
abbrev S3x1x2048x30x96 : Shape := ⟨5, ![3, 1, 2048, 30, 96]⟩
abbrev S3x2048x30x96 : Shape := ⟨4, ![3, 2048, 30, 96]⟩
abbrev S3x30x2048 : Shape := ⟨3, ![3, 30, 2048]⟩
abbrev S3x2048x30 : Shape := ⟨3, ![3, 2048, 30]⟩
abbrev S3x30x96x2048 : Shape := ⟨4, ![3, 30, 96, 2048]⟩
abbrev S3x2048x30x1 : Shape := ⟨4, ![3, 2048, 30, 1]⟩
abbrev S3x5x1x30x1 : Shape := ⟨5, ![3, 5, 1, 30, 1]⟩
abbrev S1x3x30x96x96 : Shape := ⟨5, ![1, 3, 30, 96, 96]⟩
abbrev S5x3x30x96x96 : Shape := ⟨5, ![5, 3, 30, 96, 96]⟩
abbrev S1x3x30x96 : Shape := ⟨4, ![1, 3, 30, 96]⟩
abbrev S5x3x30x96 : Shape := ⟨4, ![5, 3, 30, 96]⟩
abbrev S30x1 : Shape := ⟨2, ![30, 1]⟩
abbrev S1x1x1x30x1 : Shape := ⟨5, ![1, 1, 1, 30, 1]⟩
abbrev S3x30x96x10240 : Shape := ⟨4, ![3, 30, 96, 10240]⟩

abbrev nBuf : Space → Nat
  | .hbm => 245
  | .vmem => 6
  | .smem => 0
  | _ => 0

abbrev hbmTy0_0 (i : Nat) : BufTy := match i % 128 with
  | 0 => ⟨S3x10240x30x96, .i8⟩
  | 1 => ⟨S3x10240x30x96, .i8⟩
  | 2 => ⟨S3x10240x30x96, .i8⟩
  | 3 => ⟨S3x5x30, .f32⟩
  | 4 => ⟨S3x10240x30, .f32⟩
  | 5 => ⟨S3x10240x30, .f32⟩
  | 6 => ⟨S3x30x96x96, .f32⟩
  | 7 => ⟨S3x30x96, .f32⟩
  | 8 => ⟨S30, .f32⟩
  | 9 => ⟨S3x10240x30x96, .fp8e4m3⟩
  | 10 => ⟨S3x10240x30x96, .fp8e4m3⟩
  | 11 => ⟨S3x10240x30x96, .fp8e4m3⟩
  | 12 => ⟨S3x10240x30x96, .f32⟩
  | 13 => ⟨S3x10240x30x96, .f32⟩
  | 14 => ⟨S3x10240x30x96, .f32⟩
  | 15 => ⟨S3x5x2048x30x96, .f32⟩
  | 16 => ⟨S3x5x2048x30x96, .f32⟩
  | 17 => ⟨S3x5x2048x30x96, .f32⟩
  | 18 => ⟨S3x5x2048x30, .f32⟩
  | 19 => ⟨S3x5x2048x30, .f32⟩
  | 20 => ⟨S2048, .i32⟩
  | 21 => ⟨S3x5x30x2048x2048, .f32⟩
  | 22 => ⟨S_, .f32⟩
  | 23 => ⟨S3x5x30, .f32⟩
  | 24 => ⟨S3x5x30, .f32⟩
  | 25 => ⟨S3x5x30x1x1, .f32⟩
  | 26 => ⟨S3x5x30x2048, .f32⟩
  | 27 => ⟨S3x5x30x1x2048, .f32⟩
  | 28 => ⟨S3x5x30x1x2048, .f32⟩
  | 29 => ⟨S3x5x30x1x2048, .f32⟩
  | 30 => ⟨S1x2048, .i32⟩
  | 31 => ⟨S2048x1, .i32⟩
  | 32 => ⟨S2048x2048, .i32⟩
  | 33 => ⟨S2048x2048, .i32⟩
  | 34 => ⟨S2048x2048, .i1⟩
  | 35 => ⟨S3x5x30x2048x2048, .f32⟩
  | 36 => ⟨S3x5x30x2048x2048, .f32⟩
  | 37 => ⟨S_, .f32⟩
  | 38 => ⟨S_, .f32⟩
  | 39 => ⟨S3x5x30x2048x2048, .i1⟩
  | 40 => ⟨S3x5x30x2048x2048, .f32⟩
  | 41 => ⟨S3x5x30x2048x2048, .f32⟩
  | 42 => ⟨S_, .f32⟩
  | 43 => ⟨S3x5x30x2048, .f32⟩
  | 44 => ⟨S_, .f32⟩
  | 45 => ⟨S3x5x30x2048, .f32⟩
  | 46 => ⟨S3x5x30x2048, .f32⟩
  | 47 => ⟨S3x5x30x2048x1, .f32⟩
  | 48 => ⟨S3x5x30x2048x2048, .f32⟩
  | 49 => ⟨S3x5x30x2048x2048, .f32⟩
  | 50 => ⟨S3x5x30x2048x2048, .f32⟩
  | 51 => ⟨S_, .f32⟩
  | 52 => ⟨S3x5x30x2048, .f32⟩
  | 53 => ⟨S3x5x30x2048x1, .f32⟩
  | 54 => ⟨S3x5x30x2048x2048, .f32⟩
  | 55 => ⟨S3x5x30x2048x2048, .f32⟩
  | 56 => ⟨S3x5x30x2048, .f32⟩
  | 57 => ⟨S3x5x30x1x2048, .f32⟩
  | 58 => ⟨S3x5x30x2048x2048, .f32⟩
  | 59 => ⟨S3x5x30x2048x2048, .f32⟩
  | 60 => ⟨S3x5x30x2048x2048, .bf16⟩
  | 61 => ⟨S3x5x2048x30x96, .bf16⟩
  | 62 => ⟨S3x5x30x96x2048, .f32⟩
  | 63 => ⟨S3x5x2048x30x96, .f32⟩
  | 64 => ⟨S3x5x2048x30x1, .f32⟩
  | 65 => ⟨S3x5x2048x30x96, .f32⟩
  | 66 => ⟨S3x5x2048x30x96, .f32⟩
  | 67 => ⟨S_, .f32⟩
  | 68 => ⟨S3x5x2048x30x96, .f32⟩
  | 69 => ⟨S3x5x2048x30x96, .i1⟩
  | 70 => ⟨S3x5x2048x30x96, .f32⟩
  | 71 => ⟨S3x5x2048x30x96, .f32⟩
  | 72 => ⟨S_, .f32⟩
  | 73 => ⟨S3x5x2048x30x96, .f32⟩
  | 74 => ⟨S3x5x2048x30x96, .f32⟩
  | 75 => ⟨S3x5x2048x30x1, .f32⟩
  | 76 => ⟨S3x5x2048x30x96, .f32⟩
  | 77 => ⟨S3x5x2048x30x96, .f32⟩
  | 78 => ⟨S3x1x2048x30x96, .f32⟩
  | 79 => ⟨S3x2048x30x96, .f32⟩
  | 80 => ⟨S3x30x2048, .f32⟩
  | 81 => ⟨S3x2048x30, .f32⟩
  | 82 => ⟨S3x1x2048x30x96, .f32⟩
  | 83 => ⟨S3x2048x30x96, .f32⟩
  | 84 => ⟨S3x30x96x2048, .f32⟩
  | 85 => ⟨S3x2048x30x96, .f32⟩
  | 86 => ⟨S3x2048x30x1, .f32⟩
  | 87 => ⟨S3x2048x30x96, .f32⟩
  | 88 => ⟨S3x2048x30x96, .f32⟩
  | 89 => ⟨S3x1x2048x30x96, .f32⟩
  | 90 => ⟨S3x2048x30x96, .f32⟩
  | 91 => ⟨S3x1x2048x30x96, .f32⟩
  | 92 => ⟨S3x2048x30x96, .f32⟩
  | 93 => ⟨S3x2048x30x96, .f32⟩
  | 94 => ⟨S3x30x96x96, .f32⟩
  | 95 => ⟨S3x30x96x96, .f32⟩
  | 96 => ⟨S3x1x2048x30x96, .f32⟩
  | 97 => ⟨S3x2048x30x96, .f32⟩
  | 98 => ⟨S_, .f32⟩
  | 99 => ⟨S3x30x96, .f32⟩
  | 100 => ⟨S3x30x96, .f32⟩
  | 101 => ⟨S3x1x2048x30x96, .f32⟩
  | 102 => ⟨S3x2048x30x96, .f32⟩
  | 103 => ⟨S3x30x2048, .f32⟩
  | 104 => ⟨S3x2048x30, .f32⟩
  | 105 => ⟨S3x1x2048x30x96, .f32⟩
  | 106 => ⟨S3x2048x30x96, .f32⟩
  | 107 => ⟨S3x30x96x2048, .f32⟩
  | 108 => ⟨S3x2048x30x96, .f32⟩
  | 109 => ⟨S3x2048x30x1, .f32⟩
  | 110 => ⟨S3x2048x30x96, .f32⟩
  | 111 => ⟨S3x2048x30x96, .f32⟩
  | 112 => ⟨S3x1x2048x30x96, .f32⟩
  | 113 => ⟨S3x2048x30x96, .f32⟩
  | 114 => ⟨S3x1x2048x30x96, .f32⟩
  | 115 => ⟨S3x2048x30x96, .f32⟩
  | 116 => ⟨S3x2048x30x96, .f32⟩
  | 117 => ⟨S3x30x96x96, .f32⟩
  | 118 => ⟨S3x30x96x96, .f32⟩
  | 119 => ⟨S3x1x2048x30x96, .f32⟩
  | 120 => ⟨S3x2048x30x96, .f32⟩
  | 121 => ⟨S_, .f32⟩
  | 122 => ⟨S3x30x96, .f32⟩
  | 123 => ⟨S3x30x96, .f32⟩
  | 124 => ⟨S3x1x2048x30x96, .f32⟩
  | 125 => ⟨S3x2048x30x96, .f32⟩
  | 126 => ⟨S3x30x2048, .f32⟩
  | 127 => ⟨S3x2048x30, .f32⟩
  | _ => ⟨S3x10240x30x96, .i8⟩

abbrev hbmTy0_1 (i : Nat) : BufTy := match i % 128 with
  | 0 => ⟨S3x1x2048x30x96, .f32⟩
  | 1 => ⟨S3x2048x30x96, .f32⟩
  | 2 => ⟨S3x30x96x2048, .f32⟩
  | 3 => ⟨S3x2048x30x96, .f32⟩
  | 4 => ⟨S3x2048x30x1, .f32⟩
  | 5 => ⟨S3x2048x30x96, .f32⟩
  | 6 => ⟨S3x2048x30x96, .f32⟩
  | 7 => ⟨S3x1x2048x30x96, .f32⟩
  | 8 => ⟨S3x2048x30x96, .f32⟩
  | 9 => ⟨S3x1x2048x30x96, .f32⟩
  | 10 => ⟨S3x2048x30x96, .f32⟩
  | 11 => ⟨S3x2048x30x96, .f32⟩
  | 12 => ⟨S3x30x96x96, .f32⟩
  | 13 => ⟨S3x30x96x96, .f32⟩
  | 14 => ⟨S3x1x2048x30x96, .f32⟩
  | 15 => ⟨S3x2048x30x96, .f32⟩
  | 16 => ⟨S_, .f32⟩
  | 17 => ⟨S3x30x96, .f32⟩
  | 18 => ⟨S3x30x96, .f32⟩
  | 19 => ⟨S3x1x2048x30x96, .f32⟩
  | 20 => ⟨S3x2048x30x96, .f32⟩
  | 21 => ⟨S3x30x2048, .f32⟩
  | 22 => ⟨S3x2048x30, .f32⟩
  | 23 => ⟨S3x1x2048x30x96, .f32⟩
  | 24 => ⟨S3x2048x30x96, .f32⟩
  | 25 => ⟨S3x30x96x2048, .f32⟩
  | 26 => ⟨S3x2048x30x96, .f32⟩
  | 27 => ⟨S3x2048x30x1, .f32⟩
  | 28 => ⟨S3x2048x30x96, .f32⟩
  | 29 => ⟨S3x2048x30x96, .f32⟩
  | 30 => ⟨S3x1x2048x30x96, .f32⟩
  | 31 => ⟨S3x2048x30x96, .f32⟩
  | 32 => ⟨S3x1x2048x30x96, .f32⟩
  | 33 => ⟨S3x2048x30x96, .f32⟩
  | 34 => ⟨S3x2048x30x96, .f32⟩
  | 35 => ⟨S3x30x96x96, .f32⟩
  | 36 => ⟨S3x30x96x96, .f32⟩
  | 37 => ⟨S3x1x2048x30x96, .f32⟩
  | 38 => ⟨S3x2048x30x96, .f32⟩
  | 39 => ⟨S_, .f32⟩
  | 40 => ⟨S3x30x96, .f32⟩
  | 41 => ⟨S3x30x96, .f32⟩
  | 42 => ⟨S3x1x2048x30x96, .f32⟩
  | 43 => ⟨S3x2048x30x96, .f32⟩
  | 44 => ⟨S3x30x2048, .f32⟩
  | 45 => ⟨S3x2048x30, .f32⟩
  | 46 => ⟨S3x1x2048x30x96, .f32⟩
  | 47 => ⟨S3x2048x30x96, .f32⟩
  | 48 => ⟨S3x30x96x2048, .f32⟩
  | 49 => ⟨S3x2048x30x96, .f32⟩
  | 50 => ⟨S3x2048x30x1, .f32⟩
  | 51 => ⟨S3x2048x30x96, .f32⟩
  | 52 => ⟨S3x2048x30x96, .f32⟩
  | 53 => ⟨S3x1x2048x30x96, .f32⟩
  | 54 => ⟨S3x2048x30x96, .f32⟩
  | 55 => ⟨S3x1x2048x30x96, .f32⟩
  | 56 => ⟨S3x2048x30x96, .f32⟩
  | 57 => ⟨S3x2048x30x96, .f32⟩
  | 58 => ⟨S3x30x96x96, .f32⟩
  | 59 => ⟨S3x30x96x96, .f32⟩
  | 60 => ⟨S3x1x2048x30x96, .f32⟩
  | 61 => ⟨S3x2048x30x96, .f32⟩
  | 62 => ⟨S_, .f32⟩
  | 63 => ⟨S3x30x96, .f32⟩
  | 64 => ⟨S3x30x96, .f32⟩
  | 65 => ⟨S3x5x1x30x1, .f32⟩
  | 66 => ⟨S3x5x2048x30x96, .f32⟩
  | 67 => ⟨S3x5x2048x30x96, .f32⟩
  | 68 => ⟨S_, .f32⟩
  | 69 => ⟨S3x5x2048x30x96, .f32⟩
  | 70 => ⟨S3x5x2048x30x96, .i1⟩
  | 71 => ⟨S3x5x2048x30x96, .f32⟩
  | 72 => ⟨S3x5x2048x30x96, .f32⟩
  | 73 => ⟨S_, .f32⟩
  | 74 => ⟨S3x5x2048x30x96, .f32⟩
  | 75 => ⟨S3x5x2048x30x96, .f32⟩
  | 76 => ⟨S1x3x30x96x96, .f32⟩
  | 77 => ⟨S1x3x30x96x96, .f32⟩
  | 78 => ⟨S1x3x30x96x96, .f32⟩
  | 79 => ⟨S1x3x30x96x96, .f32⟩
  | 80 => ⟨S1x3x30x96x96, .f32⟩
  | 81 => ⟨S5x3x30x96x96, .f32⟩
  | 82 => ⟨S3x5x30x96x2048, .f32⟩
  | 83 => ⟨S3x5x2048x30x96, .f32⟩
  | 84 => ⟨S1x3x30x96, .f32⟩
  | 85 => ⟨S1x3x30x96, .f32⟩
  | 86 => ⟨S1x3x30x96, .f32⟩
  | 87 => ⟨S1x3x30x96, .f32⟩
  | 88 => ⟨S1x3x30x96, .f32⟩
  | 89 => ⟨S5x3x30x96, .f32⟩
  | 90 => ⟨S3x5x30x2048, .f32⟩
  | 91 => ⟨S3x5x2048x30, .f32⟩
  | 92 => ⟨S3x5x2048x30x1, .f32⟩
  | 93 => ⟨S3x5x2048x30x96, .f32⟩
  | 94 => ⟨S3x5x2048x30x96, .f32⟩
  | 95 => ⟨S30, .f32⟩
  | 96 => ⟨S30, .f32⟩
  | 97 => ⟨S_, .f32⟩
  | 98 => ⟨S30, .f32⟩
  | 99 => ⟨S30, .f32⟩
  | 100 => ⟨S_, .f32⟩
  | 101 => ⟨S30, .f32⟩
  | 102 => ⟨S30, .f32⟩
  | 103 => ⟨S30x1, .f32⟩
  | 104 => ⟨S1x1x1x30x1, .f32⟩
  | 105 => ⟨S3x5x2048x30x96, .f32⟩
  | 106 => ⟨S3x5x2048x30x96, .f32⟩
  | 107 => ⟨S_, .f32⟩
  | 108 => ⟨S30x1, .f32⟩
  | 109 => ⟨S30x1, .f32⟩
  | 110 => ⟨S1x1x1x30x1, .f32⟩
  | 111 => ⟨S3x5x2048x30x96, .f32⟩
  | 112 => ⟨S3x5x2048x30x96, .f32⟩
  | 113 => ⟨S3x5x2048x30x96, .f32⟩
  | 114 => ⟨S3x10240x30x96, .f32⟩
  | 115 => ⟨S3x30x96x10240, .f32⟩
  | 116 => ⟨S3x30x96x10240, .bf16⟩
  | _ => ⟨S3x10240x30x96, .i8⟩

abbrev hbmTy (i : Nat) : BufTy := match i / 128 with
  | 0 => hbmTy0_0 i
  | 1 => hbmTy0_1 i
  | _ => ⟨S3x10240x30x96, .i8⟩

abbrev bufTy : (tb : Table) → Fin (tcTables nBuf tb) → BufTy
  | .hbm, ⟨i, _⟩ => hbmTy i
  | .local _ .vmem, ⟨0, _⟩ => ⟨S3x10240x30x96, .fp8e4m3⟩
  | .local _ .vmem, ⟨1, _⟩ => ⟨S3x10240x30x96, .fp8e4m3⟩
  | .local _ .vmem, ⟨2, _⟩ => ⟨S3x10240x30x96, .fp8e4m3⟩
  | .local _ .vmem, ⟨3, _⟩ => ⟨S3x10240x30x96, .f32⟩
  | .local _ .vmem, ⟨4, _⟩ => ⟨S3x10240x30x96, .f32⟩
  | .local _ .vmem, ⟨5, _⟩ => ⟨S3x10240x30x96, .f32⟩
  | _, _ => ⟨S3x10240x30x96, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_0 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v25 : Ref sig .tc := ⟨.hbm, 41, rfl⟩
abbrev main_cst_1 : Ref sig .tc := ⟨.hbm, 42, rfl⟩
abbrev main_v26 : Ref sig .tc := ⟨.hbm, 43, rfl⟩
abbrev main_cst_2 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_5 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_6 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_7 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_cst_8 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_cst_9 : Ref sig .tc := ⟨.hbm, 167, rfl⟩
abbrev main_v143 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_cst_10 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_cst_11 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_cst_12 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_cst_13 : Ref sig .tc := ⟨.hbm, 225, rfl⟩
abbrev main_v197 : Ref sig .tc := ⟨.hbm, 226, rfl⟩
abbrev main_v198 : Ref sig .tc := ⟨.hbm, 227, rfl⟩
abbrev main_cst_14 : Ref sig .tc := ⟨.hbm, 228, rfl⟩
abbrev main_v199 : Ref sig .tc := ⟨.hbm, 229, rfl⟩
abbrev main_v200 : Ref sig .tc := ⟨.hbm, 230, rfl⟩
abbrev main_v201 : Ref sig .tc := ⟨.hbm, 231, rfl⟩
abbrev main_v202 : Ref sig .tc := ⟨.hbm, 232, rfl⟩
abbrev main_v203 : Ref sig .tc := ⟨.hbm, 233, rfl⟩
abbrev main_v204 : Ref sig .tc := ⟨.hbm, 234, rfl⟩
abbrev main_cst_15 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_v211 : Ref sig .tc := ⟨.hbm, 242, rfl⟩
abbrev main_v212 : Ref sig .tc := ⟨.hbm, 243, rfl⟩
abbrev main_v213 : Ref sig .tc := ⟨.hbm, 244, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S3x10240x30x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x10240x30x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x10240x30x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x10240x30x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x10240x30x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x10240x30x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Kernel.Trip.lean ====
/-
  One trip of the head loop, run once on symbolic contents: what it writes into the output block, the final memory, the
  final normaliser and the carried scratch, as functions of the input blocks and of what the scratch held.
-/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev 𝒱₀ : Variants := Variants.none

section
variable (c : Dev nD) (i : grid0.Coords)
  (arg3 : Memref sig .tc .smem S3x5x30 .f32) (harg3 : arg3.IsWhole) (arg4 : Memref sig .tc .smem S30 .f32) (harg4 : arg4.IsWhole) (arg5 : Memref sig .tc .vmem S1x6x96x2048 .fp8e4m3) (harg5 : arg5.IsWhole) (arg6 : Memref sig .tc .vmem S1x6x96x2048 .fp8e4m3) (harg6 : arg6.IsWhole) (arg7 : Memref sig .tc .vmem S1x6x96x2048 .fp8e4m3) (harg7 : arg7.IsWhole) (arg8 : Memref sig .tc .vmem S1x30x2048 .f32) (harg8 : arg8.IsWhole) (arg9 : Memref sig .tc .vmem S1x30x2048 .f32) (harg9 : arg9.IsWhole) (arg10 : Memref sig .tc .vmem S1x30x96x96 .f32) (harg10 : arg10.IsWhole) (arg11 : Memref sig .tc .vmem S1x30x96 .f32) (harg11 : arg11.IsWhole)
  (arg12 : Memref sig .tc .vmem S1x6x96x2048 .bf16) (harg12 : arg12.IsWhole) (arg13 : Memref sig .tc .vmem S1x30x96x96 .f32) (harg13 : arg13.IsWhole) (arg14 : Memref sig .tc .vmem S1x30x96 .f32) (harg14 : arg14.IsWhole) (arg15 : Memref sig .tc .vmem S30x96x128 .f32) (harg15 : arg15.IsWhole) (arg16 : Memref sig .tc .vmem S2048x96 .fp8e4m3) (harg16 : arg16.IsWhole) (arg17 : Memref sig .tc .vmem S2048x128 .f32) (harg17 : arg17.IsWhole) (arg18 : Memref sig .tc .vmem S96x2048 .bf16) (harg18 : arg18.IsWhole) (arg0 arg1 arg2 : BitVec 32)
  (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ))) (X11 : Buf (Elt F) (arg11.view.loc (c : Thread nD τ)))

/-- What a trip holds. -/
abbrev Trip (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) : sProp (MT nD τ sig Unit (Elt F) ℕ (UR sig nD τ) ℕ) :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f))

set_option maxHeartbeats 4000000 in
/-- One trip: U. -/
@[irreducible] def tripU  (k : Fin k0_t1_loop.trips) :
    Σ' (L12 : Buf (Elt F) (arg15.view.loc (c : Thread nD τ)) → List (View.Piece (Elt F) S1x6x96x2048 .bf16))
      (C13 : Buf (Elt F) (arg13.view.loc (c : Thread nD τ)) → Buf (Elt F) (arg15.view.loc (c : Thread nD τ)) → Buf (Elt F) (arg13.view.loc (c : Thread nD τ)))
      (C14 : Buf (Elt F) (arg14.view.loc (c : Thread nD τ)) → Buf (Elt F) (arg15.view.loc (c : Thread nD τ)) → Buf (Elt F) (arg14.view.loc (c : Thread nD τ))),
      { C15 : Buf (Elt F) (arg15.view.loc (c : Thread nD τ)) → Buf (Elt F) (arg15.view.loc (c : Thread nD τ)) //
        ∀ (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))),
        Trip c arg3 arg4 arg5 arg6 arg7 arg8 arg9 arg10 arg11 arg12 arg13 arg14 arg15 arg16 arg17 arg18 X3 X4 X5 X6 X7 X8 X9 X10 X11 f12 f13 f14 f15
          ⊢ wp frame (wpE (defs₀ (F := F)) 𝒱₀ (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 arg2 k ())
            (fun _ => Trip c arg3 arg4 arg5 arg6 arg7 arg8 arg9 arg10 arg11 arg12 arg13 arg14 arg15 arg16 arg17 arg18 X3 X4 X5 X6 X7 X8 X9 X10 X11
              (arg12.view.writes (Elt F) f12 (L12 f15)) (C13 f13 f15) (C14 f14 f15) (C15 f15)) } := by
  refine ⟨?_, ?_, ?_, ?_, fun f12 f13 f14 f15 => ?run⟩
  case run =>
    unfold k0_t1_body
    iintro ⟨H3, H4, H5, H6, H7, H8, H9, H10, H11, H12, H13, H14, H15, ⟨%f16, H16⟩, ⟨%f17, H17⟩, ⟨%f18, H18⟩⟩
    sl_exec
    sl_step
    sl_close

end

end Cert.Kernel.Hand
-- ==== Proof.Kernel.Body.lean ====
/-
  One grid point of the kernel, run: its six loop trips, one head each. `st k` is what the output blocks and the carried
  scratch hold after `k` trips, by recursion from what they held before the first (Trip.lean says what one trip does).
-/
module

public import proofs.«01_k».proof.Proof.Kernel.Trip

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (c : Dev nD) (i : grid0.Coords)
  (arg3 : Memref sig .tc .smem S3x5x30 .f32) (harg3 : arg3.IsWhole) (arg4 : Memref sig .tc .smem S30 .f32) (harg4 : arg4.IsWhole) (arg5 : Memref sig .tc .vmem S1x6x96x2048 .fp8e4m3) (harg5 : arg5.IsWhole) (arg6 : Memref sig .tc .vmem S1x6x96x2048 .fp8e4m3) (harg6 : arg6.IsWhole) (arg7 : Memref sig .tc .vmem S1x6x96x2048 .fp8e4m3) (harg7 : arg7.IsWhole) (arg8 : Memref sig .tc .vmem S1x30x2048 .f32) (harg8 : arg8.IsWhole) (arg9 : Memref sig .tc .vmem S1x30x2048 .f32) (harg9 : arg9.IsWhole) (arg10 : Memref sig .tc .vmem S1x30x96x96 .f32) (harg10 : arg10.IsWhole) (arg11 : Memref sig .tc .vmem S1x30x96 .f32) (harg11 : arg11.IsWhole)
  (arg12 : Memref sig .tc .vmem S1x6x96x2048 .bf16) (harg12 : arg12.IsWhole) (arg13 : Memref sig .tc .vmem S1x30x96x96 .f32) (harg13 : arg13.IsWhole) (arg14 : Memref sig .tc .vmem S1x30x96 .f32) (harg14 : arg14.IsWhole) (arg15 : Memref sig .tc .vmem S30x96x128 .f32) (harg15 : arg15.IsWhole) (arg16 : Memref sig .tc .vmem S2048x96 .fp8e4m3) (harg16 : arg16.IsWhole) (arg17 : Memref sig .tc .vmem S2048x128 .f32) (harg17 : arg17.IsWhole) (arg18 : Memref sig .tc .vmem S96x2048 .bf16) (harg18 : arg18.IsWhole)
  (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ))) (X11 : Buf (Elt F) (arg11.view.loc (c : Thread nD τ)))

/-- The contents of the three output blocks and of the carried scratch. -/
abbrev St (c : Dev nD) (arg12 : Memref sig .tc .vmem S1x6x96x2048 .bf16) (arg13 : Memref sig .tc .vmem S1x30x96x96 .f32)
    (arg14 : Memref sig .tc .vmem S1x30x96 .f32) (arg15 : Memref sig .tc .vmem S30x96x128 .f32) : Type :=
  (Buf (Elt F) (arg12.view.loc (c : Thread nD τ))) × (Buf (Elt F) (arg13.view.loc (c : Thread nD τ))) × (Buf (Elt F) (arg14.view.loc (c : Thread nD τ))) × (Buf (Elt F) (arg15.view.loc (c : Thread nD τ)))

/-- What one trip makes of them. -/
def stepSt (k : Fin k0_t1_loop.trips) (s : St (F := F) c arg12 arg13 arg14 arg15) : St (F := F) c arg12 arg13 arg14 arg15 :=
  (arg12.view.writes (Elt F) s.1 ((tripU (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).1 s.2.2.2), (tripU (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).2.1 s.2.1 s.2.2.2, (tripU (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).2.2.1 s.2.2.1 s.2.2.2,
    (tripU (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).2.2.2.1 s.2.2.2)

/-- What `k` trips make of them. -/
def st (s₀ : St (F := F) c arg12 arg13 arg14 arg15) : ℕ → St (F := F) c arg12 arg13 arg14 arg15
  | 0 => s₀
  | k + 1 => if h : k < k0_t1_loop.trips then stepSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 ⟨k, h⟩ (st s₀ k) else st s₀ k

theorem st_succ (s₀ : St (F := F) c arg12 arg13 arg14 arg15) (k : Fin k0_t1_loop.trips) :
    st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ (k.val + 1) = stepSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 k (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k.val) := by
  rw [st, dif_pos k.isLt]

set_option warn.classDefReducibility false in
/-- The loop's invariant: the state after the trips run so far. -/
@[sl_loop] def loopInv (s₀ : St (F := F) c arg12 arg13 arg14 arg15) :
    LoopInvTy_k0_t1 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) where
  inv k _ := Trip c arg3 arg4 arg5 arg6 arg7 arg8 arg9 arg10 arg11 arg12 arg13 arg14 arg15 arg16 arg17 arg18 X3 X4 X5 X6 X7 X8 X9 X10 X11 (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k).1 (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k).2.1 (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k).2.2.1 (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k).2.2.2
  step k _ := by
    iintro H
    iapply (wp_wand_r Idealize.ShloMosaic.frame (wpE (defs₀ (F := F)) 𝒱₀ (c : Thread nD τ) none) Set.univ)
    isplitl [H]
    · iapply ((tripU (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).2.2.2.2 _ _ _ _); iexact H
    · iintro %_ H'
      rw [st_succ]
      iexact H'

/-- The grid point's triple. -/
theorem kernelRun (s₀ : St (F := F) c arg12 arg13 arg14 arg15) :
    Trip c arg3 arg4 arg5 arg6 arg7 arg8 arg9 arg10 arg11 arg12 arg13 arg14 arg15 arg16 arg17 arg18 X3 X4 X5 X6 X7 X8 X9 X10 X11 s₀.1 s₀.2.1 s₀.2.2.1 s₀.2.2.2
      ⊢ wp frame (wpE (defs₀ (F := F)) 𝒱₀ (c : Thread nD τ) none) Set.univ (cc0_infini_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => Trip c arg3 arg4 arg5 arg6 arg7 arg8 arg9 arg10 arg11 arg12 arg13 arg14 arg15 arg16 arg17 arg18 X3 X4 X5 X6 X7 X8 X9 X10 X11 (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k0_t1_loop.trips).1 (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k0_t1_loop.trips).2.1 (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k0_t1_loop.trips).2.2.1 (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k0_t1_loop.trips).2.2.2) := by
  simp only [cc0_infini_attention_eq_skeleton]
  unfold cc0_infini_attention_skel
  let L := loopInv c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀
  iintro ⟨H3, H4, H5, H6, H7, H8, H9, H10, H11, H12, H13, H14, H15, ⟨%f16, H16⟩, ⟨%f17, H17⟩, ⟨%f18, H18⟩⟩
  sl_exec
  sl_step
  sl_close
end

end Cert.Kernel.Hand
-- ==== Proof.Kernel.Launch.lean ====
/-
  The launch. The proof data are relational: `R w t` relates what the body is handed in window `w`'s buffer at point `t` to
  what it leaves there, `S t` says what the carried scratch holds before point `t`. If every point's run respects them
  (`Ok`), the whole program runs, and ends with arrays the relations allow.
-/
module

public import proofs.«01_k».proof.Proof.Kernel.Body
public import Idealize.ShloMosaic.Lib.Pipeline.Frame
public import Idealize.ShloMosaic.Lib.Pipeline.ArrRel

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

variable (m : (ℓ : Loc nD τ sig) → Buf (Elt F) ℓ) (ρ : Dev nD → PrngReg)

/-- What the body may leave in a window's buffer, given what it found there. -/
abbrev RelW (F : FTy → Type) : Type := (w : Fin cfg0.W) → Fin cfg0.N → (Y X : (cfg0.win w).block.Idx → Elt F (cfg0.win w).elt) → Prop
/-- What the carried scratch holds before a point. -/
abbrev RelS (F : FTy → Type) : Type := Fin (cfg0.N + 1) → Vec F S30x96x128 .f32 → Prop

/-- The invariant between points: the four scratch buffers, the carried one constrained, and the generator's register. -/
def PhiS (S : RelS F) (c : Dev nD) (t : Fin (cfg0.N + 1)) : sProp (MT nD τ sig Unit (Elt F) ℕ (UR sig nD τ) ℕ) :=
  iprop(((∃ d, ⌜S t d⌝ ∗ owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d) ∗ (∃ d, owns (c : Thread nD τ) (Memref.whole cc0_scratch3) fullShare d)) ∗ ∃ r, prngReg c r)

/-- The proof data. -/
def rdat (R : RelW F) (S : RelS F) (c : Dev nD) : RDat τ (Elt F) Unit ℕ (UR sig nD τ) ℕ cfg0 c where
  A w := V m c (Pipeline.arrRef spec0 w)
  after w t Y X := R w t Y X
  Φ t := PhiS S c t
  q _ := fullShare
  owed _ := 0

/-- The blocks and the scratch after point `t`'s run. -/
abbrev stAt (c : Dev nD) (t : Fin cfg0.N) (f0 : Buf (Elt F) ((win0_0.stage (cfg0.slots t 0)).view.loc (c : Thread nD τ))) (f1 : Buf (Elt F) ((win0_1.stage (cfg0.slots t 1)).view.loc (c : Thread nD τ))) (f2 : Buf (Elt F) ((win0_2.stage (cfg0.slots t 2)).view.loc (c : Thread nD τ))) (f3 : Buf (Elt F) ((win0_3.stage (cfg0.slots t 3)).view.loc (c : Thread nD τ))) (f4 : Buf (Elt F) ((win0_4.stage (cfg0.slots t 4)).view.loc (c : Thread nD τ))) (f5 : Buf (Elt F) ((win0_5.stage (cfg0.slots t 5)).view.loc (c : Thread nD τ))) (f6 : Buf (Elt F) ((win0_6.stage (cfg0.slots t 6)).view.loc (c : Thread nD τ))) (f7 : Buf (Elt F) ((win0_7.stage (cfg0.slots t 7)).view.loc (c : Thread nD τ))) (f8 : Buf (Elt F) ((win0_8.stage (cfg0.slots t 8)).view.loc (c : Thread nD τ)))
    (s : St (F := F) c (win0_9.stage (cfg0.slots t 9)) (win0_10.stage (cfg0.slots t 10)) (win0_11.stage (cfg0.slots t 11)) (Memref.whole cc0_scratch0)) : St (F := F) c (win0_9.stage (cfg0.slots t 9)) (win0_10.stage (cfg0.slots t 10)) (win0_11.stage (cfg0.slots t 11)) (Memref.whole cc0_scratch0) :=
  st (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) f0 f1 f2 f3 f4 f5 f6 f7 f8 s k0_t1_loop.trips

/-- Every point's run respects the relations. -/
def Ok (R : RelW F) (S : RelS F) (c : Dev nD) : Prop :=
  ∀ (t : Fin cfg0.N) (Y : (w : Fin cfg0.W) → (cfg0.win w).block.Idx → Elt F (cfg0.win w).elt), (∀ w, (rdat m R S c).Finds w t (Y w)) →
    ∀ (f0 : Buf (Elt F) ((win0_0.stage (cfg0.slots t 0)).view.loc (c : Thread nD τ))) (f1 : Buf (Elt F) ((win0_1.stage (cfg0.slots t 1)).view.loc (c : Thread nD τ))) (f2 : Buf (Elt F) ((win0_2.stage (cfg0.slots t 2)).view.loc (c : Thread nD τ))) (f3 : Buf (Elt F) ((win0_3.stage (cfg0.slots t 3)).view.loc (c : Thread nD τ))) (f4 : Buf (Elt F) ((win0_4.stage (cfg0.slots t 4)).view.loc (c : Thread nD τ))) (f5 : Buf (Elt F) ((win0_5.stage (cfg0.slots t 5)).view.loc (c : Thread nD τ))) (f6 : Buf (Elt F) ((win0_6.stage (cfg0.slots t 6)).view.loc (c : Thread nD τ))) (f7 : Buf (Elt F) ((win0_7.stage (cfg0.slots t 7)).view.loc (c : Thread nD τ))) (f8 : Buf (Elt F) ((win0_8.stage (cfg0.slots t 8)).view.loc (c : Thread nD τ))) (f9 : Buf (Elt F) ((win0_9.stage (cfg0.slots t 9)).view.loc (c : Thread nD τ))) (f10 : Buf (Elt F) ((win0_10.stage (cfg0.slots t 10)).view.loc (c : Thread nD τ))) (f11 : Buf (Elt F) ((win0_11.stage (cfg0.slots t 11)).view.loc (c : Thread nD τ)))
      (f15 : Buf (Elt F) ((Memref.whole cc0_scratch0).view.loc (c : Thread nD τ))), (win0_0.stage (cfg0.slots t 0)).view.read (Elt F) f0 = Y 0 → (win0_1.stage (cfg0.slots t 1)).view.read (Elt F) f1 = Y 1 → (win0_2.stage (cfg0.slots t 2)).view.read (Elt F) f2 = Y 2 → (win0_3.stage (cfg0.slots t 3)).view.read (Elt F) f3 = Y 3 → (win0_4.stage (cfg0.slots t 4)).view.read (Elt F) f4 = Y 4 → (win0_5.stage (cfg0.slots t 5)).view.read (Elt F) f5 = Y 5 → (win0_6.stage (cfg0.slots t 6)).view.read (Elt F) f6 = Y 6 → (win0_7.stage (cfg0.slots t 7)).view.read (Elt F) f7 = Y 7 → (win0_8.stage (cfg0.slots t 8)).view.read (Elt F) f8 = Y 8 → (win0_9.stage (cfg0.slots t 9)).view.read (Elt F) f9 = Y 9 → (win0_10.stage (cfg0.slots t 10)).view.read (Elt F) f10 = Y 10 → (win0_11.stage (cfg0.slots t 11)).view.read (Elt F) f11 = Y 11 →
    S t.castSucc ((Memref.whole cc0_scratch0).view.read (Elt F) f15) →
    S t.succ ((Memref.whole cc0_scratch0).view.read (Elt F) (stAt c t f0 f1 f2 f3 f4 f5 f6 f7 f8 (f9, f10, f11, f15)).2.2.2) ∧ R 0 t (Y 0) (Y 0) ∧ R 1 t (Y 1) (Y 1) ∧ R 2 t (Y 2) (Y 2) ∧ R 3 t (Y 3) (Y 3) ∧ R 4 t (Y 4) (Y 4) ∧ R 5 t (Y 5) (Y 5) ∧ R 6 t (Y 6) (Y 6) ∧ R 7 t (Y 7) (Y 7) ∧ R 8 t (Y 8) (Y 8) ∧ R 9 t (Y 9) ((win0_9.stage (cfg0.slots t 9)).view.read (Elt F) (stAt c t f0 f1 f2 f3 f4 f5 f6 f7 f8 (f9, f10, f11, f15)).1) ∧ R 10 t (Y 10) ((win0_10.stage (cfg0.slots t 10)).view.read (Elt F) (stAt c t f0 f1 f2 f3 f4 f5 f6 f7 f8 (f9, f10, f11, f15)).2.1) ∧ R 11 t (Y 11) ((win0_11.stage (cfg0.slots t 11)).view.read (Elt F) (stAt c t f0 f1 f2 f3 f4 f5 f6 f7 f8 (f9, f10, f11, f15)).2.2.1)

variable (R : RelW F) (S : RelS F)

set_option maxHeartbeats 2000000 in
theorem sound_body (c : Dev nD) (hok : Ok m R S c) (t : Fin cfg0.N) (Y : (w : Fin cfg0.W) → (cfg0.win w).block.Idx → Elt F (cfg0.win w).elt)
    (hY : ∀ w, (rdat m R S c).Finds w t (Y w)) :
    iprop((rdat m R S c).Φ t.castSucc ∗ (rdat m R S c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7)
    ∗ owns (c : Thread nD τ) (st0_8 t) fullShare (Y 8)
    ∗ owns (c : Thread nD τ) (st0_9 t) fullShare (Y 9)
    ∗ owns (c : Thread nD τ) (st0_10 t) fullShare (Y 10)
    ∗ owns (c : Thread nD τ) (st0_11 t) fullShare (Y 11))
    ⊢ wp frame (wpE (defs₀ (F := F)) Variants.none c none) Set.univ (bodyAt0 t) (fun _ =>
      iprop((rdat m R S c).Φ t.succ ∗ (rdat m R S c).owesAt () t.succ
    ∗ (∃ X, ⌜R 0 t (Y 0) X⌝ ∗ owns (c : Thread nD τ) (st0_0 t) fullShare X)
    ∗ (∃ X, ⌜R 1 t (Y 1) X⌝ ∗ owns (c : Thread nD τ) (st0_1 t) fullShare X)
    ∗ (∃ X, ⌜R 2 t (Y 2) X⌝ ∗ owns (c : Thread nD τ) (st0_2 t) fullShare X)
    ∗ (∃ X, ⌜R 3 t (Y 3) X⌝ ∗ owns (c : Thread nD τ) (st0_3 t) fullShare X)
    ∗ (∃ X, ⌜R 4 t (Y 4) X⌝ ∗ owns (c : Thread nD τ) (st0_4 t) fullShare X)
    ∗ (∃ X, ⌜R 5 t (Y 5) X⌝ ∗ owns (c : Thread nD τ) (st0_5 t) fullShare X)
    ∗ (∃ X, ⌜R 6 t (Y 6) X⌝ ∗ owns (c : Thread nD τ) (st0_6 t) fullShare X)
    ∗ (∃ X, ⌜R 7 t (Y 7) X⌝ ∗ owns (c : Thread nD τ) (st0_7 t) fullShare X)
    ∗ (∃ X, ⌜R 8 t (Y 8) X⌝ ∗ owns (c : Thread nD τ) (st0_8 t) fullShare X)
    ∗ (∃ X, ⌜R 9 t (Y 9) X⌝ ∗ owns (c : Thread nD τ) (st0_9 t) fullShare X)
    ∗ (∃ X, ⌜R 10 t (Y 10) X⌝ ∗ owns (c : Thread nD τ) (st0_10 t) fullShare X)
    ∗ (∃ X, ⌜R 11 t (Y 11) X⌝ ∗ owns (c : Thread nD τ) (st0_11 t) fullShare X))) := by
  unfold bodyAt0
  rw [show (rdat m R S c).owesAt () t.succ = (rdat m R S c).owesAt () t.castSucc from rfl,
    show (rdat m R S c).Φ t.succ = PhiS S c t.succ from rfl, show (rdat m R S c).Φ t.castSucc = PhiS S c t.castSucc from rfl]
  unfold PhiS owns
  iintro ⟨⟨⟨⟨%d15, %hS, %f15, %h15, H15⟩, ⟨%d16, %f16, -, H16⟩, ⟨%d17, %f17, -, H17⟩, ⟨%d18, %f18, -, H18⟩⟩, Hg⟩, Ho, ⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩⟩
  subst h15
  obtain ⟨hS', hR0, hR1, hR2, hR3, hR4, hR5, hR6, hR7, hR8, hR9, hR10, hR11⟩ := hok t Y hY f0 f1 f2 f3 f4 f5 f6 f7 f8 f9 f10 f11 f15 h0 h1 h2 h3 h4 h5 h6 h7 h8 h9 h10 h11 hS
  iapply (wp_wand_r Idealize.ShloMosaic.frame (wpE (defs₀ (F := F)) 𝒱₀ (c : Thread nD τ) none) Set.univ)
  isplitl [H0 H1 H2 H3 H4 H5 H6 H7 H8 H9 H10 H11 H15 H16 H17 H18]
  · iapply (kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) f0 f1 f2 f3 f4 f5 f6 f7 f8 (f9, f10, f11, f15))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H15]; · iexact H15
    isplitl [H16]; · iexists _; iexact H16
    isplitl [H17]; · iexists _; iexact H17
    iexists _; iexact H18
  · iintro %_ ⟨H0, H1, H2, H3, H4, H5, H6, H7, H8, H9, H10, H11, H15, ⟨%f16, H16⟩, ⟨%f17, H17⟩, ⟨%f18, H18⟩⟩
    isplitl [H15 H16 H17 H18 Hg]
    · isplitl [H15 H16 H17 H18]
      · isplitl [H15]
        · iexists _; isplitr
          · ipureintro; exact hS'
          · iexists _; isplitr; swap; · iexact H15
            ipureintro; rfl
        isplitl [H16]
        · iexists _, _; isplitr; swap; · iexact H16
          ipureintro; rfl
        isplitl [H17]
        · iexists _, _; isplitr; swap; · iexact H17
          ipureintro; rfl
        iexists _, _; isplitr; swap; · iexact H18
        ipureintro; rfl
      · iexact Hg
    isplitl [Ho]; · iexact Ho
    isplitl [H0]
    · iexists _; isplitr
      · ipureintro; exact hR0
      · iexists _; isplitr; swap; · iexact H0
        ipureintro; exact h0
    isplitl [H1]
    · iexists _; isplitr
      · ipureintro; exact hR1
      · iexists _; isplitr; swap; · iexact H1
        ipureintro; exact h1
    isplitl [H2]
    · iexists _; isplitr
      · ipureintro; exact hR2
      · iexists _; isplitr; swap; · iexact H2
        ipureintro; exact h2
    isplitl [H3]
    · iexists _; isplitr
      · ipureintro; exact hR3
      · iexists _; isplitr; swap; · iexact H3
        ipureintro; exact h3
    isplitl [H4]
    · iexists _; isplitr
      · ipureintro; exact hR4
      · iexists _; isplitr; swap; · iexact H4
        ipureintro; exact h4
    isplitl [H5]
    · iexists _; isplitr
      · ipureintro; exact hR5
      · iexists _; isplitr; swap; · iexact H5
        ipureintro; exact h5
    isplitl [H6]
    · iexists _; isplitr
      · ipureintro; exact hR6
      · iexists _; isplitr; swap; · iexact H6
        ipureintro; exact h6
    isplitl [H7]
    · iexists _; isplitr
      · ipureintro; exact hR7
      · iexists _; isplitr; swap; · iexact H7
        ipureintro; exact h7
    isplitl [H8]
    · iexists _; isplitr
      · ipureintro; exact hR8
      · iexists _; isplitr; swap; · iexact H8
        ipureintro; exact h8
    isplitl [H9]
    · iexists _; isplitr
      · ipureintro; exact hR9
      · iexists _; isplitr; swap; · iexact H9
        ipureintro; rfl
    isplitl [H10]
    · iexists _; isplitr
      · ipureintro; exact hR10
      · iexists _; isplitr; swap; · iexact H10
        ipureintro; rfl
    iexists _; isplitr
    · ipureintro; exact hR11
    · iexists _; isplitr; swap; · iexact H11
      ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) (hok : Ok m R S c) :
    (rdat m R S c).BodyObligation (defs₀ (F := F)) Variants.none () Set.univ := fun t Y hY => by
  rw [bigSep_W0, bigSep_W0, defs₀_row]
  exact sound_body m R S c hok t Y hY

theorem PhiS_in (hS : ∀ d, S 0 d) (c : Dev nD) : Pipeline.ΦA spec0 c ⊢ PhiS S c 0 := by
  unfold Pipeline.ΦA PhiS
  rw [scopedRest0_eq]
  simp only [owns_whole]
  iintro ⟨⟨⟨%d, H⟩, Hr⟩, Hg⟩
  isplitr [Hg]; swap; · iexact Hg
  isplitl [H]
  · iexists d; isplitr
    · ipureintro; exact hS d
    · iexact H
  iexact Hr

theorem PhiS_out (c : Dev nD) (t) : PhiS S c t ⊢ Pipeline.ΦA spec0 c := by
  unfold Pipeline.ΦA PhiS
  rw [scopedRest0_eq]
  simp only [owns_whole]
  iintro ⟨⟨⟨%d, -, H⟩, Hr⟩, Hg⟩
  isplitr [Hg]; swap; · iexact Hg
  isplitl [H]
  · iexists d; iexact H
  iexact Hr

set_option backward.isDefEq.respectTransparency.types false in
/-- The run: from any memory with zero counters, every fair execution ends, every counter at zero and every array at
    something that the relations allow. -/
theorem run_main (hok : ∀ c, Ok m R S c) (hS : ∀ d, S 0 d) :
    θ_run defs (onTc (τ := τ) (main (F := F))) (s₀ m ρ)
      (fun r => RDat.FramePost (cfgs 0) (rdat m R S) (V m) r ∧ r.2.sem = fun _ => 0) :=
  RDat.θ_run_frame_track (Q' := _) cfgs (0 : Fin 1) launch0 defs₀ Variants.none (rdat m R S) m ρ main
    (hbody := fun c => body_obligation m R S c (hok c)) (hshare := fun c => (rdat m R S c).share_full fun _ => rfl)
    (howed := fun _ _ => rfl) (V := V m) (hmain := hmain m Variants.none) (hA := fun _ _ => rfl)
    (hin := fun c => PhiS_in S hS c) (hout := fun c => PhiS_out S c _)

/-- The relations that say nothing. -/
abbrev R₀ : RelW F := fun _ _ _ _ => True
abbrev S₀ : RelS F := fun _ _ => True

variable {m R S}
/-- Whatever the relations, the argument arrays end as they began. -/
theorem args_kept {r : PUnit × MemSt nD τ sig (Elt F)} (h : RDat.FramePost (cfgs 0) (rdat m R S) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (RDat.FramePost.arr_in h c 0 rfl).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (RDat.FramePost.arr_in h c 7 rfl).trans (V_main_arg6 m c),
      (RDat.FramePost.arr_in h c 8 rfl).trans (V_main_arg7 m c),
      (RDat.FramePost.arr_in h c 1 rfl).trans (V_main_arg8 m c)⟩

theorem ok₀ (c : Dev nD) : Ok m R₀ S₀ c := by
  unfold Ok; intros; exact ⟨trivial, trivial, trivial, trivial, trivial, trivial, trivial, trivial, trivial, trivial, trivial, trivial, trivial⟩

variable (m)
/-- The frame: the program runs, its arguments end as they began, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => args_kept h.1 c, h.2⟩) (run_main m ρ R₀ S₀ (ok₀ (m := m)) fun _ => trivial)

end Cert.Kernel.Hand
-- ==== Proof.KernelIdeal.Trip.lean ====
/-
  One trip of the head loop, run once on symbolic contents: what it writes into the output block, the final memory, the
  final normaliser and the carried scratch, as functions of the input blocks and of what the scratch held.
-/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev 𝒱₀ : Variants := Variants.none

section
variable (c : Dev nD) (i : grid0.Coords)
  (arg3 : Memref sig .tc .smem S3x5x30 .f32) (harg3 : arg3.IsWhole) (arg4 : Memref sig .tc .smem S30 .f32) (harg4 : arg4.IsWhole) (arg5 : Memref sig .tc .vmem S1x6x96x2048 .fp8e4m3) (harg5 : arg5.IsWhole) (arg6 : Memref sig .tc .vmem S1x6x96x2048 .fp8e4m3) (harg6 : arg6.IsWhole) (arg7 : Memref sig .tc .vmem S1x6x96x2048 .fp8e4m3) (harg7 : arg7.IsWhole) (arg8 : Memref sig .tc .vmem S1x30x2048 .f32) (harg8 : arg8.IsWhole) (arg9 : Memref sig .tc .vmem S1x30x2048 .f32) (harg9 : arg9.IsWhole) (arg10 : Memref sig .tc .vmem S1x30x96x96 .f32) (harg10 : arg10.IsWhole) (arg11 : Memref sig .tc .vmem S1x30x96 .f32) (harg11 : arg11.IsWhole)
  (arg12 : Memref sig .tc .vmem S1x6x96x2048 .bf16) (harg12 : arg12.IsWhole) (arg13 : Memref sig .tc .vmem S1x30x96x96 .f32) (harg13 : arg13.IsWhole) (arg14 : Memref sig .tc .vmem S1x30x96 .f32) (harg14 : arg14.IsWhole) (arg15 : Memref sig .tc .vmem S30x96x128 .f32) (harg15 : arg15.IsWhole) (arg16 : Memref sig .tc .vmem S2048x96 .fp8e4m3) (harg16 : arg16.IsWhole) (arg17 : Memref sig .tc .vmem S2048x128 .f32) (harg17 : arg17.IsWhole) (arg18 : Memref sig .tc .vmem S96x2048 .bf16) (harg18 : arg18.IsWhole) (arg0 arg1 arg2 : BitVec 32)
  (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ))) (X11 : Buf (Elt F) (arg11.view.loc (c : Thread nD τ)))

/-- What a trip holds. -/
abbrev Trip (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))) : sProp (MT nD τ sig Unit (Elt F) ℕ (UR sig nD τ) ℕ) :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (∃ f, arg16.view.loc (c : Thread nD τ) ↦[arg16.view.set]{fullShare} f) ∗ (∃ f, arg17.view.loc (c : Thread nD τ) ↦[arg17.view.set]{fullShare} f) ∗ (∃ f, arg18.view.loc (c : Thread nD τ) ↦[arg18.view.set]{fullShare} f))

set_option maxHeartbeats 4000000 in
/-- One trip: U. -/
@[irreducible] def tripU  (k : Fin k0_t1_loop.trips) :
    Σ' (L12 : Buf (Elt F) (arg15.view.loc (c : Thread nD τ)) → List (View.Piece (Elt F) S1x6x96x2048 .bf16))
      (C13 : Buf (Elt F) (arg13.view.loc (c : Thread nD τ)) → Buf (Elt F) (arg15.view.loc (c : Thread nD τ)) → Buf (Elt F) (arg13.view.loc (c : Thread nD τ)))
      (C14 : Buf (Elt F) (arg14.view.loc (c : Thread nD τ)) → Buf (Elt F) (arg15.view.loc (c : Thread nD τ)) → Buf (Elt F) (arg14.view.loc (c : Thread nD τ))),
      { C15 : Buf (Elt F) (arg15.view.loc (c : Thread nD τ)) → Buf (Elt F) (arg15.view.loc (c : Thread nD τ)) //
        ∀ (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))),
        Trip c arg3 arg4 arg5 arg6 arg7 arg8 arg9 arg10 arg11 arg12 arg13 arg14 arg15 arg16 arg17 arg18 X3 X4 X5 X6 X7 X8 X9 X10 X11 f12 f13 f14 f15
          ⊢ wp frame (wpE (defs₀ (F := F)) 𝒱₀ (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 arg1 arg2 k ())
            (fun _ => Trip c arg3 arg4 arg5 arg6 arg7 arg8 arg9 arg10 arg11 arg12 arg13 arg14 arg15 arg16 arg17 arg18 X3 X4 X5 X6 X7 X8 X9 X10 X11
              (arg12.view.writes (Elt F) f12 (L12 f15)) (C13 f13 f15) (C14 f14 f15) (C15 f15)) } := by
  refine ⟨?_, ?_, ?_, ?_, fun f12 f13 f14 f15 => ?run⟩
  case run =>
    unfold k0_t1_body
    iintro ⟨H3, H4, H5, H6, H7, H8, H9, H10, H11, H12, H13, H14, H15, ⟨%f16, H16⟩, ⟨%f17, H17⟩, ⟨%f18, H18⟩⟩
    sl_exec
    sl_step
    sl_close

end

end Cert.KernelIdeal.Hand
-- ==== Proof.KernelIdeal.Body.lean ====
/-
  One grid point of the kernel, run: its six loop trips, one head each. `st k` is what the output blocks and the carried
  scratch hold after `k` trips, by recursion from what they held before the first (Trip.lean says what one trip does).
-/
module

public import proofs.«01_k».proof.Proof.KernelIdeal.Trip

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable (c : Dev nD) (i : grid0.Coords)
  (arg3 : Memref sig .tc .smem S3x5x30 .f32) (harg3 : arg3.IsWhole) (arg4 : Memref sig .tc .smem S30 .f32) (harg4 : arg4.IsWhole) (arg5 : Memref sig .tc .vmem S1x6x96x2048 .fp8e4m3) (harg5 : arg5.IsWhole) (arg6 : Memref sig .tc .vmem S1x6x96x2048 .fp8e4m3) (harg6 : arg6.IsWhole) (arg7 : Memref sig .tc .vmem S1x6x96x2048 .fp8e4m3) (harg7 : arg7.IsWhole) (arg8 : Memref sig .tc .vmem S1x30x2048 .f32) (harg8 : arg8.IsWhole) (arg9 : Memref sig .tc .vmem S1x30x2048 .f32) (harg9 : arg9.IsWhole) (arg10 : Memref sig .tc .vmem S1x30x96x96 .f32) (harg10 : arg10.IsWhole) (arg11 : Memref sig .tc .vmem S1x30x96 .f32) (harg11 : arg11.IsWhole)
  (arg12 : Memref sig .tc .vmem S1x6x96x2048 .bf16) (harg12 : arg12.IsWhole) (arg13 : Memref sig .tc .vmem S1x30x96x96 .f32) (harg13 : arg13.IsWhole) (arg14 : Memref sig .tc .vmem S1x30x96 .f32) (harg14 : arg14.IsWhole) (arg15 : Memref sig .tc .vmem S30x96x128 .f32) (harg15 : arg15.IsWhole) (arg16 : Memref sig .tc .vmem S2048x96 .fp8e4m3) (harg16 : arg16.IsWhole) (arg17 : Memref sig .tc .vmem S2048x128 .f32) (harg17 : arg17.IsWhole) (arg18 : Memref sig .tc .vmem S96x2048 .bf16) (harg18 : arg18.IsWhole)
  (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ))) (X11 : Buf (Elt F) (arg11.view.loc (c : Thread nD τ)))

/-- The contents of the three output blocks and of the carried scratch. -/
abbrev St (c : Dev nD) (arg12 : Memref sig .tc .vmem S1x6x96x2048 .bf16) (arg13 : Memref sig .tc .vmem S1x30x96x96 .f32)
    (arg14 : Memref sig .tc .vmem S1x30x96 .f32) (arg15 : Memref sig .tc .vmem S30x96x128 .f32) : Type :=
  (Buf (Elt F) (arg12.view.loc (c : Thread nD τ))) × (Buf (Elt F) (arg13.view.loc (c : Thread nD τ))) × (Buf (Elt F) (arg14.view.loc (c : Thread nD τ))) × (Buf (Elt F) (arg15.view.loc (c : Thread nD τ)))

/-- What one trip makes of them. -/
def stepSt (k : Fin k0_t1_loop.trips) (s : St (F := F) c arg12 arg13 arg14 arg15) : St (F := F) c arg12 arg13 arg14 arg15 :=
  (arg12.view.writes (Elt F) s.1 ((tripU (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).1 s.2.2.2), (tripU (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).2.1 s.2.1 s.2.2.2, (tripU (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).2.2.1 s.2.2.1 s.2.2.2,
    (tripU (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).2.2.2.1 s.2.2.2)

/-- What `k` trips make of them. -/
def st (s₀ : St (F := F) c arg12 arg13 arg14 arg15) : ℕ → St (F := F) c arg12 arg13 arg14 arg15
  | 0 => s₀
  | k + 1 => if h : k < k0_t1_loop.trips then stepSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 ⟨k, h⟩ (st s₀ k) else st s₀ k

theorem st_succ (s₀ : St (F := F) c arg12 arg13 arg14 arg15) (k : Fin k0_t1_loop.trips) :
    st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ (k.val + 1) = stepSt c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 k (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k.val) := by
  rw [st, dif_pos k.isLt]

set_option warn.classDefReducibility false in
/-- The loop's invariant: the state after the trips run so far. -/
@[sl_loop] def loopInv (s₀ : St (F := F) c arg12 arg13 arg14 arg15) :
    LoopInvTy_k0_t1 (F := F) Unit ℕ (UR sig nD τ) ℕ 𝒱₀ c none Set.univ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) where
  inv k _ := Trip c arg3 arg4 arg5 arg6 arg7 arg8 arg9 arg10 arg11 arg12 arg13 arg14 arg15 arg16 arg17 arg18 X3 X4 X5 X6 X7 X8 X9 X10 X11 (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k).1 (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k).2.1 (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k).2.2.1 (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k).2.2.2
  step k _ := by
    iintro H
    iapply (wp_wand_r Idealize.ShloMosaic.frame (wpE (defs₀ (F := F)) 𝒱₀ (c : Thread nD τ) none) Set.univ)
    isplitl [H]
    · iapply ((tripU (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).2.2.2.2 _ _ _ _); iexact H
    · iintro %_ H'
      rw [st_succ]
      iexact H'

/-- The grid point's triple. -/
theorem kernelRun (s₀ : St (F := F) c arg12 arg13 arg14 arg15) :
    Trip c arg3 arg4 arg5 arg6 arg7 arg8 arg9 arg10 arg11 arg12 arg13 arg14 arg15 arg16 arg17 arg18 X3 X4 X5 X6 X7 X8 X9 X10 X11 s₀.1 s₀.2.1 s₀.2.2.1 s₀.2.2.2
      ⊢ wp frame (wpE (defs₀ (F := F)) 𝒱₀ (c : Thread nD τ) none) Set.univ (cc0_infini_attention (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => Trip c arg3 arg4 arg5 arg6 arg7 arg8 arg9 arg10 arg11 arg12 arg13 arg14 arg15 arg16 arg17 arg18 X3 X4 X5 X6 X7 X8 X9 X10 X11 (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k0_t1_loop.trips).1 (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k0_t1_loop.trips).2.1 (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k0_t1_loop.trips).2.2.1 (st c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ k0_t1_loop.trips).2.2.2) := by
  simp only [cc0_infini_attention_eq_skeleton]
  unfold cc0_infini_attention_skel
  let L := loopInv c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀
  iintro ⟨H3, H4, H5, H6, H7, H8, H9, H10, H11, H12, H13, H14, H15, ⟨%f16, H16⟩, ⟨%f17, H17⟩, ⟨%f18, H18⟩⟩
  sl_exec
  sl_step
  sl_close
end

end Cert.KernelIdeal.Hand
-- ==== Proof.KernelIdeal.Launch.lean ====
/-
  The launch. The proof data are relational: `R w t` relates what the body is handed in window `w`'s buffer at point `t` to
  what it leaves there, `S t` says what the carried scratch holds before point `t`. If every point's run respects them
  (`Ok`), the whole program runs, and ends with arrays the relations allow.
-/
module

public import proofs.«01_k».proof.Proof.KernelIdeal.Body
public import Idealize.ShloMosaic.Lib.Pipeline.Frame
public import Idealize.ShloMosaic.Lib.Pipeline.ArrRel

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F]

variable (m : (ℓ : Loc nD τ sig) → Buf (Elt F) ℓ) (ρ : Dev nD → PrngReg)

/-- What the body may leave in a window's buffer, given what it found there. -/
abbrev RelW (F : FTy → Type) : Type := (w : Fin cfg0.W) → Fin cfg0.N → (Y X : (cfg0.win w).block.Idx → Elt F (cfg0.win w).elt) → Prop
/-- What the carried scratch holds before a point. -/
abbrev RelS (F : FTy → Type) : Type := Fin (cfg0.N + 1) → Vec F S30x96x128 .f32 → Prop

/-- The invariant between points: the four scratch buffers, the carried one constrained, and the generator's register. -/
def PhiS (S : RelS F) (c : Dev nD) (t : Fin (cfg0.N + 1)) : sProp (MT nD τ sig Unit (Elt F) ℕ (UR sig nD τ) ℕ) :=
  iprop(((∃ d, ⌜S t d⌝ ∗ owns (c : Thread nD τ) (Memref.whole cc0_scratch0) fullShare d) ∗ (∃ d, owns (c : Thread nD τ) (Memref.whole cc0_scratch1) fullShare d)
    ∗ (∃ d, owns (c : Thread nD τ) (Memref.whole cc0_scratch2) fullShare d) ∗ (∃ d, owns (c : Thread nD τ) (Memref.whole cc0_scratch3) fullShare d)) ∗ ∃ r, prngReg c r)

/-- The proof data. -/
def rdat (R : RelW F) (S : RelS F) (c : Dev nD) : RDat τ (Elt F) Unit ℕ (UR sig nD τ) ℕ cfg0 c where
  A w := V m c (Pipeline.arrRef spec0 w)
  after w t Y X := R w t Y X
  Φ t := PhiS S c t
  q _ := fullShare
  owed _ := 0

/-- The blocks and the scratch after point `t`'s run. -/
abbrev stAt (c : Dev nD) (t : Fin cfg0.N) (f0 : Buf (Elt F) ((win0_0.stage (cfg0.slots t 0)).view.loc (c : Thread nD τ))) (f1 : Buf (Elt F) ((win0_1.stage (cfg0.slots t 1)).view.loc (c : Thread nD τ))) (f2 : Buf (Elt F) ((win0_2.stage (cfg0.slots t 2)).view.loc (c : Thread nD τ))) (f3 : Buf (Elt F) ((win0_3.stage (cfg0.slots t 3)).view.loc (c : Thread nD τ))) (f4 : Buf (Elt F) ((win0_4.stage (cfg0.slots t 4)).view.loc (c : Thread nD τ))) (f5 : Buf (Elt F) ((win0_5.stage (cfg0.slots t 5)).view.loc (c : Thread nD τ))) (f6 : Buf (Elt F) ((win0_6.stage (cfg0.slots t 6)).view.loc (c : Thread nD τ))) (f7 : Buf (Elt F) ((win0_7.stage (cfg0.slots t 7)).view.loc (c : Thread nD τ))) (f8 : Buf (Elt F) ((win0_8.stage (cfg0.slots t 8)).view.loc (c : Thread nD τ)))
    (s : St (F := F) c (win0_9.stage (cfg0.slots t 9)) (win0_10.stage (cfg0.slots t 10)) (win0_11.stage (cfg0.slots t 11)) (Memref.whole cc0_scratch0)) : St (F := F) c (win0_9.stage (cfg0.slots t 9)) (win0_10.stage (cfg0.slots t 10)) (win0_11.stage (cfg0.slots t 11)) (Memref.whole cc0_scratch0) :=
  st (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) f0 f1 f2 f3 f4 f5 f6 f7 f8 s k0_t1_loop.trips

/-- Every point's run respects the relations. -/
def Ok (R : RelW F) (S : RelS F) (c : Dev nD) : Prop :=
  ∀ (t : Fin cfg0.N) (Y : (w : Fin cfg0.W) → (cfg0.win w).block.Idx → Elt F (cfg0.win w).elt), (∀ w, (rdat m R S c).Finds w t (Y w)) →
    ∀ (f0 : Buf (Elt F) ((win0_0.stage (cfg0.slots t 0)).view.loc (c : Thread nD τ))) (f1 : Buf (Elt F) ((win0_1.stage (cfg0.slots t 1)).view.loc (c : Thread nD τ))) (f2 : Buf (Elt F) ((win0_2.stage (cfg0.slots t 2)).view.loc (c : Thread nD τ))) (f3 : Buf (Elt F) ((win0_3.stage (cfg0.slots t 3)).view.loc (c : Thread nD τ))) (f4 : Buf (Elt F) ((win0_4.stage (cfg0.slots t 4)).view.loc (c : Thread nD τ))) (f5 : Buf (Elt F) ((win0_5.stage (cfg0.slots t 5)).view.loc (c : Thread nD τ))) (f6 : Buf (Elt F) ((win0_6.stage (cfg0.slots t 6)).view.loc (c : Thread nD τ))) (f7 : Buf (Elt F) ((win0_7.stage (cfg0.slots t 7)).view.loc (c : Thread nD τ))) (f8 : Buf (Elt F) ((win0_8.stage (cfg0.slots t 8)).view.loc (c : Thread nD τ))) (f9 : Buf (Elt F) ((win0_9.stage (cfg0.slots t 9)).view.loc (c : Thread nD τ))) (f10 : Buf (Elt F) ((win0_10.stage (cfg0.slots t 10)).view.loc (c : Thread nD τ))) (f11 : Buf (Elt F) ((win0_11.stage (cfg0.slots t 11)).view.loc (c : Thread nD τ)))
      (f15 : Buf (Elt F) ((Memref.whole cc0_scratch0).view.loc (c : Thread nD τ))), (win0_0.stage (cfg0.slots t 0)).view.read (Elt F) f0 = Y 0 → (win0_1.stage (cfg0.slots t 1)).view.read (Elt F) f1 = Y 1 → (win0_2.stage (cfg0.slots t 2)).view.read (Elt F) f2 = Y 2 → (win0_3.stage (cfg0.slots t 3)).view.read (Elt F) f3 = Y 3 → (win0_4.stage (cfg0.slots t 4)).view.read (Elt F) f4 = Y 4 → (win0_5.stage (cfg0.slots t 5)).view.read (Elt F) f5 = Y 5 → (win0_6.stage (cfg0.slots t 6)).view.read (Elt F) f6 = Y 6 → (win0_7.stage (cfg0.slots t 7)).view.read (Elt F) f7 = Y 7 → (win0_8.stage (cfg0.slots t 8)).view.read (Elt F) f8 = Y 8 → (win0_9.stage (cfg0.slots t 9)).view.read (Elt F) f9 = Y 9 → (win0_10.stage (cfg0.slots t 10)).view.read (Elt F) f10 = Y 10 → (win0_11.stage (cfg0.slots t 11)).view.read (Elt F) f11 = Y 11 →
    S t.castSucc ((Memref.whole cc0_scratch0).view.read (Elt F) f15) →
    S t.succ ((Memref.whole cc0_scratch0).view.read (Elt F) (stAt c t f0 f1 f2 f3 f4 f5 f6 f7 f8 (f9, f10, f11, f15)).2.2.2) ∧ R 0 t (Y 0) (Y 0) ∧ R 1 t (Y 1) (Y 1) ∧ R 2 t (Y 2) (Y 2) ∧ R 3 t (Y 3) (Y 3) ∧ R 4 t (Y 4) (Y 4) ∧ R 5 t (Y 5) (Y 5) ∧ R 6 t (Y 6) (Y 6) ∧ R 7 t (Y 7) (Y 7) ∧ R 8 t (Y 8) (Y 8) ∧ R 9 t (Y 9) ((win0_9.stage (cfg0.slots t 9)).view.read (Elt F) (stAt c t f0 f1 f2 f3 f4 f5 f6 f7 f8 (f9, f10, f11, f15)).1) ∧ R 10 t (Y 10) ((win0_10.stage (cfg0.slots t 10)).view.read (Elt F) (stAt c t f0 f1 f2 f3 f4 f5 f6 f7 f8 (f9, f10, f11, f15)).2.1) ∧ R 11 t (Y 11) ((win0_11.stage (cfg0.slots t 11)).view.read (Elt F) (stAt c t f0 f1 f2 f3 f4 f5 f6 f7 f8 (f9, f10, f11, f15)).2.2.1)

variable (R : RelW F) (S : RelS F)

set_option maxHeartbeats 2000000 in
theorem sound_body (c : Dev nD) (hok : Ok m R S c) (t : Fin cfg0.N) (Y : (w : Fin cfg0.W) → (cfg0.win w).block.Idx → Elt F (cfg0.win w).elt)
    (hY : ∀ w, (rdat m R S c).Finds w t (Y w)) :
    iprop((rdat m R S c).Φ t.castSucc ∗ (rdat m R S c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7)
    ∗ owns (c : Thread nD τ) (st0_8 t) fullShare (Y 8)
    ∗ owns (c : Thread nD τ) (st0_9 t) fullShare (Y 9)
    ∗ owns (c : Thread nD τ) (st0_10 t) fullShare (Y 10)
    ∗ owns (c : Thread nD τ) (st0_11 t) fullShare (Y 11))
    ⊢ wp frame (wpE (defs₀ (F := F)) Variants.none c none) Set.univ (bodyAt0 t) (fun _ =>
      iprop((rdat m R S c).Φ t.succ ∗ (rdat m R S c).owesAt () t.succ
    ∗ (∃ X, ⌜R 0 t (Y 0) X⌝ ∗ owns (c : Thread nD τ) (st0_0 t) fullShare X)
    ∗ (∃ X, ⌜R 1 t (Y 1) X⌝ ∗ owns (c : Thread nD τ) (st0_1 t) fullShare X)
    ∗ (∃ X, ⌜R 2 t (Y 2) X⌝ ∗ owns (c : Thread nD τ) (st0_2 t) fullShare X)
    ∗ (∃ X, ⌜R 3 t (Y 3) X⌝ ∗ owns (c : Thread nD τ) (st0_3 t) fullShare X)
    ∗ (∃ X, ⌜R 4 t (Y 4) X⌝ ∗ owns (c : Thread nD τ) (st0_4 t) fullShare X)
    ∗ (∃ X, ⌜R 5 t (Y 5) X⌝ ∗ owns (c : Thread nD τ) (st0_5 t) fullShare X)
    ∗ (∃ X, ⌜R 6 t (Y 6) X⌝ ∗ owns (c : Thread nD τ) (st0_6 t) fullShare X)
    ∗ (∃ X, ⌜R 7 t (Y 7) X⌝ ∗ owns (c : Thread nD τ) (st0_7 t) fullShare X)
    ∗ (∃ X, ⌜R 8 t (Y 8) X⌝ ∗ owns (c : Thread nD τ) (st0_8 t) fullShare X)
    ∗ (∃ X, ⌜R 9 t (Y 9) X⌝ ∗ owns (c : Thread nD τ) (st0_9 t) fullShare X)
    ∗ (∃ X, ⌜R 10 t (Y 10) X⌝ ∗ owns (c : Thread nD τ) (st0_10 t) fullShare X)
    ∗ (∃ X, ⌜R 11 t (Y 11) X⌝ ∗ owns (c : Thread nD τ) (st0_11 t) fullShare X))) := by
  unfold bodyAt0
  rw [show (rdat m R S c).owesAt () t.succ = (rdat m R S c).owesAt () t.castSucc from rfl,
    show (rdat m R S c).Φ t.succ = PhiS S c t.succ from rfl, show (rdat m R S c).Φ t.castSucc = PhiS S c t.castSucc from rfl]
  unfold PhiS owns
  iintro ⟨⟨⟨⟨%d15, %hS, %f15, %h15, H15⟩, ⟨%d16, %f16, -, H16⟩, ⟨%d17, %f17, -, H17⟩, ⟨%d18, %f18, -, H18⟩⟩, Hg⟩, Ho, ⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩⟩
  subst h15
  obtain ⟨hS', hR0, hR1, hR2, hR3, hR4, hR5, hR6, hR7, hR8, hR9, hR10, hR11⟩ := hok t Y hY f0 f1 f2 f3 f4 f5 f6 f7 f8 f9 f10 f11 f15 h0 h1 h2 h3 h4 h5 h6 h7 h8 h9 h10 h11 hS
  iapply (wp_wand_r Idealize.ShloMosaic.frame (wpE (defs₀ (F := F)) 𝒱₀ (c : Thread nD τ) none) Set.univ)
  isplitl [H0 H1 H2 H3 H4 H5 H6 H7 H8 H9 H10 H11 H15 H16 H17 H18]
  · iapply (kernelRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) f0 f1 f2 f3 f4 f5 f6 f7 f8 (f9, f10, f11, f15))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H15]; · iexact H15
    isplitl [H16]; · iexists _; iexact H16
    isplitl [H17]; · iexists _; iexact H17
    iexists _; iexact H18
  · iintro %_ ⟨H0, H1, H2, H3, H4, H5, H6, H7, H8, H9, H10, H11, H15, ⟨%f16, H16⟩, ⟨%f17, H17⟩, ⟨%f18, H18⟩⟩
    isplitl [H15 H16 H17 H18 Hg]
    · isplitl [H15 H16 H17 H18]
      · isplitl [H15]
        · iexists _; isplitr
          · ipureintro; exact hS'
          · iexists _; isplitr; swap; · iexact H15
            ipureintro; rfl
        isplitl [H16]
        · iexists _, _; isplitr; swap; · iexact H16
          ipureintro; rfl
        isplitl [H17]
        · iexists _, _; isplitr; swap; · iexact H17
          ipureintro; rfl
        iexists _, _; isplitr; swap; · iexact H18
        ipureintro; rfl
      · iexact Hg
    isplitl [Ho]; · iexact Ho
    isplitl [H0]
    · iexists _; isplitr
      · ipureintro; exact hR0
      · iexists _; isplitr; swap; · iexact H0
        ipureintro; exact h0
    isplitl [H1]
    · iexists _; isplitr
      · ipureintro; exact hR1
      · iexists _; isplitr; swap; · iexact H1
        ipureintro; exact h1
    isplitl [H2]
    · iexists _; isplitr
      · ipureintro; exact hR2
      · iexists _; isplitr; swap; · iexact H2
        ipureintro; exact h2
    isplitl [H3]
    · iexists _; isplitr
      · ipureintro; exact hR3
      · iexists _; isplitr; swap; · iexact H3
        ipureintro; exact h3
    isplitl [H4]
    · iexists _; isplitr
      · ipureintro; exact hR4
      · iexists _; isplitr; swap; · iexact H4
        ipureintro; exact h4
    isplitl [H5]
    · iexists _; isplitr
      · ipureintro; exact hR5
      · iexists _; isplitr; swap; · iexact H5
        ipureintro; exact h5
    isplitl [H6]
    · iexists _; isplitr
      · ipureintro; exact hR6
      · iexists _; isplitr; swap; · iexact H6
        ipureintro; exact h6
    isplitl [H7]
    · iexists _; isplitr
      · ipureintro; exact hR7
      · iexists _; isplitr; swap; · iexact H7
        ipureintro; exact h7
    isplitl [H8]
    · iexists _; isplitr
      · ipureintro; exact hR8
      · iexists _; isplitr; swap; · iexact H8
        ipureintro; exact h8
    isplitl [H9]
    · iexists _; isplitr
      · ipureintro; exact hR9
      · iexists _; isplitr; swap; · iexact H9
        ipureintro; rfl
    isplitl [H10]
    · iexists _; isplitr
      · ipureintro; exact hR10
      · iexists _; isplitr; swap; · iexact H10
        ipureintro; rfl
    iexists _; isplitr
    · ipureintro; exact hR11
    · iexists _; isplitr; swap; · iexact H11
      ipureintro; rfl

theorem defs₀_row (t : Fin cfg0.N) : defs₀ (F := F) .tc cfg0.body (cfg0.bodyArgs t (cfg0.slots t)) = bodyAt0 t := by
  unfold defs₀; rw [Defs.onTc_tc]

theorem body_obligation (c : Dev nD) (hok : Ok m R S c) :
    (rdat m R S c).BodyObligation (defs₀ (F := F)) Variants.none () Set.univ := fun t Y hY => by
  rw [bigSep_W0, bigSep_W0, defs₀_row]
  exact sound_body m R S c hok t Y hY

theorem PhiS_in (hS : ∀ d, S 0 d) (c : Dev nD) : Pipeline.ΦA spec0 c ⊢ PhiS S c 0 := by
  unfold Pipeline.ΦA PhiS
  rw [scopedRest0_eq]
  simp only [owns_whole]
  iintro ⟨⟨⟨%d, H⟩, Hr⟩, Hg⟩
  isplitr [Hg]; swap; · iexact Hg
  isplitl [H]
  · iexists d; isplitr
    · ipureintro; exact hS d
    · iexact H
  iexact Hr

theorem PhiS_out (c : Dev nD) (t) : PhiS S c t ⊢ Pipeline.ΦA spec0 c := by
  unfold Pipeline.ΦA PhiS
  rw [scopedRest0_eq]
  simp only [owns_whole]
  iintro ⟨⟨⟨%d, -, H⟩, Hr⟩, Hg⟩
  isplitr [Hg]; swap; · iexact Hg
  isplitl [H]
  · iexists d; iexact H
  iexact Hr

set_option backward.isDefEq.respectTransparency.types false in
/-- The run: from any memory with zero counters, every fair execution ends, every counter at zero and every array at
    something that the relations allow. -/
theorem run_main (hok : ∀ c, Ok m R S c) (hS : ∀ d, S 0 d) :
    θ_run defs (onTc (τ := τ) (main (F := F))) (s₀ m ρ)
      (fun r => RDat.FramePost (cfgs 0) (rdat m R S) (V m) r ∧ r.2.sem = fun _ => 0) :=
  RDat.θ_run_frame_track (Q' := _) cfgs (0 : Fin 1) launch0 defs₀ Variants.none (rdat m R S) m ρ main
    (hbody := fun c => body_obligation m R S c (hok c)) (hshare := fun c => (rdat m R S c).share_full fun _ => rfl)
    (howed := fun _ _ => rfl) (V := V m) (hmain := hmain m Variants.none) (hA := fun _ _ => rfl)
    (hin := fun c => PhiS_in S hS c) (hout := fun c => PhiS_out S c _)

/-- The relations that say nothing. -/
abbrev R₀ : RelW F := fun _ _ _ _ => True
abbrev S₀ : RelS F := fun _ _ => True

variable {m R S}
/-- Whatever the relations, the argument arrays end as they began. -/
theorem args_kept {r : PUnit × MemSt nD τ sig (Elt F)} (h : RDat.FramePost (cfgs 0) (rdat m R S) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (RDat.FramePost.arr_in h c 0 rfl).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (RDat.FramePost.arr_in h c 7 rfl).trans (V_main_arg6 m c),
      (RDat.FramePost.arr_in h c 8 rfl).trans (V_main_arg7 m c),
      (RDat.FramePost.arr_in h c 1 rfl).trans (V_main_arg8 m c)⟩

theorem ok₀ (c : Dev nD) : Ok m R₀ S₀ c := by
  unfold Ok; intros; exact ⟨trivial, trivial, trivial, trivial, trivial, trivial, trivial, trivial, trivial, trivial, trivial, trivial, trivial⟩

variable (m)
/-- The frame: the program runs, its arguments end as they began, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => args_kept h.1 c, h.2⟩) (run_main m ρ R₀ S₀ (ok₀ (m := m)) fun _ => trivial)

end Cert.KernelIdeal.Hand
-- ==== Proof.KernelIdeal.Off.lean ====
/-
  The offsets at which a loop trip loads and stores, in closed form, and reading a buffer after stores whose payloads agree
  with one function of the index.
-/
module

public import proofs.«01_k».proof.Proof.KernelIdeal.Trip
public import Idealize.ShloMosaic.Lib.WritesUnit
public import Idealize.ShloMosaic.Lib.Pointwise

@[expose] public section

noncomputable section

namespace Cert.KernelIdeal.Hand

open Cert.KernelIdeal Cert.KernelIdeal.Gen Idealize.ShloMosaic

theorem trips_eq : k0_t1_loop.trips = 6 := by decide

/-- The position of a trip's head among the six of its grid point. -/
def slot (k : Fin k0_t1_loop.trips) : Fin 6 := Fin.cast trips_eq k

/-- The head that trip `k` of grid point `i` works on. -/
def head (i : grid0.Coords) (k : Fin k0_t1_loop.trips) : Fin 30 := ⟨(i 2).val * 6 + k.val, by
  have h1 : (i 2).val < 5 := (i 2).isLt
  have h2 : k.val < 6 := (slot k).isLt
  omega⟩

theorem word_head (a : Fin 5) (k : Fin k0_t1_loop.trips) :
    (Scalar.indexCast (Scalar.addi (Scalar.muli (BitVec.ofNat 32 a.val) 6#32) (Scf.iv 0#32 1#32 k))).toNat = a.val * 6 + k.val := by
  have h : ∀ (a : Fin 5) (b : Fin 6), (Scalar.indexCast (Scalar.addi (Scalar.muli (BitVec.ofNat 32 a.val) 6#32) (Scf.iv 0#32 1#32 b.val))).toNat
      = a.val * 6 + b.val := by decide
  exact h a (slot k)

theorem word_slot (k : Fin k0_t1_loop.trips) : (Scalar.indexCast (Scf.iv 0#32 1#32 k)).toNat = k.val := by
  have h : ∀ b : Fin 6, (Scalar.indexCast (Scf.iv 0#32 1#32 b.val)).toNat = b.val := by decide
  exact h (slot k)

variable (i : grid0.Coords) (k : Fin k0_t1_loop.trips)

theorem off1_eq : k0_off1 i k = ![0, (head i k).val, 0] :=
  congrArg (fun n : ℕ => (![0, n, 0] : Fin 3 → ℕ)) (word_head (i 2) k)
theorem off2_eq : k0_off2 i k = ![(head i k).val, 0, 0] :=
  congrArg (fun n : ℕ => (![n, 0, 0] : Fin 3 → ℕ)) (word_head (i 2) k)
theorem off3_eq : k0_off3 i k = ![0, (head i k).val, 0, 0] :=
  congrArg (fun n : ℕ => (![0, n, 0, 0] : Fin 4 → ℕ)) (word_head (i 2) k)
theorem off4_eq : k0_off4 i k = ![(head i k).val, 0, 0] :=
  congrArg (fun n : ℕ => (![n, 0, 0] : Fin 3 → ℕ)) (word_head (i 2) k)
theorem off5_eq : k0_off5 i k = ![(i 0).val, (i 1).val, (head i k).val] := by
  have e0 : ∀ a : Fin 3, (Scalar.indexCast (BitVec.ofNat 32 a.val)).toNat = a.val := by decide
  have e1 : ∀ a : Fin 5, (Scalar.indexCast (BitVec.ofNat 32 a.val)).toNat = a.val := by decide
  have h : ∀ a b n a' b' n' : ℕ, a = a' → b = b' → n = n' → (![a, b, n] : Fin 3 → ℕ) = ![a', b', n'] := by
    rintro _ _ _ _ _ _ rfl rfl rfl; rfl
  exact h _ _ _ _ _ _ (e0 (i 0)) (e1 (i 1)) (word_head (i 2) k)
theorem off6_eq : k0_off6 i k = ![0, (head i k).val, 0] :=
  congrArg (fun n : ℕ => (![0, n, 0] : Fin 3 → ℕ)) (word_head (i 2) k)
theorem off7_eq : k0_off7 k = ![0, (slot k).val, 0, 0] :=
  congrArg (fun n : ℕ => (![0, n, 0, 0] : Fin 4 → ℕ)) (word_slot k)
theorem off8_eq : k0_off8 i k = ![(head i k).val, 0, 0] :=
  congrArg (fun n : ℕ => (![n, 0, 0] : Fin 3 → ℕ)) (word_head (i 2) k)
theorem off9_eq : k0_off9 i k = ![(head i k).val] :=
  congrArg (fun n : ℕ => (![n] : Fin 1 → ℕ)) (word_head (i 2) k)
theorem off18_eq : k0_off18 i k = ![0, (head i k).val, 0, 0] :=
  congrArg (fun n : ℕ => (![0, n, 0, 0] : Fin 4 → ℕ)) (word_head (i 2) k)
theorem off19_eq : k0_off19 i k = ![0, (head i k).val, 0] :=
  congrArg (fun n : ℕ => (![0, n, 0] : Fin 3 → ℕ)) (word_head (i 2) k)
theorem off10_eq : k0_off10 k = ![0, (slot k).val, 0, 0] :=
  congrArg (fun n : ℕ => (![0, n, 0, 0] : Fin 4 → ℕ)) (word_slot k)
theorem off11_eq : k0_off11 k = ![0, (slot k).val, 0, 256] :=
  congrArg (fun n : ℕ => (![0, n, 0, 256] : Fin 4 → ℕ)) (word_slot k)
theorem off12_eq : k0_off12 k = ![0, (slot k).val, 0, 512] :=
  congrArg (fun n : ℕ => (![0, n, 0, 512] : Fin 4 → ℕ)) (word_slot k)
theorem off13_eq : k0_off13 k = ![0, (slot k).val, 0, 768] :=
  congrArg (fun n : ℕ => (![0, n, 0, 768] : Fin 4 → ℕ)) (word_slot k)
theorem off14_eq : k0_off14 k = ![0, (slot k).val, 0, 1024] :=
  congrArg (fun n : ℕ => (![0, n, 0, 1024] : Fin 4 → ℕ)) (word_slot k)
theorem off15_eq : k0_off15 k = ![0, (slot k).val, 0, 1280] :=
  congrArg (fun n : ℕ => (![0, n, 0, 1280] : Fin 4 → ℕ)) (word_slot k)
theorem off16_eq : k0_off16 k = ![0, (slot k).val, 0, 1536] :=
  congrArg (fun n : ℕ => (![0, n, 0, 1536] : Fin 4 → ℕ)) (word_slot k)
theorem off17_eq : k0_off17 k = ![0, (slot k).val, 0, 1792] :=
  congrArg (fun n : ℕ => (![0, n, 0, 1792] : Fin 4 → ℕ)) (word_slot k)

theorem cond1_iff : k0_cond1 i = 1#1 ↔ (i 1).val = 0 := by
  have : ∀ a : Fin 5, Scalar.cmpi .ne (Scalar.extui (Scalar.cmpi .eq (BitVec.ofNat 32 a.val) 0#32)) 0#32 = 1#1 ↔ a.val = 0 := by decide
  exact this (i 1)
theorem cond2_iff : k0_cond2 i = 1#1 ↔ (i 1).val = 4 := by
  have : ∀ a : Fin 5, Scalar.cmpi .ne (Scalar.extui (Scalar.cmpi .eq (BitVec.ofNat 32 a.val) 4#32)) 0#32 = 1#1 ↔ a.val = 4 := by decide
  exact this (i 1)

section
variable {sig : RefSig} {κ : Kind} {sp : Space} {s : Shape} {e : EltTy} {Val : EltTy → Type}

/-- An index reads `T` of itself after a store that agrees with `T`, if it does so wherever the store does not reach. -/
theorem read_agree (v : View sig κ sp s e) (f : v.ty.Contents Val) (T : s.Idx → Val e) {off off' size : Fin s.rank → ℕ}
    (inb : ∀ a, off a + size a ≤ s.size a) (w : (Rect.unit off size inb).shape.Idx → Val e) (L : List (View.Piece Val s e)) (y : s.Idx)
    (heq : off = off') (hw : ∀ (x : (Rect.unit off size inb).shape.Idx), (∀ a, (y a).val = off' a + (x a).val) → w x = T y)
    (hrest : ¬ (∀ a, off' a ≤ (y a).val ∧ (y a).val < off' a + size a) → v.read Val (v.writes Val f L) y = T y) :
    v.read Val (v.writes Val f ((⟨Rect.unit off size inb, w⟩ : View.Piece Val s e) :: L)) y = T y := by
  rw [View.read_writes_cons_unit v f inb w L y heq]
  split
  next h =>
    refine hw _ fun a => ?_
    rw [Rect.unitLocal_val]
    have := h a
    omega
  next h => exact hrest h

/-- The same with the value the index is to read. -/
theorem read_agree_val (v : View sig κ sp s e) (f : v.ty.Contents Val) (t : Val e) {off off' size : Fin s.rank → ℕ}
    (inb : ∀ a, off a + size a ≤ s.size a) (w : (Rect.unit off size inb).shape.Idx → Val e) (L : List (View.Piece Val s e)) (y : s.Idx)
    (heq : off = off') (hw : ∀ (x : (Rect.unit off size inb).shape.Idx), (∀ a, (y a).val = off' a + (x a).val) → w x = t)
    (hrest : ¬ (∀ a, off' a ≤ (y a).val ∧ (y a).val < off' a + size a) → v.read Val (v.writes Val f L) y = t) :
    v.read Val (v.writes Val f ((⟨Rect.unit off size inb, w⟩ : View.Piece Val s e) :: L)) y = t :=
  read_agree v f (fun _ => t) inb w L y heq hw hrest

/-- A load of a unit-stride rectangle reads the buffer at the index plus the offsets. -/
theorem readAt_unit (v : View sig κ sp s e) (f : v.ty.Contents Val) {off off' size : Fin s.rank → ℕ}
    (inb : ∀ a, off a + size a ≤ s.size a) (x : (Rect.unit off size inb).shape.Idx) (y : s.Idx) (heq : off = off')
    (h : ∀ a, (y a).val = off' a + (x a).val) :
    View.readAt Val v (Rect.unit off size inb).toLoadRect f x = v.read Val f y := by
  subst heq
  refine congrArg (v.read Val f) (funext fun a => Fin.ext ?_)
  show off a + 1 * (x a).val = (y a).val
  rw [h a, Nat.one_mul]
end

end Cert.KernelIdeal.Hand

end
-- ==== Proof.Spec.lean ====
/-
  The mathematics, over the reals, of one head of one sequence in one segment: what the delta rule makes of the memory
  (`newM`, `newZ`), and what the outputs of the segment are (`outAt`). Codes are indexed channel first, position second.
  Below it, the few facts about extended reals that both sides of the proof use.
-/
module

public import Idealize.ShloMosaic.Lib.Pointwise

@[expose] public section

noncomputable section

namespace Cert.Spec

open Idealize.ShloMosaic

/-- `elu x + 1`. -/
def σ (x : ℝ) : ℝ := if 0 < x then x + 1 else Real.exp x

theorem σ_pos (x : ℝ) : 0 < σ x := by
  unfold σ; split
  · linarith
  · exact Real.exp_pos x

/-- The constant the scores are multiplied by, `1/√96` to single precision. -/
def rsqrt96 : ℝ := (Ideal.ofBits .f32 0x3DD105EC#32).toReal

/-- The codes and scales of one head of one sequence in one segment. -/
structure Cell where
  q : Fin 96 → Fin 2048 → ℝ
  k : Fin 96 → Fin 2048 → ℝ
  v : Fin 96 → Fin 2048 → ℝ
  qs : ℝ
  ks : Fin 2048 → ℝ
  vs : Fin 2048 → ℝ

namespace Cell

variable (D : Cell)

/-- The key features. -/
def sk (c : Fin 96) (l : Fin 2048) : ℝ := σ (D.k c l * D.ks l)
/-- The query features. -/
def sq (c : Fin 96) (l : Fin 2048) : ℝ := σ (D.q c l * D.qs)
/-- The values. -/
def vv (j : Fin 96) (l : Fin 2048) : ℝ := D.v j l * D.vs l
/-- What a key's features are normalised by. -/
def denK (z : Fin 96 → ℝ) (l : Fin 2048) : ℝ := ∑ c, D.sk c l * z c
/-- The normaliser after the segment. -/
def newZ (z : Fin 96 → ℝ) (c : Fin 96) : ℝ := z c + ∑ l, D.sk c l
/-- The memory after the segment: what a key retrieved is taken out before its value goes in. -/
def newM (M : Fin 96 → Fin 96 → ℝ) (z : Fin 96 → ℝ) (c j : Fin 96) : ℝ :=
  M c j + ∑ l, D.sk c l * (D.vv j l - (∑ c', D.sk c' l * M c' j) / D.denK z l)
/-- A score. -/
def sc (l' l : Fin 2048) : ℝ := (∑ c, D.k c l' * D.q c l) * (D.qs * rsqrt96 * D.ks l')
/-- Unnormalised softmax weight of key `l'` for query `l`: only keys that are not later. -/
def wt (l' l : Fin 2048) : ℝ := if l' ≤ l then Real.exp (D.sc l' l) else 0
/-- Softmax attention inside the segment. -/
def att (j : Fin 96) (l : Fin 2048) : ℝ := (∑ l', D.wt l' l * D.vv j l') / ∑ l', D.wt l' l
/-- What a query reads from the memory. -/
def mem (M : Fin 96 → Fin 96 → ℝ) (z : Fin 96 → ℝ) (j : Fin 96) (l : Fin 2048) : ℝ :=
  (∑ c, D.sq c l * M c j) / ∑ c, D.sq c l * z c
/-- The output: the memory and the attention, mixed by the gate. -/
def outAt (g : ℝ) (M : Fin 96 → Fin 96 → ℝ) (z : Fin 96 → ℝ) (j : Fin 96) (l : Fin 2048) : ℝ :=
  g * D.mem M z j l + (1 - g) * D.att j l

theorem sk_pos (c l) : 0 < D.sk c l := σ_pos _
theorem sq_pos (c l) : 0 < D.sq c l := σ_pos _

theorem denK_pos {z : Fin 96 → ℝ} (hz : ∀ c, 0 < z c) (l) : 0 < D.denK z l :=
  Finset.sum_pos (fun c _ => mul_pos (D.sk_pos c l) (hz c)) ⟨0, Finset.mem_univ _⟩

theorem denQ_pos {z : Fin 96 → ℝ} (hz : ∀ c, 0 < z c) (l) : 0 < ∑ c, D.sq c l * z c :=
  Finset.sum_pos (fun c _ => mul_pos (D.sq_pos c l) (hz c)) ⟨0, Finset.mem_univ _⟩

theorem newZ_pos {z : Fin 96 → ℝ} (hz : ∀ c, 0 < z c) (c) : 0 < D.newZ z c :=
  add_pos (hz c) (Finset.sum_pos (fun l _ => D.sk_pos c l) ⟨0, Finset.mem_univ _⟩)

theorem wt_nonneg (l' l) : 0 ≤ D.wt l' l := by
  unfold wt; split
  · exact (Real.exp_pos _).le
  · exact le_rfl

theorem wtSum_pos (l) : 0 < ∑ l', D.wt l' l :=
  Finset.sum_pos' (fun l' _ => D.wt_nonneg l' l) ⟨l, Finset.mem_univ _, by unfold wt; rw [if_pos le_rfl]; exact Real.exp_pos _⟩

/-- The same memory by way of the features' Gram matrix. -/
theorem newM_gram (M : Fin 96 → Fin 96 → ℝ) (z : Fin 96 → ℝ) (c j : Fin 96) :
    D.newM M z c j = M c j + ∑ l, D.sk c l * D.vv j l
      - ∑ c', (∑ l, D.sk c l * (D.sk c' l * (1 / D.denK z l))) * M c' j := by
  unfold newM
  have : ∑ c', (∑ l, D.sk c l * (D.sk c' l * (1 / D.denK z l))) * M c' j
      = ∑ l, D.sk c l * ((∑ c', D.sk c' l * M c' j) / D.denK z l) := by
    simp_rw [Finset.sum_mul, Finset.sum_div, Finset.mul_sum]
    rw [Finset.sum_comm]
    refine Finset.sum_congr rfl fun l _ => Finset.sum_congr rfl fun c' _ => ?_
    ring
  rw [this, add_sub_assoc, ← Finset.sum_sub_distrib]
  congr 1
  exact Finset.sum_congr rfl fun l _ => by ring

end Cell

/-! ## Extended reals -/

theorem coe_sum {ι : Type*} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

theorem div_coe' (x y : ℝ) (h : y ≠ 0) : Ideal.div (x : EReal) (y : EReal) = ((x / y : ℝ) : EReal) := by
  rw [Ideal.div_coe h, ← EReal.coe_mul]; congr 1; ring

theorem exp2_log2e (x : ℝ) : Ideal.exp2 (((x * (Real.log 2)⁻¹ : ℝ)) : EReal) = ((Real.exp x : ℝ) : EReal) := by
  rw [Ideal.exp2_coe]
  congr 1
  show (2 : ℝ) ^ (x * (Real.log 2)⁻¹) = _
  rw [Real.rpow_def_of_pos two_pos]
  congr 1
  have : Real.log 2 ≠ 0 := (Real.log_pos one_lt_two).ne'
  field_simp

theorem ofBits_rsqrt96 : Ideal.ofBits .f32 0x3DD105EC#32 = ((rsqrt96 : ℝ) : EReal) := by
  unfold rsqrt96
  rw [EReal.coe_toReal] <;> simp [Ideal.ofBits, Ideal.ieee, -EReal.coe_mul]

/-- The logistic function is a real number everywhere, the infinities included. -/
theorem logistic_real (x : EReal) : Ideal.logistic x = (((Ideal.logistic x).toReal : ℝ) : EReal) := by
  symm
  induction x using EReal.rec with
  | bot =>
    have h : Ideal.exp ⊤ = ⊤ := rfl
    have h1 : (1 : EReal) + ⊤ = ⊤ := by simpa using EReal.coe_add_top 1
    simp [Ideal.logistic, Ideal.div, h, h1]
  | coe r => rw [Ideal.logistic_coe, EReal.toReal_coe]
  | top =>
    have h : Ideal.exp ⊥ = 0 := rfl
    simp [Ideal.logistic, Ideal.div, h]

theorem sel_pos (x : ℝ) (a b : EReal) : (if (0 : EReal) < (x : EReal) then a else b) = if 0 < x then a else b := by
  simp only [EReal.coe_pos]

end Cert.Spec

end
-- ==== Proof.KernelIdeal.PayM.lean ====
/-
  The stored values of one head's trip that concern the memory, read at an index over the reals: the key features, the
  normalised features, and the carried rows after the segment (`pay91_coe`).
-/
module

public import proofs.«01_k».proof.Proof.Spec
public import proofs.«01_k».proof.Proof.Gen.KernelIdeal
public import proofs.«01_k».proof.Proof.Gen.KernelIdeal.Skeleton

@[expose] public section

noncomputable section

namespace Cert.KernelIdeal.Hand

open Idealize.ShloMosaic Cert.KernelIdeal.Gen Cert.Spec

/-- A carried row: the memory's 96 columns, then the normaliser in every one of the other lanes. -/
def mzOf (M : Fin 96 → Fin 96 → ℝ) (z : Fin 96 → ℝ) (c : Fin 96) (l : Fin 128) : ℝ :=
  if h : l.val < 96 then M c ⟨l.val, h⟩ else z c

theorem log2e_val : (Named.named (F := Ideal) κ "log2_e" (φ := .f32) 0x3FB8AA3B#32 : EReal) = (((Real.log 2)⁻¹ : ℝ) : EReal) :=
  IdealRules.named_const.ideal_named_scalar _ _ _ _ rfl

/-- The feature map as the kernel computes it. -/
theorem σ_kernel (x : ℝ) : (if (0 : EReal) < (x : EReal) then (x : EReal) + 1 else
    FloatOps.exp2 (F := Ideal) (φ := .f32) ((x : EReal) * (((Real.log 2)⁻¹ : ℝ) : EReal))) = ((σ x : ℝ) : EReal) := by
  unfold σ
  simp only [EReal.coe_pos]
  split
  · norm_cast
  · rw [← EReal.coe_mul]; exact exp2_log2e x

variable (D : Cell) {M : Fin 96 → Fin 96 → ℝ} {z : Fin 96 → ℝ}

section
variable {v14 : FVec Ideal S1x2048 .f32} {v20 : FVec Ideal S96x2048 .fp8e4m3}
  (h14 : ∀ l, v14 (ix2 0 l) = ((D.ks l : ℝ) : EReal)) (h20 : ∀ c l, v20 (ix2 c l) = ((D.k c l : ℝ) : EReal))
include h14 h20

theorem pay84_coe (c l) : k0_pay84 (F := Ideal) v14 v20 (ix2 c l) = ((D.sk c l : ℝ) : EReal) := by
  pointwise [k0_pay84]
  rw [h14, h20, log2e_val, ← EReal.coe_mul]
  exact σ_kernel _

theorem pay85_coe {v281 : FVec Ideal S96x1 .f32} (hz : ∀ c, 0 < z c) (h281 : ∀ c, v281 (ix2 c 0) = ((z c : ℝ) : EReal)) (c l) :
    k0_pay85 (F := Ideal) v14 v20 v281 (ix2 c l) = ((D.sk c l * (1 / D.denK z l) : ℝ) : EReal) := by
  pointwise [k0_pay85]
  simp only [pay84_coe D h14 h20, h281, ← EReal.coe_mul, coe_sum, ← EReal.coe_one]
  show _ * Ideal.div _ ((D.denK z l : ℝ) : EReal) = _
  rw [div_coe' _ _ (D.denK_pos hz l).ne', ← EReal.coe_mul]

theorem pay86_coe (c l) : k0_pay86 (F := Ideal) v14 v20 (ix2 c l) = ((D.sk c l : ℝ) : EReal) := by
  pointwise [k0_pay86]
  exact pay84_coe D h14 h20 c l

theorem pay87_coe (c l) : k0_pay87 (F := Ideal) v14 v20 (ix2 c l) = 0 := by
  pointwise [k0_pay87]
  rw [pay84_coe D h14 h20, pay86_coe D h14 h20, ← EReal.coe_sub, sub_self, EReal.coe_zero]

theorem pay88_coe (c l) : k0_pay88 (F := Ideal) v14 v20 (ix2 c l) = 0 := by
  pointwise [k0_pay88]
  exact pay87_coe D h14 h20 c l

theorem pay89_coe (c l) : k0_pay89 (F := Ideal) v14 v20 (ix2 c l) = 0 := by
  pointwise [k0_pay89]
  rw [pay87_coe D h14 h20, pay88_coe D h14 h20, sub_zero]

theorem pay90_coe {v281 : FVec Ideal S96x1 .f32} (hz : ∀ c, 0 < z c) (h281 : ∀ c, v281 (ix2 c 0) = ((z c : ℝ) : EReal)) (c l) :
    k0_pay90 (F := Ideal) v14 v20 v281 (ix2 c l) = ((D.sk c l * (1 / D.denK z l) : ℝ) : EReal) := by
  pointwise [k0_pay90]
  exact pay85_coe D h14 h20 hz h281 c l

end

theorem pay49_coe {v17 : FVec Ideal S1x2048 .f32} {v263 : Vec Ideal S1x1x96x2048 .fp8e4m3}
    (h17 : ∀ l, v17 (ix2 0 l) = ((D.vs l : ℝ) : EReal)) (h263 : ∀ c l, v263 (ix4 0 0 c l) = ((D.v c l : ℝ) : EReal)) (c l) :
    k0_pay49 (F := Ideal) v17 v263 (ix2 c l) = ((D.vv c l : ℝ) : EReal) := by
  pointwise [k0_pay49]
  rw [h17, h263, ← EReal.coe_mul]; rfl

theorem pay50_coe {v17 : FVec Ideal S1x2048 .f32} {v263 : Vec Ideal S1x1x96x2048 .fp8e4m3}
    (h17 : ∀ l, v17 (ix2 0 l) = ((D.vs l : ℝ) : EReal)) (h263 : ∀ c l, v263 (ix4 0 0 c l) = ((D.v c l : ℝ) : EReal)) (c l) :
    k0_pay50 (F := Ideal) v17 v263 (ix2 c l) = ((D.vv c l : ℝ) : EReal) := by
  pointwise [k0_pay50]
  exact pay49_coe D h17 h263 c l

theorem pay51_coe {v273 : Vec Ideal S1x96x128 .f32} (h : ∀ c l, v273 (ix3 0 c l) = ((mzOf M z c l : ℝ) : EReal)) (c l) :
    k0_pay51 (F := Ideal) v273 (ix2 c l) = ((mzOf M z c l : ℝ) : EReal) := by
  pointwise [k0_pay51]
  exact h c l

theorem pay52_coe {v273 : Vec Ideal S1x96x128 .f32} (h : ∀ c l, v273 (ix3 0 c l) = ((mzOf M z c l : ℝ) : EReal)) (c) :
    k0_pay52 (F := Ideal) v273 (ix2 c 0) = ((z c : ℝ) : EReal) := by
  pointwise [k0_pay52, k0_pay51]
  rw [Finset.sum_eq_single (96 : Fin 128)]
  · rw [h]; simp [Scalar.select, IntOp.cmpi, mzOf]
  · intro b _ hb
    have : BitVec.ofNat 32 b.val ≠ 96#32 := by
      intro e; apply hb; apply Fin.ext
      have := congrArg BitVec.toNat e
      simp only [BitVec.toNat_ofNat] at this
      have hb := b.isLt
      show b.val = 96
      omega
    have e : (BitVec.ofNat 32 b.val == 96#32) = false := by simpa using this
    simp [Scalar.select, IntOp.cmpi, e]
  · intro h; exact absurd (Finset.mem_univ _) h

theorem slt96 (c : Fin 96) (l : Fin 128) (a b : EReal) : Scalar.select (IntOp.cmpi .slt (BitVec.ofNat 32 l.val) 96#32) a b = if l.val < 96 then a else b := by
  have : ∀ l : Fin 128, IntOp.cmpi .slt (BitVec.ofNat 32 l.val) 96#32 = if l.val < 96 then 1#1 else 0#1 := by decide
  rw [this]; split <;> simp [Scalar.select]

section
variable {v268 : FVec Ideal S96x2048 .bf16} {v274 : FVec Ideal S96x128 .f32} {v663 : FVec Ideal S96x2048 .f32}
  {v664 v667 v670 v671 : FVec Ideal S96x2048 .bf16}

set_option maxHeartbeats 2000000 in
/-- The carried rows after the segment. -/
theorem pay91_coe (h268 : ∀ c l, v268 (ix2 c l) = ((D.vv c l : ℝ) : EReal)) (h274 : ∀ c l, v274 (ix2 c l) = ((mzOf M z c l : ℝ) : EReal))
    (h663 : ∀ c l, v663 (ix2 c l) = ((D.sk c l * (1 / D.denK z l) : ℝ) : EReal)) (h664 : ∀ c l, v664 (ix2 c l) = ((D.sk c l : ℝ) : EReal))
    (h667 : ∀ c l, v667 (ix2 c l) = (0 : EReal)) (h670 : ∀ c l, v670 (ix2 c l) = (0 : EReal))
    (h671 : ∀ c l, v671 (ix2 c l) = ((D.sk c l * (1 / D.denK z l) : ℝ) : EReal)) (c : Fin 96) (l : Fin 128) :
    k0_pay91 (F := Ideal) v268 v274 (iota .tc S96x128 32 [1] iota_S96x128_d1_w32) k0_pay57 v663 v664 v667 v670 v671 (ix2 c l)
      = ((mzOf (D.newM M z) (D.newZ z) c l : ℝ) : EReal) := by
  have e1 : ∀ x : Fin 96, ¬ (128 + x.val < 96) := fun x => by omega
  have e2 : ∀ x : Fin 96, ¬ (128 + x.val - 96 < 32) := fun x => by omega
  have e3 : ∀ x : Fin 96, 128 + x.val - 96 - 32 < 96 := fun x => by omega
  have e4 : ∀ (x : Fin 96) (h : 128 + x.val - 96 - 32 < 96), (⟨128 + x.val - 96 - 32, h⟩ : Fin 96) = x := fun x _ => Fin.ext (by show 128 + x.val - 96 - 32 = x.val; omega)
  pointwise [k0_pay91, k0_pay57]
  simp only [e1, e2, e3, e4, dif_neg, dif_pos, not_false_eq_true, ↓reduceDIte, h268, h274, h663, h664, h667, h670, h671, zero_mul, mul_zero, Finset.sum_const_zero, add_zero, sub_zero,
    ← EReal.coe_sub, sub_self, EReal.coe_zero]
  rw [slt96 c]
  by_cases hl : l.val < 96
  · simp only [hl, ↓reduceDIte, ↓reduceIte, ← EReal.coe_mul, coe_sum, ← EReal.coe_add, ← EReal.coe_sub, mzOf]
    rw [D.newM_gram]
  · have hl' : l.val - 96 < 32 := by omega
    simp only [hl, hl', ↓reduceDIte, ↓reduceIte, mul_one, coe_sum, ← EReal.coe_add, sub_zero, mzOf]
    rfl

end

theorem pay1_coe {v701 : FVec Ideal S96x128 .f32} {N : Fin 96 → Fin 128 → ℝ} (h : ∀ c l, v701 (ix2 c l) = ((N c l : ℝ) : EReal)) (c l) :
    k0_pay1 (F := Ideal) v701 (ix3 0 c l) = ((N c l : ℝ) : EReal) := by
  pointwise [k0_pay1]; exact h c l

theorem pay2_coe {v701 : FVec Ideal S96x128 .f32} (h : ∀ c l, v701 (ix2 c l) = ((mzOf M z c l : ℝ) : EReal)) (c j) :
    k0_pay2 (F := Ideal) v701 (ix4 0 0 c j) = ((M c j : ℝ) : EReal) := by
  pointwise [k0_pay2]; rw [h]; simp [mzOf]

theorem pay3_coe {v701 : FVec Ideal S96x128 .f32} (h : ∀ c l, v701 (ix2 c l) = ((mzOf M z c l : ℝ) : EReal)) (c) :
    k0_pay3 (F := Ideal) v701 (ix3 0 0 c) = ((z c : ℝ) : EReal) := by
  pointwise [k0_pay3]; rw [h]; simp [mzOf]

theorem pay4_coe {v710 : Vec Ideal S1x1x96 .f32} (h : ∀ c, v710 (ix3 0 0 c) = ((z c : ℝ) : EReal)) (c l) :
    k0_pay4 (F := Ideal) v710 (ix3 0 c l) = ((z c : ℝ) : EReal) := by
  pointwise [k0_pay4]; rw [h]

theorem pay5_coe {v720 : Vec Ideal S1x1x96x96 .f32} (h : ∀ c j, v720 (ix4 0 0 c j) = ((M c j : ℝ) : EReal)) (c j) :
    k0_pay5 (F := Ideal) v720 (ix3 0 c j) = ((M c j : ℝ) : EReal) := by
  pointwise [k0_pay5]; rw [h]

end Cert.KernelIdeal.Hand

end
-- ==== Proof.KernelIdeal.PayO.lean ====
/-
  The stored values of one head's trip that concern the output, read at an index over the reals: what the queries read from
  the memory (`pay59_coe`), and the arithmetic that the eight query tiles of the attention share (`tile_final`).
-/
module

public import proofs.«01_k».proof.Proof.KernelIdeal.PayM

@[expose] public section

noncomputable section

namespace Cert.KernelIdeal.Hand

open Idealize.ShloMosaic Cert.KernelIdeal.Gen Cert.Spec

variable (D : Cell) {M : Fin 96 → Fin 96 → ℝ} {z : Fin 96 → ℝ}

/-! ## What the queries read from the memory -/

theorem sq_coe {v9 : Elt Ideal .f32} {v283 : Vec Ideal S1x1x96x2048 .fp8e4m3} (h9 : v9 = ((D.qs : ℝ) : EReal))
    (h283 : ∀ c l, v283 (ix4 0 0 c l) = ((D.q c l : ℝ) : EReal)) (c l) :
    Scalar.select (k0_pay55 (F := Ideal) v9 v283 (ix2 c l)) (k0_pay56 (F := Ideal) v9 v283 (ix2 c l))
      (FloatOps.exp2 (F := Ideal) (φ := .f32) (k0_pay54 (F := Ideal) v9 v283 (ix2 c l))) = ((D.sq c l : ℝ) : EReal) := by
  pointwise [k0_pay55, k0_pay56, k0_pay54, k0_pay53]
  rw [h283, h9, log2e_val, ← EReal.coe_mul]
  exact σ_kernel _

theorem pay58_coe (x : Elt Ideal .f32) : k0_pay58 (F := Ideal) x (ix2 0 0) = (((Ideal.logistic x).toReal : ℝ) : EReal) := by
  pointwise [k0_pay58]
  exact logistic_real x

theorem dite_sub_self (p : Prop) [Decidable p] (a : p → ℝ) :
    ((if h : p then ((a h : ℝ) : EReal) else 0) - if h : p then ((a h : ℝ) : EReal) else 0) = 0 := by
  split
  · rw [← EReal.coe_sub, sub_self, EReal.coe_zero]
  · exact sub_zero 0

/-- A sum over 256 whose terms past the first 96 vanish. -/
theorem sum_256 (f : Fin 256 → EReal) (g : Fin 96 → EReal) (h : ∀ x : Fin 256, f x = if hx : x.val < 96 then g ⟨x.val, hx⟩ else 0) :
    ∑ x, f x = ∑ x, g x := by
  rw [Fin.sum_univ_add (a := 96) (b := 160) f]
  rw [show (∑ i : Fin 160, f (Fin.natAdd 96 i)) = 0 from Finset.sum_eq_zero fun i _ => by rw [h, dif_neg (by simp)], add_zero]
  exact Finset.sum_congr rfl fun i _ => by rw [h, dif_pos (by simp)]; rfl

section
variable {v274 : FVec Ideal S96x128 .f32} {v289 : FVec Ideal S96x2048 .f32} {v291 : IVec S96x2048 1} {v293 : FVec Ideal S96x2048 .f32}

set_option maxHeartbeats 4000000 in
theorem pay59_coe {v326 : Elt Ideal .f32} {g : ℝ} (hz : ∀ c, 0 < z c) (h274 : ∀ c l, v274 (ix2 c l) = ((mzOf M z c l : ℝ) : EReal))
    (hsq : ∀ c l, Scalar.select (v291 (ix2 c l)) (v293 (ix2 c l)) (FloatOps.exp2 (F := Ideal) (φ := .f32) (v289 (ix2 c l))) = ((D.sq c l : ℝ) : EReal))
    (hg : k0_pay58 (F := Ideal) v326 (ix2 0 0) = ((g : ℝ) : EReal)) (j : Fin 96) (l : Fin 2048) :
    k0_pay59 (F := Ideal) v274 v289 v291 v293 v326 (ix2 j l) = ((g * D.mem M z j l : ℝ) : EReal) := by
  have h57 : ∀ a l, k0_pay57 (F := Ideal) (ix2 a l) = (0 : EReal) := fun a l => by pointwise [k0_pay57]
  have s0 : (0 : EReal) - 0 = 0 := sub_zero 0
  have zz : ∀ (p : Prop) [Decidable p], (if _h : p then (0 : EReal) else 0) = 0 := fun p _ => by split <;> rfl
  have cs : ∀ a : ℝ, (a : EReal) - (a : EReal) = 0 := fun a => by rw [← EReal.coe_sub, sub_self, EReal.coe_zero]
  have key : ∀ (C : Fin 128) (w : Fin 256), ∀ A B : EReal,
      A = (if h : w.val < 128 then if h1 : w.val < 96 then ((mzOf M z ⟨w.val, h1⟩ C : ℝ) : EReal) else 0
        else if h1 : w.val - 128 < 96 then ((mzOf M z ⟨w.val - 128, h1⟩ C : ℝ) : EReal) else 0) →
      B = (if h : w.val < 96 then ((D.sq ⟨w.val, h⟩ l : ℝ) : EReal) else 0) →
      A * B = if hx : w.val < 96 then ((D.sq ⟨w.val, hx⟩ l * mzOf M z ⟨w.val, hx⟩ C : ℝ) : EReal) else 0 := by
    intro C w A B hA hB
    subst hA hB
    by_cases h : w.val < 96
    · have h' : w.val < 128 := by omega
      simp only [h, h', ↓reduceDIte]
      rw [← EReal.coe_mul, mul_comm]
    · simp only [h, ↓reduceDIte, mul_zero]
  pointwise [k0_pay59]
  simp only [hsq, h274, h57, hg, dite_sub_self, cs, s0, zz, zero_mul, Finset.sum_const_zero, add_zero]
  have last : ∀ (C : Fin 128), (∑ x : Fin 256, (if h : x.val < 128 then if h1 : x.val < 96 then ((mzOf M z ⟨x.val, h1⟩ C : ℝ) : EReal) else 0 else 0) *
      if h : x.val < 96 then (0 : EReal) else if h : x.val - 96 < 32 then 0 else if h : x.val - 96 - 32 < 96 then ((D.sq ⟨x.val - 96 - 32, h⟩ l : ℝ) : EReal) else 0) = 0 := by
    intro C
    refine Finset.sum_eq_zero fun x _ => ?_
    by_cases h : x.val < 96
    · simp only [h, ↓reduceDIte, mul_zero]
    · by_cases h' : x.val < 128
      · simp only [h, h', ↓reduceDIte, zero_mul]
      · simp only [h', ↓reduceDIte, zero_mul]
  have first : ∀ (C : Fin 128), (∑ x : Fin 256, (if h : x.val < 128 then if h1 : x.val < 96 then ((mzOf M z ⟨x.val, h1⟩ C : ℝ) : EReal) else 0
        else if h1 : x.val - 128 < 96 then ((mzOf M z ⟨x.val - 128, h1⟩ C : ℝ) : EReal) else 0) *
      if h : x.val < 96 then ((D.sq ⟨x.val, h⟩ l : ℝ) : EReal) else 0) = ((∑ c, D.sq c l * mzOf M z c C : ℝ) : EReal) := by
    intro C
    rw [sum_256 _ (fun c => ((D.sq c l * mzOf M z c C : ℝ) : EReal)) fun x => key C x _ _ rfl rfl, coe_sum]
  have e1 : (∑ c, D.sq c l * mzOf M z c ⟨j.val, by omega⟩) = ∑ c, D.sq c l * M c j := by simp [mzOf]
  have e2 : (∑ c, D.sq c l * mzOf M z c 96) = ∑ c, D.sq c l * z c := by simp [mzOf]
  refine Eq.trans (congrArg₂ (fun a b : EReal => a * Ideal.div ((g : ℝ) : EReal) b)
    (congrArg₂ (fun a b : EReal => a + b) (first ⟨j.val, by omega⟩) (last ⟨j.val, by omega⟩))
    (congrArg₂ (fun a b : EReal => a + b) (first 96) (last 96))) ?_
  show (_ + 0) * Ideal.div _ (_ + 0) = _
  rw [add_zero, add_zero, e1, e2, div_coe' _ _ (D.denQ_pos hz l).ne', ← EReal.coe_mul]
  congr 1
  unfold Cell.mem
  ring

end

/-! ## The attention of one query tile -/

theorem sle256 (a b : ℕ) (ha : a < 2048) (hb : b < 2048) (u v : EReal) :
    Scalar.select (IntOp.cmpi .sle (BitVec.ofNat 32 a) (BitVec.ofNat 32 b)) u v = if a ≤ b then u else v := by
  have e : BitVec.sle (BitVec.ofNat 32 a) (BitVec.ofNat 32 b) = decide (a ≤ b) := by
    rw [BitVec.sle_eq_decide, BitVec.toInt_eq_toNat_of_lt (by simp; omega), BitVec.toInt_eq_toNat_of_lt (by simp; omega)]
    simp only [BitVec.toNat_ofNat]
    congr 1
    rw [Nat.mod_eq_of_lt (by omega), Nat.mod_eq_of_lt (by omega)]
    simp
  simp only [Scalar.select, IntOp.cmpi, e]
  by_cases h : a ≤ b <;> simp [h]

theorem negInf : Ideal.ofBits .f32 0xFF800000#32 = ⊥ := by simp [Ideal.ofBits, Ideal.ieee]

/-- A sum over the first `n` keys of what vanishes at all later ones. -/
theorem sum_castLE {n : ℕ} (hn : n ≤ 2048) (f : Fin 2048 → ℝ) (h : ∀ x : Fin 2048, n ≤ x.val → f x = 0) :
    ∑ x : Fin n, f (Fin.castLE hn x) = ∑ x, f x := by
  let F : ℕ → ℝ := fun i => if h : i < 2048 then f ⟨i, h⟩ else 0
  have e1 : ∑ x : Fin n, f (Fin.castLE hn x) = ∑ x : Fin n, F x.val := Finset.sum_congr rfl fun x _ => by
    show _ = dite _ _ _
    rw [dif_pos (x.isLt.trans_le hn)]; rfl
  have e2 : ∑ x, f x = ∑ x : Fin 2048, F x.val := Finset.sum_congr rfl fun x _ => by
    show _ = dite _ _ _
    rw [dif_pos x.isLt]
  rw [e1, e2, Fin.sum_univ_eq_sum_range F n, Fin.sum_univ_eq_sum_range F 2048]
  refine Finset.sum_subset (Finset.range_subset_range.2 hn) fun i hi hi' => ?_
  rw [Finset.mem_range] at hi hi'
  show dite _ _ _ = _
  rw [dif_pos hi, h _ (not_lt.1 hi')]

/-- The maximum of scores of which at least one is a real number and none is `⊤`. -/
theorem fold_max_real {n : ℕ} (S : Fin n → EReal) (ht : ∀ x, S x ≠ ⊤) (hb : ∃ x, S x ≠ ⊥) :
    ∃ m : ℝ, Finset.fold max (⊥ : EReal) S Finset.univ = (m : EReal) := by
  have h1 : Finset.fold max (⊥ : EReal) S Finset.univ < ⊤ :=
    (Finset.fold_max_lt ⊤).2 ⟨bot_lt_top, fun x _ => lt_top_iff_ne_top.2 (ht x)⟩
  have h2 : ⊥ < Finset.fold max (⊥ : EReal) S Finset.univ := by
    obtain ⟨x, hx⟩ := hb
    exact (Finset.lt_fold_max ⊥).2 (Or.inr ⟨x, Finset.mem_univ _, bot_lt_iff_ne_bot.2 hx⟩)
  exact ⟨_, (EReal.coe_toReal h1.ne h2.ne').symm⟩

/-- A softmax over masked base-two scores, weighted and gated: the shift by the maximum cancels. -/
theorem tile_final {n off : ℕ} (hn : n = off + 256) (hn' : n ≤ 2048) (r : Fin 256) (g : ℝ) (j : Fin 96) (hl : off + r.val < 2048)
    (S V : Fin n → EReal) (hS : ∀ x, S x = if x.val ≤ off + r.val then ((D.sc (Fin.castLE hn' x) ⟨off + r.val, hl⟩ * (Real.log 2)⁻¹ : ℝ) : EReal) else ⊥)
    (hV : ∀ x, V x = ((D.vv j (Fin.castLE hn' x) : ℝ) : EReal)) (A B N : EReal) (hA : A = ((g * D.mem M z j ⟨off + r.val, hl⟩ : ℝ) : EReal))
    (hB : B = ((g : ℝ) : EReal)) (hN : N = ⊥) :
    A + (∑ x, V x * FloatOps.exp2 (F := Ideal) (φ := .f32) (S x - Finset.fold max N S Finset.univ)) *
        Ideal.div (1 - B) (∑ x, FloatOps.exp2 (F := Ideal) (φ := .f32) (S x - Finset.fold max N S Finset.univ))
      = ((D.outAt g M z j ⟨off + r.val, hl⟩ : ℝ) : EReal) := by
  subst hA hB hN
  obtain ⟨m, hm⟩ := fold_max_real S (fun x => by rw [hS]; split; exacts [EReal.coe_ne_top _, bot_ne_top])
    ⟨⟨off + r.val, by omega⟩, by rw [hS, if_pos le_rfl]; exact EReal.coe_ne_bot _⟩
  have hlog : Real.log 2 ≠ 0 := (Real.log_pos one_lt_two).ne'
  have he : ∀ x, FloatOps.exp2 (F := Ideal) (φ := .f32) (S x - Finset.fold max ⊥ S Finset.univ)
      = ((D.wt (Fin.castLE hn' x) ⟨off + r.val, hl⟩ * Real.exp (-(m * Real.log 2)) : ℝ) : EReal) := by
    intro x
    rw [hm, hS]
    show Ideal.exp2 _ = _
    unfold Cell.wt
    by_cases h : x.val ≤ off + r.val
    · have h' : Fin.castLE hn' x ≤ (⟨off + r.val, hl⟩ : Fin 2048) := h
      rw [if_pos h, if_pos h', ← EReal.coe_sub, ← Real.exp_add]
      rw [show D.sc (Fin.castLE hn' x) ⟨off + r.val, hl⟩ * (Real.log 2)⁻¹ - m
          = (D.sc (Fin.castLE hn' x) ⟨off + r.val, hl⟩ + -(m * Real.log 2)) * (Real.log 2)⁻¹ by field_simp; ring]
      exact exp2_log2e _
    · have h' : ¬ Fin.castLE hn' x ≤ (⟨off + r.val, hl⟩ : Fin 2048) := h
      rw [if_neg h, if_neg h', zero_mul, EReal.bot_sub, EReal.coe_zero]
      rfl
  have hw : ∀ x : Fin 2048, n ≤ x.val → D.wt x ⟨off + r.val, hl⟩ = 0 := fun x hx => by
    unfold Cell.wt
    rw [if_neg]
    intro h
    have : x.val ≤ off + r.val := h
    omega
  simp only [he, hV, ← EReal.coe_mul, coe_sum, ← EReal.coe_one, ← EReal.coe_sub]
  have hκ := Real.exp_pos (-(m * Real.log 2))
  have e1 : ∑ x : Fin n, D.wt (Fin.castLE hn' x) ⟨off + r.val, hl⟩ * Real.exp (-(m * Real.log 2))
      = (∑ x, D.wt x ⟨off + r.val, hl⟩) * Real.exp (-(m * Real.log 2)) := by
    rw [← Finset.sum_mul, sum_castLE hn' (fun x => D.wt x ⟨off + r.val, hl⟩) hw]
  have e2 : ∑ x : Fin n, D.vv j (Fin.castLE hn' x) * (D.wt (Fin.castLE hn' x) ⟨off + r.val, hl⟩ * Real.exp (-(m * Real.log 2)))
      = (∑ x, D.wt x ⟨off + r.val, hl⟩ * D.vv j x) * Real.exp (-(m * Real.log 2)) := by
    rw [← sum_castLE hn' (fun x => D.wt x ⟨off + r.val, hl⟩ * D.vv j x) (fun x hx => by rw [hw x hx, zero_mul]), Finset.sum_mul]
    exact Finset.sum_congr rfl fun x _ => by ring
  rw [e1, e2, div_coe' _ _ (mul_pos (D.wtSum_pos _) hκ).ne', ← EReal.coe_mul, ← EReal.coe_add]
  congr 1
  unfold Cell.outAt Cell.att
  have := (D.wtSum_pos ⟨off + r.val, hl⟩).ne'
  field_simp

end Cert.KernelIdeal.Hand

end
-- ==== Proof.KernelIdeal.PayT.lean ====
/-
  The eight query tiles of the attention: what each stores is the output of the specification at its 256 queries.
-/
module

public import proofs.«01_k».proof.Proof.KernelIdeal.PayO

@[expose] public section

noncomputable section

namespace Cert.KernelIdeal.Hand

open Idealize.ShloMosaic Cert.KernelIdeal.Gen Cert.Spec

variable (D : Cell) {M : Fin 96 → Fin 96 → ℝ} {z : Fin 96 → ℝ} {g : ℝ}
  {v329 : FVec Ideal S1x1 .f32} {v335 : FVec Ideal S96x2048 .f32}

set_option maxRecDepth 20000 in
set_option maxHeartbeats 4000000 in
theorem tile0 {a : Vec Ideal S256x96 .fp8e4m3} {b : Vec Ideal S1x1x96x256 .fp8e4m3} {s : Vec Ideal S256x128 .f32} {v : Vec Ideal S96x256 .bf16}
    (h329 : v329 (ix2 0 0) = ((g : ℝ) : EReal)) (h335 : ∀ j l, v335 (ix2 j l) = ((g * D.mem M z j l : ℝ) : EReal))
    (ha : ∀ (x : Fin 256) c, a (ix2 x c) = ((D.k c (Fin.castLE (by decide) x) : ℝ) : EReal))
    (hb : ∀ c (r : Fin 256), b (ix4 0 0 c r) = ((D.q c ⟨0 + r.val, by omega⟩ : ℝ) : EReal))
    (hs : ∀ (x : Fin 256) y, s (ix2 x y) = ((D.qs * rsqrt96 * (Real.log 2)⁻¹ * D.ks (Fin.castLE (by decide) x) : ℝ) : EReal))
    (hv : ∀ j (x : Fin 256), v (ix2 j x) = ((D.vv j (Fin.castLE (by decide) x) : ℝ) : EReal)) (j : Fin 96) (r : Fin 256) :
    k0_pay61 (F := Ideal) v329 v335 (k0_pay60 (F := Ideal) a b) s v (ix4 0 0 j r) = ((D.outAt g M z j ⟨0 + r.val, by omega⟩ : ℝ) : EReal) := by
  have hS : ∀ x : Fin 256, (select (cmpi .sle (iota .tc S256x256 32 [0] iota_S256x256_d0_w32) (iota .tc S256x256 32 [1] iota_S256x256_d1_w32)) (mulf (k0_pay60 (F := Ideal) a b) (concatenate S256x256 1 [⟨S256x128, (s)⟩, ⟨S256x128, (s)⟩] concatenates_S256x128_S256x128_S256x256_d1)) (broadcast S256x256 (Scalar.ofBits .f32 0xFF800000#32)) : FVec Ideal S256x256 .f32) (ix2 x r)
      = if x.val ≤ 0 + r.val then ((D.sc (Fin.castLE (by decide) x) ⟨0 + r.val, by omega⟩ * (Real.log 2)⁻¹ : ℝ) : EReal) else ⊥ := by
    intro x
    pointwise [k0_pay60]
    simp only [ha, hb, hs, ← EReal.coe_mul, coe_sum, negInf, dite_eq_ite, ite_self]
    rw [sle256 _ _ (by omega) (by omega)]
    simp only [Nat.zero_add]
    by_cases h : x.val ≤ r.val
    · rw [if_pos h, if_pos h]
      congr 1
      simp only [Cell.sc]
      ring
    · rw [if_neg h, if_neg h]
  unfold k0_pay61
  dsimp only
  generalize (select (cmpi .sle (iota .tc S256x256 32 [0] iota_S256x256_d0_w32) (iota .tc S256x256 32 [1] iota_S256x256_d1_w32)) (mulf (k0_pay60 (F := Ideal) a b) (concatenate S256x256 1 [⟨S256x128, (s)⟩, ⟨S256x128, (s)⟩] concatenates_S256x128_S256x128_S256x256_d1)) (broadcast S256x256 (Scalar.ofBits .f32 0xFF800000#32)) : FVec Ideal S256x256 .f32) = S at hS ⊢
  pointwise
  have this := tile_final D (n := 256) (off := 0) rfl (by decide) r g j (by omega) (fun x => S (ix2 x r)) (fun x => v (ix2 j x)) hS (hv j) _ _ _ (h335 _ _) h329 negInf
  simp only [Nat.zero_add] at this
  simpa only [Nat.zero_add] using this

set_option maxRecDepth 20000 in
set_option maxHeartbeats 4000000 in
theorem tile1 {a : Vec Ideal S512x96 .fp8e4m3} {b : Vec Ideal S1x1x96x256 .fp8e4m3} {s : Vec Ideal S512x128 .f32} {v : Vec Ideal S96x512 .bf16}
    (h329 : v329 (ix2 0 0) = ((g : ℝ) : EReal)) (h335 : ∀ j l, v335 (ix2 j l) = ((g * D.mem M z j l : ℝ) : EReal))
    (ha : ∀ (x : Fin 512) c, a (ix2 x c) = ((D.k c (Fin.castLE (by decide) x) : ℝ) : EReal))
    (hb : ∀ c (r : Fin 256), b (ix4 0 0 c r) = ((D.q c ⟨256 + r.val, by omega⟩ : ℝ) : EReal))
    (hs : ∀ (x : Fin 512) y, s (ix2 x y) = ((D.qs * rsqrt96 * (Real.log 2)⁻¹ * D.ks (Fin.castLE (by decide) x) : ℝ) : EReal))
    (hv : ∀ j (x : Fin 512), v (ix2 j x) = ((D.vv j (Fin.castLE (by decide) x) : ℝ) : EReal)) (j : Fin 96) (r : Fin 256) :
    k0_pay63 (F := Ideal) v329 v335 (k0_pay62 (F := Ideal) a b s) (iota .tc S256x256 32 [0] iota_S256x256_d0_w32) (iota .tc S256x256 32 [1] iota_S256x256_d1_w32) v (ix4 0 0 j r) = ((D.outAt g M z j ⟨256 + r.val, by omega⟩ : ℝ) : EReal) := by
  have hS : ∀ x : Fin 512, (concatenate S512x256 0 [⟨S256x256, (extractStridedSlice S256x256 ![0, 0] (k0_pay62 (F := Ideal) a b s) slices_S512x256_o0_0_S256x256)⟩, ⟨S256x256, (select (cmpi .sle (iota .tc S256x256 32 [0] iota_S256x256_d0_w32) (iota .tc S256x256 32 [1] iota_S256x256_d1_w32)) (extractStridedSlice S256x256 ![256, 0] (k0_pay62 (F := Ideal) a b s) slices_S512x256_o256_0_S256x256) (broadcast S256x256 (Scalar.ofBits .f32 0xFF800000#32)))⟩] concatenates_S256x256_S256x256_S512x256_d0 : FVec Ideal S512x256 .f32) (ix2 x r)
      = if x.val ≤ 256 + r.val then ((D.sc (Fin.castLE (by decide) x) ⟨256 + r.val, by omega⟩ * (Real.log 2)⁻¹ : ℝ) : EReal) else ⊥ := by
    intro x
    pointwise [k0_pay62]
    simp only [ha, hb, hs, ← EReal.coe_mul, coe_sum, negInf, dite_eq_ite, ite_self]
    by_cases hx : x.val < 256
    · simp only [hx, ↓reduceDIte]
      rw [if_pos (by omega)]
      congr 1
      simp only [Cell.sc]
      first | ring | (show _ * (_ * _ * D.ks (Fin.castLE _ x) * _) = _; ring) | (show _ * (_ * _ * _ * D.ks (Fin.castLE _ x)) = _; ring)
    · have e : 256 + (x.val - 256) = x.val := by omega
      simp only [hx, ↓reduceDIte, e]
      rw [sle256 _ _ (by omega) (by omega)]
      by_cases h : x.val - 256 ≤ r.val
      · rw [if_pos h]
        refine Eq.trans ?_ (if_pos (by omega)).symm
        have hc : ∀ y : ℝ, y = D.qs * rsqrt96 * (Real.log 2)⁻¹ * D.ks (Fin.castLE (by decide) x) →
            ((∑ c, D.k c (Fin.castLE (by decide) x) * D.q c ⟨256 + r.val, by omega⟩ : ℝ) : EReal) * (y : EReal)
              = ((D.sc (Fin.castLE (by decide) x) ⟨256 + r.val, by omega⟩ * (Real.log 2)⁻¹ : ℝ) : EReal) := by
          rintro y rfl
          rw [← EReal.coe_mul]
          congr 1
          simp only [Cell.sc]
          ring
        by_cases h2 : r.val < 128
        · exact (congrArg (fun y : EReal => _ * y) (dif_pos h2)).trans (hc _ rfl)
        · exact (congrArg (fun y : EReal => _ * y) (dif_neg h2)).trans (hc _ rfl)
      · rw [if_neg h]
        exact (if_neg (by omega)).symm
  unfold k0_pay63
  dsimp only
  generalize (concatenate S512x256 0 [⟨S256x256, (extractStridedSlice S256x256 ![0, 0] (k0_pay62 (F := Ideal) a b s) slices_S512x256_o0_0_S256x256)⟩, ⟨S256x256, (select (cmpi .sle (iota .tc S256x256 32 [0] iota_S256x256_d0_w32) (iota .tc S256x256 32 [1] iota_S256x256_d1_w32)) (extractStridedSlice S256x256 ![256, 0] (k0_pay62 (F := Ideal) a b s) slices_S512x256_o256_0_S256x256) (broadcast S256x256 (Scalar.ofBits .f32 0xFF800000#32)))⟩] concatenates_S256x256_S256x256_S512x256_d0 : FVec Ideal S512x256 .f32) = S at hS ⊢
  pointwise
  exact tile_final D (n := 512) (off := 256) rfl (by decide) r g j (by omega) (fun x => S (ix2 x r)) (fun x => v (ix2 j x)) hS (hv j) _ _ _ (h335 _ _) h329 negInf

set_option maxRecDepth 20000 in
set_option maxHeartbeats 4000000 in
theorem tile2 {a : Vec Ideal S768x96 .fp8e4m3} {b : Vec Ideal S1x1x96x256 .fp8e4m3} {s : Vec Ideal S768x128 .f32} {v : Vec Ideal S96x768 .bf16}
    (h329 : v329 (ix2 0 0) = ((g : ℝ) : EReal)) (h335 : ∀ j l, v335 (ix2 j l) = ((g * D.mem M z j l : ℝ) : EReal))
    (ha : ∀ (x : Fin 768) c, a (ix2 x c) = ((D.k c (Fin.castLE (by decide) x) : ℝ) : EReal))
    (hb : ∀ c (r : Fin 256), b (ix4 0 0 c r) = ((D.q c ⟨512 + r.val, by omega⟩ : ℝ) : EReal))
    (hs : ∀ (x : Fin 768) y, s (ix2 x y) = ((D.qs * rsqrt96 * (Real.log 2)⁻¹ * D.ks (Fin.castLE (by decide) x) : ℝ) : EReal))
    (hv : ∀ j (x : Fin 768), v (ix2 j x) = ((D.vv j (Fin.castLE (by decide) x) : ℝ) : EReal)) (j : Fin 96) (r : Fin 256) :
    k0_pay67 (F := Ideal) v329 v335 (k0_pay64 (F := Ideal) a b s) k0_pay65 (k0_pay66 (F := Ideal) a b s) v (ix4 0 0 j r) = ((D.outAt g M z j ⟨512 + r.val, by omega⟩ : ℝ) : EReal) := by
  have hS : ∀ x : Fin 768, (concatenate S768x256 0 [⟨S512x256, (extractStridedSlice S512x256 ![0, 0] (k0_pay64 (F := Ideal) a b s) slices_S768x256_o0_0_S512x256)⟩, ⟨S256x256, (select (k0_pay65) (k0_pay66 (F := Ideal) a b s) (broadcast S256x256 (Scalar.ofBits .f32 0xFF800000#32)))⟩] concatenates_S512x256_S256x256_S768x256_d0 : FVec Ideal S768x256 .f32) (ix2 x r)
      = if x.val ≤ 512 + r.val then ((D.sc (Fin.castLE (by decide) x) ⟨512 + r.val, by omega⟩ * (Real.log 2)⁻¹ : ℝ) : EReal) else ⊥ := by
    intro x
    pointwise [k0_pay64, k0_pay65, k0_pay66]
    simp only [ha, hb, hs, ← EReal.coe_mul, coe_sum, negInf, dite_eq_ite, ite_self]
    by_cases hx : x.val < 512
    · simp only [hx, ↓reduceDIte]
      rw [if_pos (by omega)]
      congr 1
      simp only [Cell.sc]
      first | ring | (show _ * (_ * _ * D.ks (Fin.castLE _ x) * _) = _; ring) | (show _ * (_ * _ * _ * D.ks (Fin.castLE _ x)) = _; ring)
    · have e : 512 + (x.val - 512) = x.val := by omega
      simp only [hx, ↓reduceDIte, e]
      rw [sle256 _ _ (by omega) (by omega)]
      by_cases h : x.val - 512 ≤ r.val
      · rw [if_pos h]
        refine Eq.trans ?_ (if_pos (by omega)).symm
        have hc : ∀ y : ℝ, y = D.qs * rsqrt96 * (Real.log 2)⁻¹ * D.ks (Fin.castLE (by decide) x) →
            ((∑ c, D.k c (Fin.castLE (by decide) x) * D.q c ⟨512 + r.val, by omega⟩ : ℝ) : EReal) * (y : EReal)
              = ((D.sc (Fin.castLE (by decide) x) ⟨512 + r.val, by omega⟩ * (Real.log 2)⁻¹ : ℝ) : EReal) := by
          rintro y rfl
          rw [← EReal.coe_mul]
          congr 1
          simp only [Cell.sc]
          ring
        by_cases h2 : r.val < 128
        · exact (congrArg (fun y : EReal => _ * y) (dif_pos h2)).trans (hc _ rfl)
        · exact (congrArg (fun y : EReal => _ * y) (dif_neg h2)).trans (hc _ rfl)
      · rw [if_neg h]
        exact (if_neg (by omega)).symm
  unfold k0_pay67
  dsimp only
  generalize (concatenate S768x256 0 [⟨S512x256, (extractStridedSlice S512x256 ![0, 0] (k0_pay64 (F := Ideal) a b s) slices_S768x256_o0_0_S512x256)⟩, ⟨S256x256, (select (k0_pay65) (k0_pay66 (F := Ideal) a b s) (broadcast S256x256 (Scalar.ofBits .f32 0xFF800000#32)))⟩] concatenates_S512x256_S256x256_S768x256_d0 : FVec Ideal S768x256 .f32) = S at hS ⊢
  pointwise
  exact tile_final D (n := 768) (off := 512) rfl (by decide) r g j (by omega) (fun x => S (ix2 x r)) (fun x => v (ix2 j x)) hS (hv j) _ _ _ (h335 _ _) h329 negInf

set_option maxRecDepth 20000 in
set_option maxHeartbeats 4000000 in
theorem tile3 {a : Vec Ideal S1024x96 .fp8e4m3} {b : Vec Ideal S1x1x96x256 .fp8e4m3} {s : Vec Ideal S1024x128 .f32} {v : Vec Ideal S96x1024 .bf16}
    (h329 : v329 (ix2 0 0) = ((g : ℝ) : EReal)) (h335 : ∀ j l, v335 (ix2 j l) = ((g * D.mem M z j l : ℝ) : EReal))
    (ha : ∀ (x : Fin 1024) c, a (ix2 x c) = ((D.k c (Fin.castLE (by decide) x) : ℝ) : EReal))
    (hb : ∀ c (r : Fin 256), b (ix4 0 0 c r) = ((D.q c ⟨768 + r.val, by omega⟩ : ℝ) : EReal))
    (hs : ∀ (x : Fin 1024) y, s (ix2 x y) = ((D.qs * rsqrt96 * (Real.log 2)⁻¹ * D.ks (Fin.castLE (by decide) x) : ℝ) : EReal))
    (hv : ∀ j (x : Fin 1024), v (ix2 j x) = ((D.vv j (Fin.castLE (by decide) x) : ℝ) : EReal)) (j : Fin 96) (r : Fin 256) :
    k0_pay72 (F := Ideal) v329 v335 (k0_pay68 (F := Ideal) a b s) k0_pay69 (k0_pay70 (F := Ideal) a b s) (k0_pay71 (F := Ideal)) v (ix4 0 0 j r) = ((D.outAt g M z j ⟨768 + r.val, by omega⟩ : ℝ) : EReal) := by
  have hS : ∀ x : Fin 1024, (concatenate S1024x256 0 [⟨S768x256, (extractStridedSlice S768x256 ![0, 0] (k0_pay68 (F := Ideal) a b s) slices_S1024x256_o0_0_S768x256)⟩, ⟨S256x256, (select (k0_pay69) (k0_pay70 (F := Ideal) a b s) (k0_pay71 (F := Ideal)))⟩] concatenates_S768x256_S256x256_S1024x256_d0 : FVec Ideal S1024x256 .f32) (ix2 x r)
      = if x.val ≤ 768 + r.val then ((D.sc (Fin.castLE (by decide) x) ⟨768 + r.val, by omega⟩ * (Real.log 2)⁻¹ : ℝ) : EReal) else ⊥ := by
    intro x
    pointwise [k0_pay68, k0_pay69, k0_pay70, k0_pay71]
    simp only [ha, hb, hs, ← EReal.coe_mul, coe_sum, negInf, dite_eq_ite, ite_self]
    by_cases hx : x.val < 768
    · simp only [hx, ↓reduceDIte]
      rw [if_pos (by omega)]
      congr 1
      simp only [Cell.sc]
      first | ring | (show _ * (_ * _ * D.ks (Fin.castLE _ x) * _) = _; ring) | (show _ * (_ * _ * _ * D.ks (Fin.castLE _ x)) = _; ring)
    · have e : 768 + (x.val - 768) = x.val := by omega
      simp only [hx, ↓reduceDIte, e]
      rw [sle256 _ _ (by omega) (by omega)]
      by_cases h : x.val - 768 ≤ r.val
      · rw [if_pos h]
        refine Eq.trans ?_ (if_pos (by omega)).symm
        have hc : ∀ y : ℝ, y = D.qs * rsqrt96 * (Real.log 2)⁻¹ * D.ks (Fin.castLE (by decide) x) →
            ((∑ c, D.k c (Fin.castLE (by decide) x) * D.q c ⟨768 + r.val, by omega⟩ : ℝ) : EReal) * (y : EReal)
              = ((D.sc (Fin.castLE (by decide) x) ⟨768 + r.val, by omega⟩ * (Real.log 2)⁻¹ : ℝ) : EReal) := by
          rintro y rfl
          rw [← EReal.coe_mul]
          congr 1
          simp only [Cell.sc]
          ring
        by_cases h2 : r.val < 128
        · exact (congrArg (fun y : EReal => _ * y) (dif_pos h2)).trans (hc _ rfl)
        · exact (congrArg (fun y : EReal => _ * y) (dif_neg h2)).trans (hc _ rfl)
      · rw [if_neg h]
        exact (if_neg (by omega)).symm
  unfold k0_pay72
  dsimp only
  generalize (concatenate S1024x256 0 [⟨S768x256, (extractStridedSlice S768x256 ![0, 0] (k0_pay68 (F := Ideal) a b s) slices_S1024x256_o0_0_S768x256)⟩, ⟨S256x256, (select (k0_pay69) (k0_pay70 (F := Ideal) a b s) (k0_pay71 (F := Ideal)))⟩] concatenates_S768x256_S256x256_S1024x256_d0 : FVec Ideal S1024x256 .f32) = S at hS ⊢
  pointwise
  exact tile_final D (n := 1024) (off := 768) rfl (by decide) r g j (by omega) (fun x => S (ix2 x r)) (fun x => v (ix2 j x)) hS (hv j) _ _ _ (h335 _ _) h329 negInf

set_option maxRecDepth 20000 in
set_option maxHeartbeats 4000000 in
theorem tile4 {a : Vec Ideal S1280x96 .fp8e4m3} {b : Vec Ideal S1x1x96x256 .fp8e4m3} {s : Vec Ideal S1280x128 .f32} {v : Vec Ideal S96x1280 .bf16}
    (h329 : v329 (ix2 0 0) = ((g : ℝ) : EReal)) (h335 : ∀ j l, v335 (ix2 j l) = ((g * D.mem M z j l : ℝ) : EReal))
    (ha : ∀ (x : Fin 1280) c, a (ix2 x c) = ((D.k c (Fin.castLE (by decide) x) : ℝ) : EReal))
    (hb : ∀ c (r : Fin 256), b (ix4 0 0 c r) = ((D.q c ⟨1024 + r.val, by omega⟩ : ℝ) : EReal))
    (hs : ∀ (x : Fin 1280) y, s (ix2 x y) = ((D.qs * rsqrt96 * (Real.log 2)⁻¹ * D.ks (Fin.castLE (by decide) x) : ℝ) : EReal))
    (hv : ∀ j (x : Fin 1280), v (ix2 j x) = ((D.vv j (Fin.castLE (by decide) x) : ℝ) : EReal)) (j : Fin 96) (r : Fin 256) :
    k0_pay76 (F := Ideal) v329 v335 (k0_pay74 (F := Ideal) a b s) (k0_pay75 (F := Ideal) a b s) v (ix4 0 0 j r) = ((D.outAt g M z j ⟨1024 + r.val, by omega⟩ : ℝ) : EReal) := by
  have hS : ∀ x : Fin 1280, (concatenate S1280x256 0 [⟨S1024x256, (k0_pay75 (F := Ideal) a b s)⟩, ⟨S256x256, (k0_pay74 (F := Ideal) a b s)⟩] concatenates_S1024x256_S256x256_S1280x256_d0 : FVec Ideal S1280x256 .f32) (ix2 x r)
      = if x.val ≤ 1024 + r.val then ((D.sc (Fin.castLE (by decide) x) ⟨1024 + r.val, by omega⟩ * (Real.log 2)⁻¹ : ℝ) : EReal) else ⊥ := by
    intro x
    pointwise [k0_pay73, k0_pay74, k0_pay75]
    simp only [ha, hb, hs, ← EReal.coe_mul, coe_sum, negInf, dite_eq_ite, ite_self]
    by_cases hx : x.val < 1024
    · simp only [hx, ↓reduceDIte]
      rw [if_pos (by omega)]
      congr 1
      simp only [Cell.sc]
      first | ring | (show _ * (_ * _ * D.ks (Fin.castLE _ x) * _) = _; ring) | (show _ * (_ * _ * _ * D.ks (Fin.castLE _ x)) = _; ring)
    · have e : 1024 + (x.val - 1024) = x.val := by omega
      simp only [hx, ↓reduceDIte, e]
      rw [sle256 _ _ (by omega) (by omega)]
      by_cases h : x.val - 1024 ≤ r.val
      · rw [if_pos h]
        refine Eq.trans ?_ (if_pos (by omega)).symm
        have hc : ∀ y : ℝ, y = D.qs * rsqrt96 * (Real.log 2)⁻¹ * D.ks (Fin.castLE (by decide) x) →
            ((∑ c, D.k c (Fin.castLE (by decide) x) * D.q c ⟨1024 + r.val, by omega⟩ : ℝ) : EReal) * (y : EReal)
              = ((D.sc (Fin.castLE (by decide) x) ⟨1024 + r.val, by omega⟩ * (Real.log 2)⁻¹ : ℝ) : EReal) := by
          rintro y rfl
          rw [← EReal.coe_mul]
          congr 1
          simp only [Cell.sc]
          ring
        by_cases h2 : r.val < 128
        · exact (congrArg (fun y : EReal => _ * y) (dif_pos h2)).trans (hc _ rfl)
        · exact (congrArg (fun y : EReal => _ * y) (dif_neg h2)).trans (hc _ rfl)
      · rw [if_neg h]
        exact (if_neg (by omega)).symm
  unfold k0_pay76
  dsimp only
  generalize (concatenate S1280x256 0 [⟨S1024x256, (k0_pay75 (F := Ideal) a b s)⟩, ⟨S256x256, (k0_pay74 (F := Ideal) a b s)⟩] concatenates_S1024x256_S256x256_S1280x256_d0 : FVec Ideal S1280x256 .f32) = S at hS ⊢
  pointwise
  exact tile_final D (n := 1280) (off := 1024) rfl (by decide) r g j (by omega) (fun x => S (ix2 x r)) (fun x => v (ix2 j x)) hS (hv j) _ _ _ (h335 _ _) h329 negInf

set_option maxRecDepth 20000 in
set_option maxHeartbeats 4000000 in
theorem tile5 {a : Vec Ideal S1536x96 .fp8e4m3} {b : Vec Ideal S1x1x96x256 .fp8e4m3} {s : Vec Ideal S1536x128 .f32} {v : Vec Ideal S96x1536 .bf16}
    (h329 : v329 (ix2 0 0) = ((g : ℝ) : EReal)) (h335 : ∀ j l, v335 (ix2 j l) = ((g * D.mem M z j l : ℝ) : EReal))
    (ha : ∀ (x : Fin 1536) c, a (ix2 x c) = ((D.k c (Fin.castLE (by decide) x) : ℝ) : EReal))
    (hb : ∀ c (r : Fin 256), b (ix4 0 0 c r) = ((D.q c ⟨1280 + r.val, by omega⟩ : ℝ) : EReal))
    (hs : ∀ (x : Fin 1536) y, s (ix2 x y) = ((D.qs * rsqrt96 * (Real.log 2)⁻¹ * D.ks (Fin.castLE (by decide) x) : ℝ) : EReal))
    (hv : ∀ j (x : Fin 1536), v (ix2 j x) = ((D.vv j (Fin.castLE (by decide) x) : ℝ) : EReal)) (j : Fin 96) (r : Fin 256) :
    k0_pay78 (F := Ideal) v329 v335 (k0_pay77 (F := Ideal) a b s) v (ix4 0 0 j r) = ((D.outAt g M z j ⟨1280 + r.val, by omega⟩ : ℝ) : EReal) := by
  have hS : ∀ x : Fin 1536, (k0_pay77 (F := Ideal) a b s : FVec Ideal S1536x256 .f32) (ix2 x r)
      = if x.val ≤ 1280 + r.val then ((D.sc (Fin.castLE (by decide) x) ⟨1280 + r.val, by omega⟩ * (Real.log 2)⁻¹ : ℝ) : EReal) else ⊥ := by
    intro x
    pointwise [k0_pay77]
    simp only [ha, hb, hs, ← EReal.coe_mul, coe_sum, negInf, dite_eq_ite, ite_self]
    by_cases hx : x.val < 1280
    · simp only [hx, ↓reduceDIte]
      rw [if_pos (by omega)]
      congr 1
      simp only [Cell.sc]
      first | ring | (show _ * (_ * _ * D.ks (Fin.castLE _ x) * _) = _; ring) | (show _ * (_ * _ * _ * D.ks (Fin.castLE _ x)) = _; ring)
    · have e : 1280 + (x.val - 1280) = x.val := by omega
      simp only [hx, ↓reduceDIte, e]
      rw [sle256 _ _ (by omega) (by omega)]
      by_cases h : x.val - 1280 ≤ r.val
      · rw [if_pos h]
        refine Eq.trans ?_ (if_pos (by omega)).symm
        have hc : ∀ y : ℝ, y = D.qs * rsqrt96 * (Real.log 2)⁻¹ * D.ks (Fin.castLE (by decide) x) →
            ((∑ c, D.k c (Fin.castLE (by decide) x) * D.q c ⟨1280 + r.val, by omega⟩ : ℝ) : EReal) * (y : EReal)
              = ((D.sc (Fin.castLE (by decide) x) ⟨1280 + r.val, by omega⟩ * (Real.log 2)⁻¹ : ℝ) : EReal) := by
          rintro y rfl
          rw [← EReal.coe_mul]
          congr 1
          simp only [Cell.sc]
          ring
        by_cases h2 : r.val < 128
        · exact (congrArg (fun y : EReal => _ * y) (dif_pos h2)).trans (hc _ rfl)
        · exact (congrArg (fun y : EReal => _ * y) (dif_neg h2)).trans (hc _ rfl)
      · rw [if_neg h]
        exact (if_neg (by omega)).symm
  generalize k0_pay77 (F := Ideal) a b s = S at hS ⊢
  pointwise [k0_pay78]
  exact tile_final D (n := 1536) (off := 1280) rfl (by decide) r g j (by omega) (fun x => S (ix2 x r)) (fun x => v (ix2 j x)) hS (hv j) _ _ _ (h335 _ _) h329 negInf

set_option maxRecDepth 20000 in
set_option maxHeartbeats 4000000 in
theorem tile6 {a : Vec Ideal S1792x96 .fp8e4m3} {b : Vec Ideal S1x1x96x256 .fp8e4m3} {s : Vec Ideal S1792x128 .f32} {v : Vec Ideal S96x1792 .bf16}
    (h329 : v329 (ix2 0 0) = ((g : ℝ) : EReal)) (h335 : ∀ j l, v335 (ix2 j l) = ((g * D.mem M z j l : ℝ) : EReal))
    (ha : ∀ (x : Fin 1792) c, a (ix2 x c) = ((D.k c (Fin.castLE (by decide) x) : ℝ) : EReal))
    (hb : ∀ c (r : Fin 256), b (ix4 0 0 c r) = ((D.q c ⟨1536 + r.val, by omega⟩ : ℝ) : EReal))
    (hs : ∀ (x : Fin 1792) y, s (ix2 x y) = ((D.qs * rsqrt96 * (Real.log 2)⁻¹ * D.ks (Fin.castLE (by decide) x) : ℝ) : EReal))
    (hv : ∀ j (x : Fin 1792), v (ix2 j x) = ((D.vv j (Fin.castLE (by decide) x) : ℝ) : EReal)) (j : Fin 96) (r : Fin 256) :
    k0_pay81 (F := Ideal) v329 v335 (k0_pay79 (F := Ideal) a b s) (k0_pay80 (F := Ideal) a b s) v (ix4 0 0 j r) = ((D.outAt g M z j ⟨1536 + r.val, by omega⟩ : ℝ) : EReal) := by
  have hS : ∀ x : Fin 1792, (k0_pay79 (F := Ideal) a b s : FVec Ideal S1792x256 .f32) (ix2 x r)
      = if x.val ≤ 1536 + r.val then ((D.sc (Fin.castLE (by decide) x) ⟨1536 + r.val, by omega⟩ * (Real.log 2)⁻¹ : ℝ) : EReal) else ⊥ := by
    intro x
    pointwise [k0_pay79]
    simp only [ha, hb, hs, ← EReal.coe_mul, coe_sum, negInf, dite_eq_ite, ite_self]
    by_cases hx : x.val < 1536
    · simp only [hx, ↓reduceDIte]
      rw [if_pos (by omega)]
      congr 1
      simp only [Cell.sc]
      first | ring | (show _ * (_ * _ * D.ks (Fin.castLE _ x) * _) = _; ring) | (show _ * (_ * _ * _ * D.ks (Fin.castLE _ x)) = _; ring)
    · have e : 1536 + (x.val - 1536) = x.val := by omega
      simp only [hx, ↓reduceDIte, e]
      rw [sle256 _ _ (by omega) (by omega)]
      by_cases h : x.val - 1536 ≤ r.val
      · rw [if_pos h]
        refine Eq.trans ?_ (if_pos (by omega)).symm
        have hc : ∀ y : ℝ, y = D.qs * rsqrt96 * (Real.log 2)⁻¹ * D.ks (Fin.castLE (by decide) x) →
            ((∑ c, D.k c (Fin.castLE (by decide) x) * D.q c ⟨1536 + r.val, by omega⟩ : ℝ) : EReal) * (y : EReal)
              = ((D.sc (Fin.castLE (by decide) x) ⟨1536 + r.val, by omega⟩ * (Real.log 2)⁻¹ : ℝ) : EReal) := by
          rintro y rfl
          rw [← EReal.coe_mul]
          congr 1
          simp only [Cell.sc]
          ring
        by_cases h2 : r.val < 128
        · exact (congrArg (fun y : EReal => _ * y) (dif_pos h2)).trans (hc _ rfl)
        · exact (congrArg (fun y : EReal => _ * y) (dif_neg h2)).trans (hc _ rfl)
      · rw [if_neg h]
        exact (if_neg (by omega)).symm
  unfold k0_pay80
  dsimp only
  generalize k0_pay79 (F := Ideal) a b s = S at hS ⊢
  pointwise [k0_pay81]
  exact tile_final D (n := 1792) (off := 1536) rfl (by decide) r g j (by omega) (fun x => S (ix2 x r)) (fun x => v (ix2 j x)) hS (hv j) _ _ _ (h335 _ _) h329 negInf

set_option maxRecDepth 20000 in
set_option maxHeartbeats 4000000 in
theorem tile7 {a : Vec Ideal S2048x96 .fp8e4m3} {b : Vec Ideal S1x1x96x256 .fp8e4m3} {s : Vec Ideal S2048x128 .f32} {v : Vec Ideal S96x2048 .bf16}
    (h329 : v329 (ix2 0 0) = ((g : ℝ) : EReal)) (h335 : ∀ j l, v335 (ix2 j l) = ((g * D.mem M z j l : ℝ) : EReal))
    (ha : ∀ (x : Fin 2048) c, a (ix2 x c) = ((D.k c (Fin.castLE (by decide) x) : ℝ) : EReal))
    (hb : ∀ c (r : Fin 256), b (ix4 0 0 c r) = ((D.q c ⟨1792 + r.val, by omega⟩ : ℝ) : EReal))
    (hs : ∀ (x : Fin 2048) y, s (ix2 x y) = ((D.qs * rsqrt96 * (Real.log 2)⁻¹ * D.ks (Fin.castLE (by decide) x) : ℝ) : EReal))
    (hv : ∀ j (x : Fin 2048), v (ix2 j x) = ((D.vv j (Fin.castLE (by decide) x) : ℝ) : EReal)) (j : Fin 96) (r : Fin 256) :
    k0_pay83 (F := Ideal) v329 v335 (k0_pay82 (F := Ideal) a b s) v (ix4 0 0 j r) = ((D.outAt g M z j ⟨1792 + r.val, by omega⟩ : ℝ) : EReal) := by
  have hS : ∀ x : Fin 2048, (concatenate S2048x256 0 [⟨S1792x256, (extractStridedSlice S1792x256 ![0, 0] (mulf (matmul (φ₁ := .fp8e4m3) (φ₂ := .fp8e4m3) dot_S2048x96_S96x256_S2048x256_1_0_0_1_n_n none ((a : FVec Ideal S2048x96 .fp8e4m3)) (shapeCast S96x256 (b) shapeCasts_S1x1x96x256_S96x256 : FVec Ideal S96x256 .fp8e4m3) (constant S2048x256 .f32 0x00000000#32) : FVec Ideal S2048x256 .f32) (concatenate S2048x256 1 [⟨S2048x128, (s)⟩, ⟨S2048x128, (s)⟩] concatenates_S2048x128_S2048x128_S2048x256_d1 : FVec Ideal S2048x256 .f32) : FVec Ideal S2048x256 .f32) slices_S2048x256_o0_0_S1792x256 : FVec Ideal S1792x256 .f32)⟩, ⟨S256x256, (select (cmpi .sle (iota .tc S256x256 32 [0] iota_S256x256_d0_w32) (iota .tc S256x256 32 [1] iota_S256x256_d1_w32)) (extractStridedSlice S256x256 ![1792, 0] (mulf (matmul (φ₁ := .fp8e4m3) (φ₂ := .fp8e4m3) dot_S2048x96_S96x256_S2048x256_1_0_0_1_n_n none ((a : FVec Ideal S2048x96 .fp8e4m3)) (shapeCast S96x256 (b) shapeCasts_S1x1x96x256_S96x256 : FVec Ideal S96x256 .fp8e4m3) (constant S2048x256 .f32 0x00000000#32) : FVec Ideal S2048x256 .f32) (concatenate S2048x256 1 [⟨S2048x128, (s)⟩, ⟨S2048x128, (s)⟩] concatenates_S2048x128_S2048x128_S2048x256_d1 : FVec Ideal S2048x256 .f32) : FVec Ideal S2048x256 .f32) slices_S2048x256_o1792_0_S256x256 : FVec Ideal S256x256 .f32) (broadcast S256x256 (Scalar.ofBits .f32 0xFF800000#32)) : FVec Ideal S256x256 .f32)⟩] concatenates_S1792x256_S256x256_S2048x256_d0 : FVec Ideal S2048x256 .f32) (ix2 x r)
      = if x.val ≤ 1792 + r.val then ((D.sc (Fin.castLE (by decide) x) ⟨1792 + r.val, by omega⟩ * (Real.log 2)⁻¹ : ℝ) : EReal) else ⊥ := by
    intro x
    pointwise []
    simp only [ha, hb, hs, ← EReal.coe_mul, coe_sum, negInf, dite_eq_ite, ite_self]
    by_cases hx : x.val < 1792
    · simp only [hx, ↓reduceDIte]
      rw [if_pos (by omega)]
      congr 1
      simp only [Cell.sc]
      first | ring | (show _ * (_ * _ * D.ks (Fin.castLE _ x) * _) = _; ring) | (show _ * (_ * _ * _ * D.ks (Fin.castLE _ x)) = _; ring)
    · have e : 1792 + (x.val - 1792) = x.val := by omega
      simp only [hx, ↓reduceDIte, e]
      rw [sle256 _ _ (by omega) (by omega)]
      by_cases h : x.val - 1792 ≤ r.val
      · rw [if_pos h]
        refine Eq.trans ?_ (if_pos (by omega)).symm
        have hc : ∀ y : ℝ, y = D.qs * rsqrt96 * (Real.log 2)⁻¹ * D.ks (Fin.castLE (by decide) x) →
            ((∑ c, D.k c (Fin.castLE (by decide) x) * D.q c ⟨1792 + r.val, by omega⟩ : ℝ) : EReal) * (y : EReal)
              = ((D.sc (Fin.castLE (by decide) x) ⟨1792 + r.val, by omega⟩ * (Real.log 2)⁻¹ : ℝ) : EReal) := by
          rintro y rfl
          rw [← EReal.coe_mul]
          congr 1
          simp only [Cell.sc]
          ring
        by_cases h2 : r.val < 128
        · exact (congrArg (fun y : EReal => _ * y) (dif_pos h2)).trans (hc _ rfl)
        · exact (congrArg (fun y : EReal => _ * y) (dif_neg h2)).trans (hc _ rfl)
      · rw [if_neg h]
        exact (if_neg (by omega)).symm
  unfold k0_pay82
  dsimp only
  generalize (concatenate S2048x256 0 [⟨S1792x256, (extractStridedSlice S1792x256 ![0, 0] (mulf (matmul (φ₁ := .fp8e4m3) (φ₂ := .fp8e4m3) dot_S2048x96_S96x256_S2048x256_1_0_0_1_n_n none ((a : FVec Ideal S2048x96 .fp8e4m3)) (shapeCast S96x256 (b) shapeCasts_S1x1x96x256_S96x256 : FVec Ideal S96x256 .fp8e4m3) (constant S2048x256 .f32 0x00000000#32) : FVec Ideal S2048x256 .f32) (concatenate S2048x256 1 [⟨S2048x128, (s)⟩, ⟨S2048x128, (s)⟩] concatenates_S2048x128_S2048x128_S2048x256_d1 : FVec Ideal S2048x256 .f32) : FVec Ideal S2048x256 .f32) slices_S2048x256_o0_0_S1792x256 : FVec Ideal S1792x256 .f32)⟩, ⟨S256x256, (select (cmpi .sle (iota .tc S256x256 32 [0] iota_S256x256_d0_w32) (iota .tc S256x256 32 [1] iota_S256x256_d1_w32)) (extractStridedSlice S256x256 ![1792, 0] (mulf (matmul (φ₁ := .fp8e4m3) (φ₂ := .fp8e4m3) dot_S2048x96_S96x256_S2048x256_1_0_0_1_n_n none ((a : FVec Ideal S2048x96 .fp8e4m3)) (shapeCast S96x256 (b) shapeCasts_S1x1x96x256_S96x256 : FVec Ideal S96x256 .fp8e4m3) (constant S2048x256 .f32 0x00000000#32) : FVec Ideal S2048x256 .f32) (concatenate S2048x256 1 [⟨S2048x128, (s)⟩, ⟨S2048x128, (s)⟩] concatenates_S2048x128_S2048x128_S2048x256_d1 : FVec Ideal S2048x256 .f32) : FVec Ideal S2048x256 .f32) slices_S2048x256_o1792_0_S256x256 : FVec Ideal S256x256 .f32) (broadcast S256x256 (Scalar.ofBits .f32 0xFF800000#32)) : FVec Ideal S256x256 .f32)⟩] concatenates_S1792x256_S256x256_S2048x256_d0 : FVec Ideal S2048x256 .f32) = S at hS ⊢
  pointwise [k0_pay83]
  exact tile_final D (n := 2048) (off := 1792) rfl (by decide) r g j (by omega) (fun x => S (ix2 x r)) (fun x => v (ix2 j x)) hS (hv j) _ _ _ (h335 _ _) h329 negInf

end Cert.KernelIdeal.Hand

end
-- ==== Proof.KernelIdeal.Scr.lean ====
/-
  One trip's loads, and what the key, scale and value scratch buffers read back after the trip's stores into them.
-/
module

public import proofs.«01_k».proof.Proof.KernelIdeal.Off
public import proofs.«01_k».proof.Proof.KernelIdeal.PayM
public import proofs.«01_k».proof.Proof.KernelIdeal.PayO

@[expose] public section

noncomputable section

namespace Cert.KernelIdeal.Hand

open Cert.KernelIdeal Cert.KernelIdeal.Gen Idealize.ShloMosaic Idealize.ShloMosaic.TcCoe Cert.Spec

/-- The scale of a score as the kernel stores it, times `1 / ln 2`. -/
theorem pay6_coe (D : Cell) {v9 : Elt Ideal .f32} (h9 : v9 = ((D.qs : ℝ) : EReal)) :
    k0_pay6 (F := Ideal) v9 = ((D.qs * rsqrt96 * (Real.log 2)⁻¹ : ℝ) : EReal) := by
  subst h9
  show ((D.qs : ℝ) : EReal) * Ideal.ofBits .f32 0x3DD105EC#32 * (Named.named (F := Ideal) κ "log2_e" (φ := .f32) 0x3FB8AA3B#32 : EReal) = _
  rw [log2e_val, ofBits_rsqrt96, ← EReal.coe_mul, ← EReal.coe_mul]

section
variable (c : Dev nD) (i : grid0.Coords)
  (arg3 : Memref sig .tc .smem S3x5x30 .f32) (harg3 : arg3.IsWhole) (arg4 : Memref sig .tc .smem S30 .f32) (harg4 : arg4.IsWhole) (arg5 : Memref sig .tc .vmem S1x6x96x2048 .fp8e4m3) (harg5 : arg5.IsWhole) (arg6 : Memref sig .tc .vmem S1x6x96x2048 .fp8e4m3) (harg6 : arg6.IsWhole) (arg7 : Memref sig .tc .vmem S1x6x96x2048 .fp8e4m3) (harg7 : arg7.IsWhole) (arg8 : Memref sig .tc .vmem S1x30x2048 .f32) (harg8 : arg8.IsWhole) (arg9 : Memref sig .tc .vmem S1x30x2048 .f32) (harg9 : arg9.IsWhole) (arg10 : Memref sig .tc .vmem S1x30x96x96 .f32) (harg10 : arg10.IsWhole) (arg11 : Memref sig .tc .vmem S1x30x96 .f32) (harg11 : arg11.IsWhole)
  (arg12 : Memref sig .tc .vmem S1x6x96x2048 .bf16) (harg12 : arg12.IsWhole) (arg13 : Memref sig .tc .vmem S1x30x96x96 .f32) (harg13 : arg13.IsWhole) (arg14 : Memref sig .tc .vmem S1x30x96 .f32) (harg14 : arg14.IsWhole) (arg15 : Memref sig .tc .vmem S30x96x128 .f32) (harg15 : arg15.IsWhole) (arg16 : Memref sig .tc .vmem S2048x96 .fp8e4m3) (harg16 : arg16.IsWhole) (arg17 : Memref sig .tc .vmem S2048x128 .f32) (harg17 : arg17.IsWhole) (arg18 : Memref sig .tc .vmem S96x2048 .bf16) (harg18 : arg18.IsWhole)
  (X3 : Buf (Elt Ideal) (arg3.view.loc (c : Thread nD τ))) (X4 : Buf (Elt Ideal) (arg4.view.loc (c : Thread nD τ))) (X5 : Buf (Elt Ideal) (arg5.view.loc (c : Thread nD τ))) (X6 : Buf (Elt Ideal) (arg6.view.loc (c : Thread nD τ))) (X7 : Buf (Elt Ideal) (arg7.view.loc (c : Thread nD τ))) (X8 : Buf (Elt Ideal) (arg8.view.loc (c : Thread nD τ))) (X9 : Buf (Elt Ideal) (arg9.view.loc (c : Thread nD τ))) (X10 : Buf (Elt Ideal) (arg10.view.loc (c : Thread nD τ))) (X11 : Buf (Elt Ideal) (arg11.view.loc (c : Thread nD τ)))

variable (k : Fin k0_t1_loop.trips) (D : Cell)

theorem ld_qs (h : arg3.view.read (Elt Ideal) X3 (ix3 (i 0) (i 1) (head i k)) = ((D.qs : ℝ) : EReal)) :
    tripU.sl.r (F := Ideal) c i arg3 X3 k = ((D.qs : ℝ) : EReal) := by
  unfold tripU.sl.r
  refine (readAt_unit _ _ _ _ (ix3 (i 0) (i 1) (head i k)) (off5_eq i k) ?_).trans h
  intro a; fin_cases a <;> rfl

theorem ld_q {T : Fin 96 → Fin 2048 → ℝ} (h : ∀ c' l, arg5.view.read (Elt Ideal) X5 (ix4 0 (slot k) c' l) = ((T c' l : ℝ) : EReal)) (c' l) :
    View.readAt (Elt Ideal) arg5.view (Rect.unit (s := S1x6x96x2048) (k0_off7 k) S1x1x96x2048.size (k0_off7_inb k)).toLoadRect X5 (ix4 0 0 c' l) = ((T c' l : ℝ) : EReal) := by
  refine (readAt_unit _ _ _ _ (ix4 0 (slot k) c' l) (off7_eq k) ?_).trans (h c' l)
  intro a; fin_cases a <;> first | rfl | exact (Nat.zero_add _).symm

theorem ld_k {T : Fin 96 → Fin 2048 → ℝ} (h : ∀ c' l, arg6.view.read (Elt Ideal) X6 (ix4 0 (slot k) c' l) = ((T c' l : ℝ) : EReal)) (c' l) :
    View.readAt (Elt Ideal) arg6.view (Rect.unit (s := S1x6x96x2048) (k0_off7 k) S1x1x96x2048.size (k0_off7_inb k)).toLoadRect X6 (ix4 0 0 c' l) = ((T c' l : ℝ) : EReal) := by
  refine (readAt_unit _ _ _ _ (ix4 0 (slot k) c' l) (off7_eq k) ?_).trans (h c' l)
  intro a; fin_cases a <;> first | rfl | exact (Nat.zero_add _).symm

theorem ld_v {T : Fin 96 → Fin 2048 → ℝ} (h : ∀ c' l, arg7.view.read (Elt Ideal) X7 (ix4 0 (slot k) c' l) = ((T c' l : ℝ) : EReal)) (c' l) :
    View.readAt (Elt Ideal) arg7.view (Rect.unit (s := S1x6x96x2048) (k0_off7 k) S1x1x96x2048.size (k0_off7_inb k)).toLoadRect X7 (ix4 0 0 c' l) = ((T c' l : ℝ) : EReal) := by
  refine (readAt_unit _ _ _ _ (ix4 0 (slot k) c' l) (off7_eq k) ?_).trans (h c' l)
  intro a; fin_cases a <;> first | rfl | exact (Nat.zero_add _).symm

theorem ld_ks {T : Fin 2048 → ℝ} (h : ∀ l, arg8.view.read (Elt Ideal) X8 (ix3 0 (head i k) l) = ((T l : ℝ) : EReal)) (l) :
    View.readAt (Elt Ideal) arg8.view (Rect.unit (s := S1x30x2048) (k0_off6 i k) S1x1x2048.size (k0_off6_inb i k)).toLoadRect X8 (ix3 0 0 l) = ((T l : ℝ) : EReal) := by
  refine (readAt_unit _ _ _ _ (ix3 0 (head i k) l) (off6_eq i k) ?_).trans (h l)
  intro a; fin_cases a <;> first | rfl | exact (Nat.zero_add _).symm

theorem ld_vs {T : Fin 2048 → ℝ} (h : ∀ l, arg9.view.read (Elt Ideal) X9 (ix3 0 (head i k) l) = ((T l : ℝ) : EReal)) (l) :
    View.readAt (Elt Ideal) arg9.view (Rect.unit (s := S1x30x2048) (k0_off6 i k) S1x1x2048.size (k0_off6_inb i k)).toLoadRect X9 (ix3 0 0 l) = ((T l : ℝ) : EReal) := by
  refine (readAt_unit _ _ _ _ (ix3 0 (head i k) l) (off6_eq i k) ?_).trans (h l)
  intro a; fin_cases a <;> first | rfl | exact (Nat.zero_add _).symm

theorem r2_coe (h : ∀ l, arg8.view.read (Elt Ideal) X8 (ix3 0 (head i k) l) = ((D.ks l : ℝ) : EReal)) (l : Fin 2048) :
    tripU.sl.r_2 (F := Ideal) c i arg8 X8 k (ix2 0 l) = ((D.ks l : ℝ) : EReal) := by
  pointwise [tripU.sl.r_2, k0_pay7]
  exact ld_ks c i arg8 X8 k (T := D.ks) h l

theorem r3_coe (h : ∀ l, arg9.view.read (Elt Ideal) X9 (ix3 0 (head i k) l) = ((D.vs l : ℝ) : EReal)) (l : Fin 2048) :
    tripU.sl.r_3 (F := Ideal) c i arg9 X9 k (ix2 0 l) = ((D.vs l : ℝ) : EReal) := by
  pointwise [tripU.sl.r_3, k0_pay8]
  exact ld_vs c i arg9 X9 k (T := D.vs) h l

theorem r4_coe (h : ∀ c' l, arg6.view.read (Elt Ideal) X6 (ix4 0 (slot k) c' l) = ((D.k c' l : ℝ) : EReal)) (c' : Fin 96) (l : Fin 2048) :
    tripU.sl.r_4 (F := Ideal) c arg6 X6 k (ix2 c' l) = ((D.k c' l : ℝ) : EReal) := by
  pointwise [tripU.sl.r_4, k0_pay9]
  exact ld_k c arg6 X6 k (T := D.k) h c' l

set_option maxHeartbeats 4000000 in
set_option maxRecDepth 20000 in
theorem scr16 (hk : ∀ c' l, arg6.view.read (Elt Ideal) X6 (ix4 0 (slot k) c' l) = ((D.k c' l : ℝ) : EReal)) (x : Fin 2048) (c' : Fin 96) :
    arg16.view.read (Elt Ideal) (arg16.view.writes (Elt Ideal) arg16.view.junk (tripU.sl.H16_16 (F := Ideal) c arg6 X6 k)) (ix2 x c') = ((D.k c' x : ℝ) : EReal) := by
  unfold tripU.sl.H16_16
  have hl := ld_k c arg6 X6 k (T := D.k) hk
  refine read_agree_val (Val := Elt Ideal) _ _ _ _ _ _ _ rfl (fun r hr => ?_) (fun h1920 => ?_)
  · obtain ⟨r0, r1, rfl⟩ : ∃ a b, r = ix2 a b := ⟨r 0, r 1, by funext a; fin_cases a <;> rfl⟩
    have e0 : x.val = 1920 + r0.val := hr 0
    have e1 : _ = 0 + r1.val := hr 1
    pointwise [tripU.sl.v252, tripU.sl.v249, tripU.sl.v248, tripU.sl.v247, tripU.sl.r_5, k0_pay10, k0_pay9]
    refine (hl _ _).trans ?_
    congr 2
    · exact Fin.ext (by simpa using e1.symm)
    · exact Fin.ext (by simp only []; omega)
  replace h1920 : ¬ (1920 ≤ x.val ∧ x.val < 1920 + 128) := fun h => h1920 fun a => by
    fin_cases a
    · exact h
    · exact ⟨Nat.zero_le _, by have := (c').isLt; show _ < 0 + 96; simpa using this⟩
  refine read_agree_val (Val := Elt Ideal) _ _ _ _ _ _ _ rfl (fun r hr => ?_) (fun h1792 => ?_)
  · obtain ⟨r0, r1, rfl⟩ : ∃ a b, r = ix2 a b := ⟨r 0, r 1, by funext a; fin_cases a <;> rfl⟩
    have e0 : x.val = 1792 + r0.val := hr 0
    have e1 : _ = 0 + r1.val := hr 1
    pointwise [tripU.sl.v237, tripU.sl.v234, tripU.sl.v233, tripU.sl.v232, tripU.sl.r_5, k0_pay10, k0_pay9]
    refine (hl _ _).trans ?_
    congr 2
    · exact Fin.ext (by simpa using e1.symm)
    · exact Fin.ext (by simp only []; omega)
  replace h1792 : ¬ (1792 ≤ x.val ∧ x.val < 1792 + 128) := fun h => h1792 fun a => by
    fin_cases a
    · exact h
    · exact ⟨Nat.zero_le _, by have := (c').isLt; show _ < 0 + 96; simpa using this⟩
  refine read_agree_val (Val := Elt Ideal) _ _ _ _ _ _ _ rfl (fun r hr => ?_) (fun h1664 => ?_)
  · obtain ⟨r0, r1, rfl⟩ : ∃ a b, r = ix2 a b := ⟨r 0, r 1, by funext a; fin_cases a <;> rfl⟩
    have e0 : x.val = 1664 + r0.val := hr 0
    have e1 : _ = 0 + r1.val := hr 1
    pointwise [tripU.sl.v222, tripU.sl.v219, tripU.sl.v218, tripU.sl.v217, tripU.sl.r_5, k0_pay10, k0_pay9]
    refine (hl _ _).trans ?_
    congr 2
    · exact Fin.ext (by simpa using e1.symm)
    · exact Fin.ext (by simp only []; omega)
  replace h1664 : ¬ (1664 ≤ x.val ∧ x.val < 1664 + 128) := fun h => h1664 fun a => by
    fin_cases a
    · exact h
    · exact ⟨Nat.zero_le _, by have := (c').isLt; show _ < 0 + 96; simpa using this⟩
  refine read_agree_val (Val := Elt Ideal) _ _ _ _ _ _ _ rfl (fun r hr => ?_) (fun h1536 => ?_)
  · obtain ⟨r0, r1, rfl⟩ : ∃ a b, r = ix2 a b := ⟨r 0, r 1, by funext a; fin_cases a <;> rfl⟩
    have e0 : x.val = 1536 + r0.val := hr 0
    have e1 : _ = 0 + r1.val := hr 1
    pointwise [tripU.sl.v207, tripU.sl.v204, tripU.sl.v203, tripU.sl.v202, tripU.sl.r_5, k0_pay10, k0_pay9]
    refine (hl _ _).trans ?_
    congr 2
    · exact Fin.ext (by simpa using e1.symm)
    · exact Fin.ext (by simp only []; omega)
  replace h1536 : ¬ (1536 ≤ x.val ∧ x.val < 1536 + 128) := fun h => h1536 fun a => by
    fin_cases a
    · exact h
    · exact ⟨Nat.zero_le _, by have := (c').isLt; show _ < 0 + 96; simpa using this⟩
  refine read_agree_val (Val := Elt Ideal) _ _ _ _ _ _ _ rfl (fun r hr => ?_) (fun h1408 => ?_)
  · obtain ⟨r0, r1, rfl⟩ : ∃ a b, r = ix2 a b := ⟨r 0, r 1, by funext a; fin_cases a <;> rfl⟩
    have e0 : x.val = 1408 + r0.val := hr 0
    have e1 : _ = 0 + r1.val := hr 1
    pointwise [tripU.sl.v192, tripU.sl.v189, tripU.sl.v188, tripU.sl.v187, tripU.sl.r_5, k0_pay10, k0_pay9]
    refine (hl _ _).trans ?_
    congr 2
    · exact Fin.ext (by simpa using e1.symm)
    · exact Fin.ext (by simp only []; omega)
  replace h1408 : ¬ (1408 ≤ x.val ∧ x.val < 1408 + 128) := fun h => h1408 fun a => by
    fin_cases a
    · exact h
    · exact ⟨Nat.zero_le _, by have := (c').isLt; show _ < 0 + 96; simpa using this⟩
  refine read_agree_val (Val := Elt Ideal) _ _ _ _ _ _ _ rfl (fun r hr => ?_) (fun h1280 => ?_)
  · obtain ⟨r0, r1, rfl⟩ : ∃ a b, r = ix2 a b := ⟨r 0, r 1, by funext a; fin_cases a <;> rfl⟩
    have e0 : x.val = 1280 + r0.val := hr 0
    have e1 : _ = 0 + r1.val := hr 1
    pointwise [tripU.sl.v177, tripU.sl.v174, tripU.sl.v173, tripU.sl.v172, tripU.sl.r_5, k0_pay10, k0_pay9]
    refine (hl _ _).trans ?_
    congr 2
    · exact Fin.ext (by simpa using e1.symm)
    · exact Fin.ext (by simp only []; omega)
  replace h1280 : ¬ (1280 ≤ x.val ∧ x.val < 1280 + 128) := fun h => h1280 fun a => by
    fin_cases a
    · exact h
    · exact ⟨Nat.zero_le _, by have := (c').isLt; show _ < 0 + 96; simpa using this⟩
  refine read_agree_val (Val := Elt Ideal) _ _ _ _ _ _ _ rfl (fun r hr => ?_) (fun h1152 => ?_)
  · obtain ⟨r0, r1, rfl⟩ : ∃ a b, r = ix2 a b := ⟨r 0, r 1, by funext a; fin_cases a <;> rfl⟩
    have e0 : x.val = 1152 + r0.val := hr 0
    have e1 : _ = 0 + r1.val := hr 1
    pointwise [tripU.sl.v162, tripU.sl.v159, tripU.sl.v158, tripU.sl.v157, tripU.sl.r_5, k0_pay10, k0_pay9]
    refine (hl _ _).trans ?_
    congr 2
    · exact Fin.ext (by simpa using e1.symm)
    · exact Fin.ext (by simp only []; omega)
  replace h1152 : ¬ (1152 ≤ x.val ∧ x.val < 1152 + 128) := fun h => h1152 fun a => by
    fin_cases a
    · exact h
    · exact ⟨Nat.zero_le _, by have := (c').isLt; show _ < 0 + 96; simpa using this⟩
  refine read_agree_val (Val := Elt Ideal) _ _ _ _ _ _ _ rfl (fun r hr => ?_) (fun h1024 => ?_)
  · obtain ⟨r0, r1, rfl⟩ : ∃ a b, r = ix2 a b := ⟨r 0, r 1, by funext a; fin_cases a <;> rfl⟩
    have e0 : x.val = 1024 + r0.val := hr 0
    have e1 : _ = 0 + r1.val := hr 1
    pointwise [tripU.sl.v147, tripU.sl.v144, tripU.sl.v143, tripU.sl.v142, tripU.sl.r_5, k0_pay10, k0_pay9]
    refine (hl _ _).trans ?_
    congr 2
    · exact Fin.ext (by simpa using e1.symm)
    · exact Fin.ext (by simp only []; omega)
  replace h1024 : ¬ (1024 ≤ x.val ∧ x.val < 1024 + 128) := fun h => h1024 fun a => by
    fin_cases a
    · exact h
    · exact ⟨Nat.zero_le _, by have := (c').isLt; show _ < 0 + 96; simpa using this⟩
  refine read_agree_val (Val := Elt Ideal) _ _ _ _ _ _ _ rfl (fun r hr => ?_) (fun h896 => ?_)
  · obtain ⟨r0, r1, rfl⟩ : ∃ a b, r = ix2 a b := ⟨r 0, r 1, by funext a; fin_cases a <;> rfl⟩
    have e0 : x.val = 896 + r0.val := hr 0
    have e1 : _ = 0 + r1.val := hr 1
    pointwise [tripU.sl.v132, tripU.sl.v129, tripU.sl.v128, tripU.sl.v127, tripU.sl.r_5, k0_pay10, k0_pay9]
    refine (hl _ _).trans ?_
    congr 2
    · exact Fin.ext (by simpa using e1.symm)
    · exact Fin.ext (by simp only []; omega)
  replace h896 : ¬ (896 ≤ x.val ∧ x.val < 896 + 128) := fun h => h896 fun a => by
    fin_cases a
    · exact h
    · exact ⟨Nat.zero_le _, by have := (c').isLt; show _ < 0 + 96; simpa using this⟩
  refine read_agree_val (Val := Elt Ideal) _ _ _ _ _ _ _ rfl (fun r hr => ?_) (fun h768 => ?_)
  · obtain ⟨r0, r1, rfl⟩ : ∃ a b, r = ix2 a b := ⟨r 0, r 1, by funext a; fin_cases a <;> rfl⟩
    have e0 : x.val = 768 + r0.val := hr 0
    have e1 : _ = 0 + r1.val := hr 1
    pointwise [tripU.sl.v117, tripU.sl.v114, tripU.sl.v113, tripU.sl.v112, tripU.sl.r_5, k0_pay10, k0_pay9]
    refine (hl _ _).trans ?_
    congr 2
    · exact Fin.ext (by simpa using e1.symm)
    · exact Fin.ext (by simp only []; omega)
  replace h768 : ¬ (768 ≤ x.val ∧ x.val < 768 + 128) := fun h => h768 fun a => by
    fin_cases a
    · exact h
    · exact ⟨Nat.zero_le _, by have := (c').isLt; show _ < 0 + 96; simpa using this⟩
  refine read_agree_val (Val := Elt Ideal) _ _ _ _ _ _ _ rfl (fun r hr => ?_) (fun h640 => ?_)
  · obtain ⟨r0, r1, rfl⟩ : ∃ a b, r = ix2 a b := ⟨r 0, r 1, by funext a; fin_cases a <;> rfl⟩
    have e0 : x.val = 640 + r0.val := hr 0
    have e1 : _ = 0 + r1.val := hr 1
    pointwise [tripU.sl.v102, tripU.sl.v99, tripU.sl.v98, tripU.sl.v97, tripU.sl.r_5, k0_pay10, k0_pay9]
    refine (hl _ _).trans ?_
    congr 2
    · exact Fin.ext (by simpa using e1.symm)
    · exact Fin.ext (by simp only []; omega)
  replace h640 : ¬ (640 ≤ x.val ∧ x.val < 640 + 128) := fun h => h640 fun a => by
    fin_cases a
    · exact h
    · exact ⟨Nat.zero_le _, by have := (c').isLt; show _ < 0 + 96; simpa using this⟩
  refine read_agree_val (Val := Elt Ideal) _ _ _ _ _ _ _ rfl (fun r hr => ?_) (fun h512 => ?_)
  · obtain ⟨r0, r1, rfl⟩ : ∃ a b, r = ix2 a b := ⟨r 0, r 1, by funext a; fin_cases a <;> rfl⟩
    have e0 : x.val = 512 + r0.val := hr 0
    have e1 : _ = 0 + r1.val := hr 1
    pointwise [tripU.sl.v87, tripU.sl.v84, tripU.sl.v83, tripU.sl.v82, tripU.sl.r_5, k0_pay10, k0_pay9]
    refine (hl _ _).trans ?_
    congr 2
    · exact Fin.ext (by simpa using e1.symm)
    · exact Fin.ext (by simp only []; omega)
  replace h512 : ¬ (512 ≤ x.val ∧ x.val < 512 + 128) := fun h => h512 fun a => by
    fin_cases a
    · exact h
    · exact ⟨Nat.zero_le _, by have := (c').isLt; show _ < 0 + 96; simpa using this⟩
  refine read_agree_val (Val := Elt Ideal) _ _ _ _ _ _ _ rfl (fun r hr => ?_) (fun h384 => ?_)
  · obtain ⟨r0, r1, rfl⟩ : ∃ a b, r = ix2 a b := ⟨r 0, r 1, by funext a; fin_cases a <;> rfl⟩
    have e0 : x.val = 384 + r0.val := hr 0
    have e1 : _ = 0 + r1.val := hr 1
    pointwise [tripU.sl.v72, tripU.sl.v69, tripU.sl.v68, tripU.sl.v67, tripU.sl.r_5, k0_pay10, k0_pay9]
    refine (hl _ _).trans ?_
    congr 2
    · exact Fin.ext (by simpa using e1.symm)
    · exact Fin.ext (by simp only []; omega)
  replace h384 : ¬ (384 ≤ x.val ∧ x.val < 384 + 128) := fun h => h384 fun a => by
    fin_cases a
    · exact h
    · exact ⟨Nat.zero_le _, by have := (c').isLt; show _ < 0 + 96; simpa using this⟩
  refine read_agree_val (Val := Elt Ideal) _ _ _ _ _ _ _ rfl (fun r hr => ?_) (fun h256 => ?_)
  · obtain ⟨r0, r1, rfl⟩ : ∃ a b, r = ix2 a b := ⟨r 0, r 1, by funext a; fin_cases a <;> rfl⟩
    have e0 : x.val = 256 + r0.val := hr 0
    have e1 : _ = 0 + r1.val := hr 1
    pointwise [tripU.sl.v57, tripU.sl.v54, tripU.sl.v53, tripU.sl.v52, tripU.sl.r_5, k0_pay10, k0_pay9]
    refine (hl _ _).trans ?_
    congr 2
    · exact Fin.ext (by simpa using e1.symm)
    · exact Fin.ext (by simp only []; omega)
  replace h256 : ¬ (256 ≤ x.val ∧ x.val < 256 + 128) := fun h => h256 fun a => by
    fin_cases a
    · exact h
    · exact ⟨Nat.zero_le _, by have := (c').isLt; show _ < 0 + 96; simpa using this⟩
  refine read_agree_val (Val := Elt Ideal) _ _ _ _ _ _ _ rfl (fun r hr => ?_) (fun h128 => ?_)
  · obtain ⟨r0, r1, rfl⟩ : ∃ a b, r = ix2 a b := ⟨r 0, r 1, by funext a; fin_cases a <;> rfl⟩
    have e0 : x.val = 128 + r0.val := hr 0
    have e1 : _ = 0 + r1.val := hr 1
    pointwise [tripU.sl.v42, tripU.sl.r_6, k0_pay13, k0_pay10, k0_pay9]
    refine (hl _ _).trans ?_
    congr 2
    · exact Fin.ext (by simpa using e1.symm)
    · exact Fin.ext (by simp only []; omega)
  replace h128 : ¬ (128 ≤ x.val ∧ x.val < 128 + 128) := fun h => h128 fun a => by
    fin_cases a
    · exact h
    · exact ⟨Nat.zero_le _, by have := (c').isLt; show _ < 0 + 96; simpa using this⟩
  refine read_agree_val (Val := Elt Ideal) _ _ _ _ _ _ _ rfl (fun r hr => ?_) (fun h0 => ?_)
  · obtain ⟨r0, r1, rfl⟩ : ∃ a b, r = ix2 a b := ⟨r 0, r 1, by funext a; fin_cases a <;> rfl⟩
    have e0 : x.val = 0 + r0.val := hr 0
    have e1 : _ = 0 + r1.val := hr 1
    pointwise [k0_pay11, k0_pay10, k0_pay9]
    refine (hl _ _).trans ?_
    congr 2
    · exact Fin.ext (by simpa using e1.symm)
    · exact Fin.ext (by simp only []; omega)
  replace h0 : ¬ (0 ≤ x.val ∧ x.val < 0 + 128) := fun h => h0 fun a => by
    fin_cases a
    · exact h
    · exact ⟨Nat.zero_le _, by have := (c').isLt; show _ < 0 + 96; simpa using this⟩
  omega

set_option maxHeartbeats 4000000 in
set_option maxRecDepth 20000 in
theorem scr17 (h3 : arg3.view.read (Elt Ideal) X3 (ix3 (i 0) (i 1) (head i k)) = ((D.qs : ℝ) : EReal))
    (h8 : ∀ l, arg8.view.read (Elt Ideal) X8 (ix3 0 (head i k) l) = ((D.ks l : ℝ) : EReal)) (x : Fin 2048) (y : Fin 128) :
    arg17.view.read (Elt Ideal) (arg17.view.writes (Elt Ideal) arg17.view.junk (tripU.sl.H17_16 (F := Ideal) c i arg3 arg8 X3 X8 k)) (ix2 x y)
      = ((D.qs * rsqrt96 * (Real.log 2)⁻¹ * D.ks x : ℝ) : EReal) := by
  unfold tripU.sl.H17_16
  have hl := ld_ks c i arg8 X8 k (T := D.ks) h8
  have hr6 := pay6_coe D (ld_qs c i arg3 X3 k D h3)
  refine read_agree_val (Val := Elt Ideal) _ _ _ _ _ _ _ rfl (fun r hr => ?_) (fun h1920 => ?_)
  · obtain ⟨r0, r1, rfl⟩ : ∃ a b, r = ix2 a b := ⟨r 0, r 1, by funext a; fin_cases a <;> rfl⟩
    have e0 : x.val = 1920 + r0.val := hr 0
    have e1 : _ = 0 + r1.val := hr 1
    refine Eq.trans (b := ((D.ks x : ℝ) : EReal) * ((D.qs * rsqrt96 * (Real.log 2)⁻¹ : ℝ) : EReal)) ?_ (by rw [mul_comm, ← EReal.coe_mul])
    rw [← hr6]
    pointwise [tripU.sl.v253, tripU.sl.r_2, k0_pay48, k0_pay7]
    refine congrArg (fun z : EReal => z * k0_pay6 (F := Ideal) (tripU.sl.r (F := Ideal) c i arg3 X3 k)) ?_
    refine (hl _).trans ?_
    congr 2
    exact Fin.ext (by simp only []; omega)
  replace h1920 : ¬ (1920 ≤ x.val ∧ x.val < 1920 + 128) := fun h => h1920 fun a => by
    fin_cases a
    · exact h
    · exact ⟨Nat.zero_le _, by have := (y).isLt; show _ < 0 + 128; simpa using this⟩
  refine read_agree_val (Val := Elt Ideal) _ _ _ _ _ _ _ rfl (fun r hr => ?_) (fun h1792 => ?_)
  · obtain ⟨r0, r1, rfl⟩ : ∃ a b, r = ix2 a b := ⟨r 0, r 1, by funext a; fin_cases a <;> rfl⟩
    have e0 : x.val = 1792 + r0.val := hr 0
    have e1 : _ = 0 + r1.val := hr 1
    refine Eq.trans (b := ((D.ks x : ℝ) : EReal) * ((D.qs * rsqrt96 * (Real.log 2)⁻¹ : ℝ) : EReal)) ?_ (by rw [mul_comm, ← EReal.coe_mul])
    rw [← hr6]
    pointwise [tripU.sl.v246, tripU.sl.v243, tripU.sl.v242, tripU.sl.v241, tripU.sl.v240, tripU.sl.v44, tripU.sl.v238, tripU.sl.r_2, k0_pay7]
    refine congrArg (fun z : EReal => z * k0_pay6 (F := Ideal) (tripU.sl.r (F := Ideal) c i arg3 X3 k)) ?_
    refine (hl _).trans ?_
    congr 2
    exact Fin.ext (by simp only []; omega)
  replace h1792 : ¬ (1792 ≤ x.val ∧ x.val < 1792 + 128) := fun h => h1792 fun a => by
    fin_cases a
    · exact h
    · exact ⟨Nat.zero_le _, by have := (y).isLt; show _ < 0 + 128; simpa using this⟩
  refine read_agree_val (Val := Elt Ideal) _ _ _ _ _ _ _ rfl (fun r hr => ?_) (fun h1664 => ?_)
  · obtain ⟨r0, r1, rfl⟩ : ∃ a b, r = ix2 a b := ⟨r 0, r 1, by funext a; fin_cases a <;> rfl⟩
    have e0 : x.val = 1664 + r0.val := hr 0
    have e1 : _ = 0 + r1.val := hr 1
    refine Eq.trans (b := ((D.ks x : ℝ) : EReal) * ((D.qs * rsqrt96 * (Real.log 2)⁻¹ : ℝ) : EReal)) ?_ (by rw [mul_comm, ← EReal.coe_mul])
    rw [← hr6]
    pointwise [tripU.sl.v231, tripU.sl.v228, tripU.sl.v227, tripU.sl.v226, tripU.sl.v225, tripU.sl.v44, tripU.sl.v223, tripU.sl.r_2, k0_pay7]
    refine congrArg (fun z : EReal => z * k0_pay6 (F := Ideal) (tripU.sl.r (F := Ideal) c i arg3 X3 k)) ?_
    refine (hl _).trans ?_
    congr 2
    exact Fin.ext (by simp only []; omega)
  replace h1664 : ¬ (1664 ≤ x.val ∧ x.val < 1664 + 128) := fun h => h1664 fun a => by
    fin_cases a
    · exact h
    · exact ⟨Nat.zero_le _, by have := (y).isLt; show _ < 0 + 128; simpa using this⟩
  refine read_agree_val (Val := Elt Ideal) _ _ _ _ _ _ _ rfl (fun r hr => ?_) (fun h1536 => ?_)
  · obtain ⟨r0, r1, rfl⟩ : ∃ a b, r = ix2 a b := ⟨r 0, r 1, by funext a; fin_cases a <;> rfl⟩
    have e0 : x.val = 1536 + r0.val := hr 0
    have e1 : _ = 0 + r1.val := hr 1
    refine Eq.trans (b := ((D.ks x : ℝ) : EReal) * ((D.qs * rsqrt96 * (Real.log 2)⁻¹ : ℝ) : EReal)) ?_ (by rw [mul_comm, ← EReal.coe_mul])
    rw [← hr6]
    pointwise [tripU.sl.v216, tripU.sl.v213, tripU.sl.v212, tripU.sl.v211, tripU.sl.v210, tripU.sl.v44, tripU.sl.v208, tripU.sl.r_2, k0_pay7]
    refine congrArg (fun z : EReal => z * k0_pay6 (F := Ideal) (tripU.sl.r (F := Ideal) c i arg3 X3 k)) ?_
    refine (hl _).trans ?_
    congr 2
    exact Fin.ext (by simp only []; omega)
  replace h1536 : ¬ (1536 ≤ x.val ∧ x.val < 1536 + 128) := fun h => h1536 fun a => by
    fin_cases a
    · exact h
    · exact ⟨Nat.zero_le _, by have := (y).isLt; show _ < 0 + 128; simpa using this⟩
  refine read_agree_val (Val := Elt Ideal) _ _ _ _ _ _ _ rfl (fun r hr => ?_) (fun h1408 => ?_)
  · obtain ⟨r0, r1, rfl⟩ : ∃ a b, r = ix2 a b := ⟨r 0, r 1, by funext a; fin_cases a <;> rfl⟩
    have e0 : x.val = 1408 + r0.val := hr 0
    have e1 : _ = 0 + r1.val := hr 1
    refine Eq.trans (b := ((D.ks x : ℝ) : EReal) * ((D.qs * rsqrt96 * (Real.log 2)⁻¹ : ℝ) : EReal)) ?_ (by rw [mul_comm, ← EReal.coe_mul])
    rw [← hr6]
    pointwise [tripU.sl.v201, tripU.sl.v198, tripU.sl.v197, tripU.sl.v196, tripU.sl.v195, tripU.sl.v44, tripU.sl.v193, tripU.sl.r_2, k0_pay7]
    refine congrArg (fun z : EReal => z * k0_pay6 (F := Ideal) (tripU.sl.r (F := Ideal) c i arg3 X3 k)) ?_
    refine (hl _).trans ?_
    congr 2
    exact Fin.ext (by simp only []; omega)
  replace h1408 : ¬ (1408 ≤ x.val ∧ x.val < 1408 + 128) := fun h => h1408 fun a => by
    fin_cases a
    · exact h
    · exact ⟨Nat.zero_le _, by have := (y).isLt; show _ < 0 + 128; simpa using this⟩
  refine read_agree_val (Val := Elt Ideal) _ _ _ _ _ _ _ rfl (fun r hr => ?_) (fun h1280 => ?_)
  · obtain ⟨r0, r1, rfl⟩ : ∃ a b, r = ix2 a b := ⟨r 0, r 1, by funext a; fin_cases a <;> rfl⟩
    have e0 : x.val = 1280 + r0.val := hr 0
    have e1 : _ = 0 + r1.val := hr 1
    refine Eq.trans (b := ((D.ks x : ℝ) : EReal) * ((D.qs * rsqrt96 * (Real.log 2)⁻¹ : ℝ) : EReal)) ?_ (by rw [mul_comm, ← EReal.coe_mul])
    rw [← hr6]
    pointwise [tripU.sl.v186, tripU.sl.v183, tripU.sl.v182, tripU.sl.v181, tripU.sl.v180, tripU.sl.v44, tripU.sl.v178, tripU.sl.r_2, k0_pay7]
    refine congrArg (fun z : EReal => z * k0_pay6 (F := Ideal) (tripU.sl.r (F := Ideal) c i arg3 X3 k)) ?_
    refine (hl _).trans ?_
    congr 2
    exact Fin.ext (by simp only []; omega)
  replace h1280 : ¬ (1280 ≤ x.val ∧ x.val < 1280 + 128) := fun h => h1280 fun a => by
    fin_cases a
    · exact h
    · exact ⟨Nat.zero_le _, by have := (y).isLt; show _ < 0 + 128; simpa using this⟩
  refine read_agree_val (Val := Elt Ideal) _ _ _ _ _ _ _ rfl (fun r hr => ?_) (fun h1152 => ?_)
  · obtain ⟨r0, r1, rfl⟩ : ∃ a b, r = ix2 a b := ⟨r 0, r 1, by funext a; fin_cases a <;> rfl⟩
    have e0 : x.val = 1152 + r0.val := hr 0
    have e1 : _ = 0 + r1.val := hr 1
    refine Eq.trans (b := ((D.ks x : ℝ) : EReal) * ((D.qs * rsqrt96 * (Real.log 2)⁻¹ : ℝ) : EReal)) ?_ (by rw [mul_comm, ← EReal.coe_mul])
    rw [← hr6]
    pointwise [tripU.sl.v171, tripU.sl.v168, tripU.sl.v167, tripU.sl.v166, tripU.sl.v165, tripU.sl.v44, tripU.sl.v163, tripU.sl.r_2, k0_pay7]
    refine congrArg (fun z : EReal => z * k0_pay6 (F := Ideal) (tripU.sl.r (F := Ideal) c i arg3 X3 k)) ?_
    refine (hl _).trans ?_
    congr 2
    exact Fin.ext (by simp only []; omega)
  replace h1152 : ¬ (1152 ≤ x.val ∧ x.val < 1152 + 128) := fun h => h1152 fun a => by
    fin_cases a
    · exact h
    · exact ⟨Nat.zero_le _, by have := (y).isLt; show _ < 0 + 128; simpa using this⟩
  refine read_agree_val (Val := Elt Ideal) _ _ _ _ _ _ _ rfl (fun r hr => ?_) (fun h1024 => ?_)
  · obtain ⟨r0, r1, rfl⟩ : ∃ a b, r = ix2 a b := ⟨r 0, r 1, by funext a; fin_cases a <;> rfl⟩
    have e0 : x.val = 1024 + r0.val := hr 0
    have e1 : _ = 0 + r1.val := hr 1
    refine Eq.trans (b := ((D.ks x : ℝ) : EReal) * ((D.qs * rsqrt96 * (Real.log 2)⁻¹ : ℝ) : EReal)) ?_ (by rw [mul_comm, ← EReal.coe_mul])
    rw [← hr6]
    pointwise [tripU.sl.v156, tripU.sl.v153, tripU.sl.v152, tripU.sl.v151, tripU.sl.v150, tripU.sl.v44, tripU.sl.v148, tripU.sl.r_2, k0_pay7]
    refine congrArg (fun z : EReal => z * k0_pay6 (F := Ideal) (tripU.sl.r (F := Ideal) c i arg3 X3 k)) ?_
    refine (hl _).trans ?_
    congr 2
    exact Fin.ext (by simp only []; omega)
  replace h1024 : ¬ (1024 ≤ x.val ∧ x.val < 1024 + 128) := fun h => h1024 fun a => by
    fin_cases a
    · exact h
    · exact ⟨Nat.zero_le _, by have := (y).isLt; show _ < 0 + 128; simpa using this⟩
  refine read_agree_val (Val := Elt Ideal) _ _ _ _ _ _ _ rfl (fun r hr => ?_) (fun h896 => ?_)
  · obtain ⟨r0, r1, rfl⟩ : ∃ a b, r = ix2 a b := ⟨r 0, r 1, by funext a; fin_cases a <;> rfl⟩
    have e0 : x.val = 896 + r0.val := hr 0
    have e1 : _ = 0 + r1.val := hr 1
    refine Eq.trans (b := ((D.ks x : ℝ) : EReal) * ((D.qs * rsqrt96 * (Real.log 2)⁻¹ : ℝ) : EReal)) ?_ (by rw [mul_comm, ← EReal.coe_mul])
    rw [← hr6]
    pointwise [tripU.sl.v141, tripU.sl.v138, tripU.sl.v137, tripU.sl.v136, tripU.sl.v135, tripU.sl.v44, tripU.sl.v133, tripU.sl.r_2, k0_pay7]
    refine congrArg (fun z : EReal => z * k0_pay6 (F := Ideal) (tripU.sl.r (F := Ideal) c i arg3 X3 k)) ?_
    refine (hl _).trans ?_
    congr 2
    exact Fin.ext (by simp only []; omega)
  replace h896 : ¬ (896 ≤ x.val ∧ x.val < 896 + 128) := fun h => h896 fun a => by
    fin_cases a
    · exact h
    · exact ⟨Nat.zero_le _, by have := (y).isLt; show _ < 0 + 128; simpa using this⟩
  refine read_agree_val (Val := Elt Ideal) _ _ _ _ _ _ _ rfl (fun r hr => ?_) (fun h768 => ?_)
  · obtain ⟨r0, r1, rfl⟩ : ∃ a b, r = ix2 a b := ⟨r 0, r 1, by funext a; fin_cases a <;> rfl⟩
    have e0 : x.val = 768 + r0.val := hr 0
    have e1 : _ = 0 + r1.val := hr 1
    refine Eq.trans (b := ((D.ks x : ℝ) : EReal) * ((D.qs * rsqrt96 * (Real.log 2)⁻¹ : ℝ) : EReal)) ?_ (by rw [mul_comm, ← EReal.coe_mul])
    rw [← hr6]
    pointwise [tripU.sl.v126, tripU.sl.v123, tripU.sl.v122, tripU.sl.v121, tripU.sl.v120, tripU.sl.v44, tripU.sl.v118, tripU.sl.r_2, k0_pay7]
    refine congrArg (fun z : EReal => z * k0_pay6 (F := Ideal) (tripU.sl.r (F := Ideal) c i arg3 X3 k)) ?_
    refine (hl _).trans ?_
    congr 2
    exact Fin.ext (by simp only []; omega)
  replace h768 : ¬ (768 ≤ x.val ∧ x.val < 768 + 128) := fun h => h768 fun a => by
    fin_cases a
    · exact h
    · exact ⟨Nat.zero_le _, by have := (y).isLt; show _ < 0 + 128; simpa using this⟩
  refine read_agree_val (Val := Elt Ideal) _ _ _ _ _ _ _ rfl (fun r hr => ?_) (fun h640 => ?_)
  · obtain ⟨r0, r1, rfl⟩ : ∃ a b, r = ix2 a b := ⟨r 0, r 1, by funext a; fin_cases a <;> rfl⟩
    have e0 : x.val = 640 + r0.val := hr 0
    have e1 : _ = 0 + r1.val := hr 1
    refine Eq.trans (b := ((D.ks x : ℝ) : EReal) * ((D.qs * rsqrt96 * (Real.log 2)⁻¹ : ℝ) : EReal)) ?_ (by rw [mul_comm, ← EReal.coe_mul])
    rw [← hr6]
    pointwise [tripU.sl.v111, tripU.sl.v108, tripU.sl.v107, tripU.sl.v106, tripU.sl.v105, tripU.sl.v44, tripU.sl.v103, tripU.sl.r_2, k0_pay7]
    refine congrArg (fun z : EReal => z * k0_pay6 (F := Ideal) (tripU.sl.r (F := Ideal) c i arg3 X3 k)) ?_
    refine (hl _).trans ?_
    congr 2
    exact Fin.ext (by simp only []; omega)
  replace h640 : ¬ (640 ≤ x.val ∧ x.val < 640 + 128) := fun h => h640 fun a => by
    fin_cases a
    · exact h
    · exact ⟨Nat.zero_le _, by have := (y).isLt; show _ < 0 + 128; simpa using this⟩
  refine read_agree_val (Val := Elt Ideal) _ _ _ _ _ _ _ rfl (fun r hr => ?_) (fun h512 => ?_)
  · obtain ⟨r0, r1, rfl⟩ : ∃ a b, r = ix2 a b := ⟨r 0, r 1, by funext a; fin_cases a <;> rfl⟩
    have e0 : x.val = 512 + r0.val := hr 0
    have e1 : _ = 0 + r1.val := hr 1
    refine Eq.trans (b := ((D.ks x : ℝ) : EReal) * ((D.qs * rsqrt96 * (Real.log 2)⁻¹ : ℝ) : EReal)) ?_ (by rw [mul_comm, ← EReal.coe_mul])
    rw [← hr6]
    pointwise [tripU.sl.v96, tripU.sl.v93, tripU.sl.v92, tripU.sl.v91, tripU.sl.v90, tripU.sl.v44, tripU.sl.v88, tripU.sl.r_2, k0_pay7]
    refine congrArg (fun z : EReal => z * k0_pay6 (F := Ideal) (tripU.sl.r (F := Ideal) c i arg3 X3 k)) ?_
    refine (hl _).trans ?_
    congr 2
    exact Fin.ext (by simp only []; omega)
  replace h512 : ¬ (512 ≤ x.val ∧ x.val < 512 + 128) := fun h => h512 fun a => by
    fin_cases a
    · exact h
    · exact ⟨Nat.zero_le _, by have := (y).isLt; show _ < 0 + 128; simpa using this⟩
  refine read_agree_val (Val := Elt Ideal) _ _ _ _ _ _ _ rfl (fun r hr => ?_) (fun h384 => ?_)
  · obtain ⟨r0, r1, rfl⟩ : ∃ a b, r = ix2 a b := ⟨r 0, r 1, by funext a; fin_cases a <;> rfl⟩
    have e0 : x.val = 384 + r0.val := hr 0
    have e1 : _ = 0 + r1.val := hr 1
    refine Eq.trans (b := ((D.ks x : ℝ) : EReal) * ((D.qs * rsqrt96 * (Real.log 2)⁻¹ : ℝ) : EReal)) ?_ (by rw [mul_comm, ← EReal.coe_mul])
    rw [← hr6]
    pointwise [tripU.sl.v81, tripU.sl.v78, tripU.sl.v77, tripU.sl.v76, tripU.sl.v75, tripU.sl.v44, tripU.sl.v73, tripU.sl.r_2, k0_pay7]
    refine congrArg (fun z : EReal => z * k0_pay6 (F := Ideal) (tripU.sl.r (F := Ideal) c i arg3 X3 k)) ?_
    refine (hl _).trans ?_
    congr 2
    exact Fin.ext (by simp only []; omega)
  replace h384 : ¬ (384 ≤ x.val ∧ x.val < 384 + 128) := fun h => h384 fun a => by
    fin_cases a
    · exact h
    · exact ⟨Nat.zero_le _, by have := (y).isLt; show _ < 0 + 128; simpa using this⟩
  refine read_agree_val (Val := Elt Ideal) _ _ _ _ _ _ _ rfl (fun r hr => ?_) (fun h256 => ?_)
  · obtain ⟨r0, r1, rfl⟩ : ∃ a b, r = ix2 a b := ⟨r 0, r 1, by funext a; fin_cases a <;> rfl⟩
    have e0 : x.val = 256 + r0.val := hr 0
    have e1 : _ = 0 + r1.val := hr 1
    refine Eq.trans (b := ((D.ks x : ℝ) : EReal) * ((D.qs * rsqrt96 * (Real.log 2)⁻¹ : ℝ) : EReal)) ?_ (by rw [mul_comm, ← EReal.coe_mul])
    rw [← hr6]
    pointwise [tripU.sl.v66, tripU.sl.v63, tripU.sl.v62, tripU.sl.v61, tripU.sl.v60, tripU.sl.v44, tripU.sl.v58, tripU.sl.r_2, k0_pay7]
    refine congrArg (fun z : EReal => z * k0_pay6 (F := Ideal) (tripU.sl.r (F := Ideal) c i arg3 X3 k)) ?_
    refine (hl _).trans ?_
    congr 2
    exact Fin.ext (by simp only []; omega)
  replace h256 : ¬ (256 ≤ x.val ∧ x.val < 256 + 128) := fun h => h256 fun a => by
    fin_cases a
    · exact h
    · exact ⟨Nat.zero_le _, by have := (y).isLt; show _ < 0 + 128; simpa using this⟩
  refine read_agree_val (Val := Elt Ideal) _ _ _ _ _ _ _ rfl (fun r hr => ?_) (fun h128 => ?_)
  · obtain ⟨r0, r1, rfl⟩ : ∃ a b, r = ix2 a b := ⟨r 0, r 1, by funext a; fin_cases a <;> rfl⟩
    have e0 : x.val = 128 + r0.val := hr 0
    have e1 : _ = 0 + r1.val := hr 1
    refine Eq.trans (b := ((D.ks x : ℝ) : EReal) * ((D.qs * rsqrt96 * (Real.log 2)⁻¹ : ℝ) : EReal)) ?_ (by rw [mul_comm, ← EReal.coe_mul])
    rw [← hr6]
    pointwise [tripU.sl.v51, tripU.sl.v48, tripU.sl.v47, tripU.sl.v46, tripU.sl.v45, tripU.sl.v44, tripU.sl.v43, tripU.sl.r_2, k0_pay7]
    refine congrArg (fun z : EReal => z * k0_pay6 (F := Ideal) (tripU.sl.r (F := Ideal) c i arg3 X3 k)) ?_
    refine (hl _).trans ?_
    congr 2
    exact Fin.ext (by simp only []; omega)
  replace h128 : ¬ (128 ≤ x.val ∧ x.val < 128 + 128) := fun h => h128 fun a => by
    fin_cases a
    · exact h
    · exact ⟨Nat.zero_le _, by have := (y).isLt; show _ < 0 + 128; simpa using this⟩
  refine read_agree_val (Val := Elt Ideal) _ _ _ _ _ _ _ rfl (fun r hr => ?_) (fun h0 => ?_)
  · obtain ⟨r0, r1, rfl⟩ : ∃ a b, r = ix2 a b := ⟨r 0, r 1, by funext a; fin_cases a <;> rfl⟩
    have e0 : x.val = 0 + r0.val := hr 0
    have e1 : _ = 0 + r1.val := hr 1
    refine Eq.trans (b := ((D.ks x : ℝ) : EReal) * ((D.qs * rsqrt96 * (Real.log 2)⁻¹ : ℝ) : EReal)) ?_ (by rw [mul_comm, ← EReal.coe_mul])
    rw [← hr6]
    pointwise [k0_pay12, k0_pay7]
    refine congrArg (fun z : EReal => z * k0_pay6 (F := Ideal) (tripU.sl.r (F := Ideal) c i arg3 X3 k)) ?_
    refine (hl _).trans ?_
    congr 2
    exact Fin.ext (by simp only []; omega)
  replace h0 : ¬ (0 ≤ x.val ∧ x.val < 0 + 128) := fun h => h0 fun a => by
    fin_cases a
    · exact h
    · exact ⟨Nat.zero_le _, by have := (y).isLt; show _ < 0 + 128; simpa using this⟩
  omega

theorem scr18 (h7 : ∀ c' l, arg7.view.read (Elt Ideal) X7 (ix4 0 (slot k) c' l) = ((D.v c' l : ℝ) : EReal))
    (h9 : ∀ l, arg9.view.read (Elt Ideal) X9 (ix3 0 (head i k) l) = ((D.vs l : ℝ) : EReal)) (j : Fin 96) (x : Fin 2048) :
    arg18.view.read (Elt Ideal) (arg18.view.writes (Elt Ideal) arg18.view.junk (tripU.sl.H18_1 (F := Ideal) c i arg7 arg9 X7 X9 k)) (ix2 j x)
      = ((D.vv j x : ℝ) : EReal) := by
  unfold tripU.sl.H18_1
  refine read_agree_val (Val := Elt Ideal) _ _ _ _ _ _ _ rfl (fun r hr => ?_) (fun h => absurd (fun a => ?_) h)
  · obtain rfl : r = ix2 j x := by
      funext a; fin_cases a
      · exact Fin.ext ((hr 0).trans (Nat.zero_add _)).symm
      · exact Fin.ext ((hr 1).trans (Nat.zero_add _)).symm
    exact pay50_coe D (fun l => r3_coe c i arg9 X9 k D h9 l) (fun c' l => ld_v c arg7 X7 k (T := D.v) h7 c' l) j x
  · fin_cases a
    · exact ⟨Nat.zero_le _, by have := j.isLt; show _ < 0 + 96; simpa using this⟩
    · exact ⟨Nat.zero_le _, by have := x.isLt; show _ < 0 + 2048; simpa using this⟩

end

end Cert.KernelIdeal.Hand

end
-- ==== Proof.KernelIdeal.Step.lean ====
/-
  One trip of the head loop: what its stores leave, from what its loads read.
-/
module

public import proofs.«01_k».proof.Proof.KernelIdeal.Off
public import proofs.«01_k».proof.Proof.KernelIdeal.PayM
public import proofs.«01_k».proof.Proof.KernelIdeal.PayO
public import proofs.«01_k».proof.Proof.KernelIdeal.PayT
public import proofs.«01_k».proof.Proof.KernelIdeal.Scr

@[expose] public section

noncomputable section

namespace Cert.KernelIdeal.Hand

open Cert.KernelIdeal Cert.KernelIdeal.Gen Idealize.ShloMosaic Idealize.ShloMosaic.TcCoe Cert.Spec

section
variable (c : Dev nD) (i : grid0.Coords)
  (arg3 : Memref sig .tc .smem S3x5x30 .f32) (harg3 : arg3.IsWhole) (arg4 : Memref sig .tc .smem S30 .f32) (harg4 : arg4.IsWhole) (arg5 : Memref sig .tc .vmem S1x6x96x2048 .fp8e4m3) (harg5 : arg5.IsWhole) (arg6 : Memref sig .tc .vmem S1x6x96x2048 .fp8e4m3) (harg6 : arg6.IsWhole) (arg7 : Memref sig .tc .vmem S1x6x96x2048 .fp8e4m3) (harg7 : arg7.IsWhole) (arg8 : Memref sig .tc .vmem S1x30x2048 .f32) (harg8 : arg8.IsWhole) (arg9 : Memref sig .tc .vmem S1x30x2048 .f32) (harg9 : arg9.IsWhole) (arg10 : Memref sig .tc .vmem S1x30x96x96 .f32) (harg10 : arg10.IsWhole) (arg11 : Memref sig .tc .vmem S1x30x96 .f32) (harg11 : arg11.IsWhole)
  (arg12 : Memref sig .tc .vmem S1x6x96x2048 .bf16) (harg12 : arg12.IsWhole) (arg13 : Memref sig .tc .vmem S1x30x96x96 .f32) (harg13 : arg13.IsWhole) (arg14 : Memref sig .tc .vmem S1x30x96 .f32) (harg14 : arg14.IsWhole) (arg15 : Memref sig .tc .vmem S30x96x128 .f32) (harg15 : arg15.IsWhole) (arg16 : Memref sig .tc .vmem S2048x96 .fp8e4m3) (harg16 : arg16.IsWhole) (arg17 : Memref sig .tc .vmem S2048x128 .f32) (harg17 : arg17.IsWhole) (arg18 : Memref sig .tc .vmem S96x2048 .bf16) (harg18 : arg18.IsWhole)
  (X3 : Buf (Elt Ideal) (arg3.view.loc (c : Thread nD τ))) (X4 : Buf (Elt Ideal) (arg4.view.loc (c : Thread nD τ))) (X5 : Buf (Elt Ideal) (arg5.view.loc (c : Thread nD τ))) (X6 : Buf (Elt Ideal) (arg6.view.loc (c : Thread nD τ))) (X7 : Buf (Elt Ideal) (arg7.view.loc (c : Thread nD τ))) (X8 : Buf (Elt Ideal) (arg8.view.loc (c : Thread nD τ))) (X9 : Buf (Elt Ideal) (arg9.view.loc (c : Thread nD τ))) (X10 : Buf (Elt Ideal) (arg10.view.loc (c : Thread nD τ))) (X11 : Buf (Elt Ideal) (arg11.view.loc (c : Thread nD τ)))

variable (f15 : Buf (Elt Ideal) (arg15.view.loc (c : Thread nD τ))) (k : Fin k0_t1_loop.trips)

/-- What the loads of trip `k` at grid point `i` read: the head's cell, its memory before the segment and its gate. -/
structure Reads (D : Cell) (M : Fin 96 → Fin 96 → ℝ) (z : Fin 96 → ℝ) (g : ℝ) : Prop where
  hqs : arg3.view.read (Elt Ideal) X3 (ix3 (i 0) (i 1) (head i k)) = ((D.qs : ℝ) : EReal)
  hg : (Ideal.logistic (arg4.view.read (Elt Ideal) X4 (ix1 (head i k)))).toReal = g
  hq : ∀ c' l, arg5.view.read (Elt Ideal) X5 (ix4 0 (slot k) c' l) = ((D.q c' l : ℝ) : EReal)
  hk : ∀ c' l, arg6.view.read (Elt Ideal) X6 (ix4 0 (slot k) c' l) = ((D.k c' l : ℝ) : EReal)
  hv : ∀ c' l, arg7.view.read (Elt Ideal) X7 (ix4 0 (slot k) c' l) = ((D.v c' l : ℝ) : EReal)
  hks : ∀ l, arg8.view.read (Elt Ideal) X8 (ix3 0 (head i k) l) = ((D.ks l : ℝ) : EReal)
  hvs : ∀ l, arg9.view.read (Elt Ideal) X9 (ix3 0 (head i k) l) = ((D.vs l : ℝ) : EReal)
  hm0 : k0_cond1 i = 1#1 → ∀ c' j, arg10.view.read (Elt Ideal) X10 (ix4 0 (head i k) c' j) = ((M c' j : ℝ) : EReal)
  hz0 : k0_cond1 i = 1#1 → ∀ c', arg11.view.read (Elt Ideal) X11 (ix3 0 (head i k) c') = ((z c' : ℝ) : EReal)
  hmz : ¬ k0_cond1 i = 1#1 → ∀ c' l, arg15.view.read (Elt Ideal) f15 (ix3 (head i k) c' l) = ((mzOf M z c' l : ℝ) : EReal)
  hpos : ∀ c', 0 < z c'

variable {c i arg3 arg4 arg5 arg6 arg7 arg8 arg9 arg10 arg11 arg12 arg13 arg14 arg15 arg16 arg17 arg18 X3 X4 X5 X6 X7 X8 X9 X10 X11 f15 k}
variable {D : Cell} {M : Fin 96 → Fin 96 → ℝ} {z : Fin 96 → ℝ} {g : ℝ}

theorem ld_m0 (hc : k0_cond1 i = 1#1) {T : Fin 96 → Fin 96 → ℝ} (h : ∀ c' j, arg10.view.read (Elt Ideal) X10 (ix4 0 (head i k) c' j) = ((T c' j : ℝ) : EReal)) (c' j) :
    View.readAt (Elt Ideal) arg10.view (Rect.unit (s := S1x30x96x96) (k0_off3 i k) S1x1x96x96.size (k0_off3_inb i k hc)).toLoadRect X10 (ix4 0 0 c' j) = ((T c' j : ℝ) : EReal) := by
  refine (readAt_unit _ _ _ _ (ix4 0 (head i k) c' j) (off3_eq i k) ?_).trans (h c' j)
  intro a; fin_cases a <;> first | rfl | exact (Nat.zero_add _).symm

theorem ld_z0 (hc : k0_cond1 i = 1#1) {T : Fin 96 → ℝ} (h : ∀ c', arg11.view.read (Elt Ideal) X11 (ix3 0 (head i k) c') = ((T c' : ℝ) : EReal)) (c') :
    View.readAt (Elt Ideal) arg11.view (Rect.unit (s := S1x30x96) (k0_off1 i k) S1x1x96.size (k0_off1_inb i k hc)).toLoadRect X11 (ix3 0 0 c') = ((T c' : ℝ) : EReal) := by
  refine (readAt_unit _ _ _ _ (ix3 0 (head i k) c') (off1_eq i k) ?_).trans (h c')
  intro a; fin_cases a <;> first | rfl | exact (Nat.zero_add _).symm

/-- The carried rows of the head as the trip reads them. -/
theorem v273_coe (R : Reads c i arg3 arg4 arg5 arg6 arg7 arg8 arg9 arg10 arg11 arg15 X3 X4 X5 X6 X7 X8 X9 X10 X11 f15 k D M z g) (c' : Fin 96) (l : Fin 128) : (tripU.sl.v273 (F := Ideal) c i arg10 arg11 arg15 X10 X11 k f15) (ix3 0 c' l) = ((mzOf M z c' l : ℝ) : EReal) := by
  unfold tripU.sl.v273
  refine (readAt_unit _ _ _ _ (ix3 (head i k) c' l) (off8_eq i k) ?_).trans ?_
  · intro a; fin_cases a <;> first | rfl | exact (Nat.zero_add _).symm
  split
  next hc =>
    refine read_agree_val (Val := Elt Ideal) _ _ _ _ _ _ _ (off4_eq i k) (fun r hr => ?_) (fun h1 => ?_)
    · obtain ⟨r0, r1, r2, rfl⟩ : ∃ a b c, r = ix3 a b c := ⟨r 0, r 1, r 2, by funext a; fin_cases a <;> rfl⟩
      have e1 : c'.val = 0 + r1.val := hr 1
      have e2 : l.val = 0 + r2.val := hr 2
      obtain rfl : r0 = 0 := Subsingleton.elim _ _
      refine (pay5_coe (fun a b => ld_m0 (i := i) (k := k) hc (R.hm0 hc) a b) r1 r2).trans ?_
      obtain rfl : c' = r1 := Fin.ext (by omega)
      have h2 := r2.isLt
      have h3 : l.val < 96 := by omega
      have : (⟨l.val, h3⟩ : Fin 96) = r2 := Fin.ext (by show l.val = r2.val; omega)
      simp only [mzOf, dif_pos h3, this]
    · replace h1 : ¬ l.val < 96 := fun h => h1 fun a => by
        fin_cases a
        · exact ⟨le_refl _, Nat.lt_succ_self _⟩
        · exact ⟨Nat.zero_le _, by have := c'.isLt; show _ < 0 + 96; simpa using this⟩
        · exact ⟨Nat.zero_le _, by show _ < 0 + 96; simpa using h⟩
      refine read_agree_val (Val := Elt Ideal) _ _ _ _ _ _ _ (off2_eq i k) (fun r hr => ?_) (fun h2 => absurd (fun a => ?_) h2)
      · obtain ⟨r0, r1, r2, rfl⟩ : ∃ a b c, r = ix3 a b c := ⟨r 0, r 1, r 2, by funext a; fin_cases a <;> rfl⟩
        have e1 : c'.val = 0 + r1.val := hr 1
        obtain rfl : r0 = 0 := Subsingleton.elim _ _
        refine (pay4_coe (fun a => ld_z0 (i := i) (k := k) hc (R.hz0 hc) a) r1 r2).trans ?_
        obtain rfl : c' = r1 := Fin.ext (by omega)
        simp only [mzOf, dif_neg h1]
      · fin_cases a
        · exact ⟨le_refl _, Nat.lt_succ_self _⟩
        · exact ⟨Nat.zero_le _, by have := c'.isLt; show _ < 0 + 96; simpa using this⟩
        · exact ⟨Nat.zero_le _, by have := l.isLt; show _ < 0 + 128; simpa using this⟩
  next hc => exact R.hmz hc c' l

theorem r8_coe (R : Reads c i arg3 arg4 arg5 arg6 arg7 arg8 arg9 arg10 arg11 arg15 X3 X4 X5 X6 X7 X8 X9 X10 X11 f15 k D M z g) (c' l) : (tripU.sl.r_8 (F := Ideal) c i arg10 arg11 arg15 X10 X11 k f15) (ix2 c' l) = ((mzOf M z c' l : ℝ) : EReal) :=
  pay51_coe (fun a b => v273_coe R a b) c' l

theorem r9_coe (R : Reads c i arg3 arg4 arg5 arg6 arg7 arg8 arg9 arg10 arg11 arg15 X3 X4 X5 X6 X7 X8 X9 X10 X11 f15 k D M z g) (c') : (tripU.sl.r_9 (F := Ideal) c i arg10 arg11 arg15 X10 X11 k f15) (ix2 c' 0) = ((z c' : ℝ) : EReal) :=
  pay52_coe (fun a b => v273_coe R a b) c'

/-- The carried rows of the head after the trip. -/
theorem r19_coe (R : Reads c i arg3 arg4 arg5 arg6 arg7 arg8 arg9 arg10 arg11 arg15 X3 X4 X5 X6 X7 X8 X9 X10 X11 f15 k D M z g) (c' l) : (tripU.sl.r_19 (F := Ideal) c i arg6 arg7 arg8 arg9 arg10 arg11 arg15 X6 X7 X8 X9 X10 X11 k f15) (ix2 c' l) = ((mzOf (D.newM M z) (D.newZ z) c' l : ℝ) : EReal) := by
  have h14 : ∀ l, (tripU.sl.r_2 (F := Ideal) c i arg8 X8 k) (ix2 0 l) = ((D.ks l : ℝ) : EReal) := r2_coe _ _ _ _ _ D R.hks
  have h20 : ∀ a l, (tripU.sl.r_4 (F := Ideal) c arg6 X6 k) (ix2 a l) = ((D.k a l : ℝ) : EReal) := r4_coe _ _ _ _ D R.hk
  have h9 := r9_coe R
  exact pay91_coe D (fun a b => pay49_coe D (fun l => r3_coe c i arg9 X9 k D R.hvs l) (fun a l => ld_v c arg7 X7 k (T := D.v) R.hv a l) a b)
    (r8_coe R) (pay85_coe D h14 h20 R.hpos h9) (pay86_coe D h14 h20)
    (pay88_coe D h14 h20) (pay89_coe D h14 h20) (pay90_coe D h14 h20 R.hpos h9) c' l

theorem v329_coe (R : Reads c i arg3 arg4 arg5 arg6 arg7 arg8 arg9 arg10 arg11 arg15 X3 X4 X5 X6 X7 X8 X9 X10 X11 f15 k D M z g) : (tripU.sl.v329 (F := Ideal) c i arg4 X4 k) (ix2 0 0) = ((g : ℝ) : EReal) := by
  refine (show _ = k0_pay58 (F := Ideal) (tripU.sl.r_13 (F := Ideal) c i arg4 X4 k) (ix2 0 0) from rfl).trans ?_
  rw [pay58_coe, ← R.hg]
  unfold tripU.sl.r_13
  rw [readAt_unit arg4.view X4 _ _ (ix1 (head i k)) (off9_eq i k)]
  intro a; fin_cases a; rfl

theorem v335_coe (R : Reads c i arg3 arg4 arg5 arg6 arg7 arg8 arg9 arg10 arg11 arg15 X3 X4 X5 X6 X7 X8 X9 X10 X11 f15 k D M z g) (j l) : (tripU.sl.v335 (F := Ideal) c i arg3 arg4 arg5 arg10 arg11 arg15 X3 X4 X5 X10 X11 k f15) (ix2 j l) = ((g * D.mem M z j l : ℝ) : EReal) := by
  refine (show _ = k0_pay59 (F := Ideal) (tripU.sl.r_8 (F := Ideal) c i arg10 arg11 arg15 X10 X11 k f15) (tripU.sl.r_10 (F := Ideal) c i arg3 arg5 X3 X5 k) (tripU.sl.r_11 (F := Ideal) c i arg3 arg5 X3 X5 k) (tripU.sl.r_12 (F := Ideal) c i arg3 arg5 X3 X5 k) (tripU.sl.r_13 (F := Ideal) c i arg4 X4 k) (ix2 j l) from rfl).trans ?_
  refine pay59_coe D R.hpos (r8_coe R)
    (fun a b => sq_coe D (ld_qs c i arg3 X3 k D R.hqs) (fun a b => ld_q c arg5 X5 k (T := D.q) R.hq a b) a b) ?_ j l
  exact v329_coe R

set_option maxHeartbeats 2000000 in
theorem strip0 (R : Reads c i arg3 arg4 arg5 arg6 arg7 arg8 arg9 arg10 arg11 arg15 X3 X4 X5 X6 X7 X8 X9 X10 X11 f15 k D M z g) (j : Fin 96) (r : Fin 256) :
    (tripU.sl.v371 (F := Ideal) c i arg3 arg4 arg5 arg6 arg7 arg8 arg9 arg10 arg11 arg15 arg16 arg17 arg18 X3 X4 X5 X6 X7 X8 X9 X10 X11 k f15) (ix4 0 0 j r) = ((D.outAt g M z j ⟨0 + r.val, by omega⟩ : ℝ) : EReal) := by
  refine Eq.trans (b := k0_pay61 (tripU.sl.v329 (F := Ideal) c i arg4 X4 k) (tripU.sl.v335 (F := Ideal) c i arg3 arg4 arg5 arg10 arg11 arg15 X3 X4 X5 X10 X11 k f15) (k0_pay60 (F := Ideal) (tripU.sl.v336 (F := Ideal) c arg6 arg16 X6 k) (View.readAt (Elt Ideal) arg5.view (Rect.unit (s := S1x6x96x2048) (k0_off10 k) S1x1x96x256.size (k0_off10_inb k)).toLoadRect X5)) (tripU.sl.v341 (F := Ideal) c i arg3 arg8 arg17 X3 X8 k) (tripU.sl.v356 (F := Ideal) c i arg7 arg9 arg18 X7 X9 k) (ix4 0 0 j r)) rfl ?_
  have e329 := v329_coe R
  have e335 := v335_coe R
  refine (tile0 D e329 e335 (fun x y => ?_) (fun y w => ?_) (fun x y => ?_) (fun y x => ?_) j r).trans ?_
  · refine (readAt_unit _ _ _ _ (ix2 (Fin.castLE (by decide) x) y) rfl ?_).trans (scr16 c arg6 arg16 X6 k D R.hk _ _)
    intro a; fin_cases a <;> exact (Nat.zero_add _).symm
  · refine (readAt_unit _ _ _ _ (ix4 0 (slot k) y ⟨0 + w.val, by omega⟩) (off10_eq k) ?_).trans (R.hq _ _)
    intro a; fin_cases a <;> first | rfl | exact (Nat.zero_add _).symm
  · refine (readAt_unit _ _ _ _ (ix2 (Fin.castLE (by decide) x) y) rfl ?_).trans (scr17 c i arg3 arg8 arg17 X3 X8 k D R.hqs R.hks _ _)
    intro a; fin_cases a <;> exact (Nat.zero_add _).symm
  · refine (readAt_unit _ _ _ _ (ix2 y (Fin.castLE (by decide) x)) rfl ?_).trans (scr18 c i arg7 arg9 arg18 X7 X9 k D R.hv R.hvs _ _)
    intro a; fin_cases a <;> exact (Nat.zero_add _).symm
  · simp only [Nat.zero_add]

set_option maxHeartbeats 2000000 in
theorem strip1 (R : Reads c i arg3 arg4 arg5 arg6 arg7 arg8 arg9 arg10 arg11 arg15 X3 X4 X5 X6 X7 X8 X9 X10 X11 f15 k D M z g) (j : Fin 96) (r : Fin 256) :
    (tripU.sl.v410 (F := Ideal) c i arg3 arg4 arg5 arg6 arg7 arg8 arg9 arg10 arg11 arg15 arg16 arg17 arg18 X3 X4 X5 X6 X7 X8 X9 X10 X11 k f15) (ix4 0 0 j r) = ((D.outAt g M z j ⟨256 + r.val, by omega⟩ : ℝ) : EReal) := by
  refine Eq.trans (b := k0_pay63 (tripU.sl.v329 (F := Ideal) c i arg4 X4 k) (tripU.sl.v335 (F := Ideal) c i arg3 arg4 arg5 arg10 arg11 arg15 X3 X4 X5 X10 X11 k f15) (k0_pay62 (tripU.sl.v372 (F := Ideal) c arg6 arg16 X6 k) (View.readAt (Elt Ideal) arg5.view (Rect.unit (s := S1x6x96x2048) (k0_off11 k) S1x1x96x256.size (k0_off11_inb k)).toLoadRect X5) (tripU.sl.v377 (F := Ideal) c i arg3 arg8 arg17 X3 X8 k)) (iota .tc S256x256 32 [0] iota_S256x256_d0_w32) (iota .tc S256x256 32 [1] iota_S256x256_d1_w32) (tripU.sl.v395 (F := Ideal) c i arg7 arg9 arg18 X7 X9 k) (ix4 0 0 j r)) rfl ?_
  have e329 := v329_coe R
  have e335 := v335_coe R
  refine (tile1 D e329 e335 (fun x y => ?_) (fun y w => ?_) (fun x y => ?_) (fun y x => ?_) j r).trans ?_
  · refine (readAt_unit _ _ _ _ (ix2 (Fin.castLE (by decide) x) y) rfl ?_).trans (scr16 c arg6 arg16 X6 k D R.hk _ _)
    intro a; fin_cases a <;> exact (Nat.zero_add _).symm
  · refine (readAt_unit _ _ _ _ (ix4 0 (slot k) y ⟨256 + w.val, by omega⟩) (off11_eq k) ?_).trans (R.hq _ _)
    intro a; fin_cases a <;> first | rfl | exact (Nat.zero_add _).symm
  · refine (readAt_unit _ _ _ _ (ix2 (Fin.castLE (by decide) x) y) rfl ?_).trans (scr17 c i arg3 arg8 arg17 X3 X8 k D R.hqs R.hks _ _)
    intro a; fin_cases a <;> exact (Nat.zero_add _).symm
  · refine (readAt_unit _ _ _ _ (ix2 y (Fin.castLE (by decide) x)) rfl ?_).trans (scr18 c i arg7 arg9 arg18 X7 X9 k D R.hv R.hvs _ _)
    intro a; fin_cases a <;> exact (Nat.zero_add _).symm
  · rfl

set_option maxHeartbeats 2000000 in
theorem strip2 (R : Reads c i arg3 arg4 arg5 arg6 arg7 arg8 arg9 arg10 arg11 arg15 X3 X4 X5 X6 X7 X8 X9 X10 X11 f15 k D M z g) (j : Fin 96) (r : Fin 256) :
    (tripU.sl.v449 (F := Ideal) c i arg3 arg4 arg5 arg6 arg7 arg8 arg9 arg10 arg11 arg15 arg16 arg17 arg18 X3 X4 X5 X6 X7 X8 X9 X10 X11 k f15) (ix4 0 0 j r) = ((D.outAt g M z j ⟨512 + r.val, by omega⟩ : ℝ) : EReal) := by
  refine Eq.trans (b := k0_pay67 (tripU.sl.v329 (F := Ideal) c i arg4 X4 k) (tripU.sl.v335 (F := Ideal) c i arg3 arg4 arg5 arg10 arg11 arg15 X3 X4 X5 X10 X11 k f15) (k0_pay64 (tripU.sl.v411 (F := Ideal) c arg6 arg16 X6 k) (View.readAt (Elt Ideal) arg5.view (Rect.unit (s := S1x6x96x2048) (k0_off12 k) S1x1x96x256.size (k0_off12_inb k)).toLoadRect X5) (tripU.sl.v416 (F := Ideal) c i arg3 arg8 arg17 X3 X8 k)) k0_pay65 (k0_pay66 (tripU.sl.v411 (F := Ideal) c arg6 arg16 X6 k) (View.readAt (Elt Ideal) arg5.view (Rect.unit (s := S1x6x96x2048) (k0_off12 k) S1x1x96x256.size (k0_off12_inb k)).toLoadRect X5) (tripU.sl.v416 (F := Ideal) c i arg3 arg8 arg17 X3 X8 k)) (tripU.sl.v434 (F := Ideal) c i arg7 arg9 arg18 X7 X9 k) (ix4 0 0 j r)) rfl ?_
  have e329 := v329_coe R
  have e335 := v335_coe R
  refine (tile2 D e329 e335 (fun x y => ?_) (fun y w => ?_) (fun x y => ?_) (fun y x => ?_) j r).trans ?_
  · refine (readAt_unit _ _ _ _ (ix2 (Fin.castLE (by decide) x) y) rfl ?_).trans (scr16 c arg6 arg16 X6 k D R.hk _ _)
    intro a; fin_cases a <;> exact (Nat.zero_add _).symm
  · refine (readAt_unit _ _ _ _ (ix4 0 (slot k) y ⟨512 + w.val, by omega⟩) (off12_eq k) ?_).trans (R.hq _ _)
    intro a; fin_cases a <;> first | rfl | exact (Nat.zero_add _).symm
  · refine (readAt_unit _ _ _ _ (ix2 (Fin.castLE (by decide) x) y) rfl ?_).trans (scr17 c i arg3 arg8 arg17 X3 X8 k D R.hqs R.hks _ _)
    intro a; fin_cases a <;> exact (Nat.zero_add _).symm
  · refine (readAt_unit _ _ _ _ (ix2 y (Fin.castLE (by decide) x)) rfl ?_).trans (scr18 c i arg7 arg9 arg18 X7 X9 k D R.hv R.hvs _ _)
    intro a; fin_cases a <;> exact (Nat.zero_add _).symm
  · rfl

set_option maxHeartbeats 2000000 in
theorem strip3 (R : Reads c i arg3 arg4 arg5 arg6 arg7 arg8 arg9 arg10 arg11 arg15 X3 X4 X5 X6 X7 X8 X9 X10 X11 f15 k D M z g) (j : Fin 96) (r : Fin 256) :
    (tripU.sl.v488 (F := Ideal) c i arg3 arg4 arg5 arg6 arg7 arg8 arg9 arg10 arg11 arg15 arg16 arg17 arg18 X3 X4 X5 X6 X7 X8 X9 X10 X11 k f15) (ix4 0 0 j r) = ((D.outAt g M z j ⟨768 + r.val, by omega⟩ : ℝ) : EReal) := by
  refine Eq.trans (b := k0_pay72 (tripU.sl.v329 (F := Ideal) c i arg4 X4 k) (tripU.sl.v335 (F := Ideal) c i arg3 arg4 arg5 arg10 arg11 arg15 X3 X4 X5 X10 X11 k f15) (k0_pay68 (tripU.sl.v450 (F := Ideal) c arg6 arg16 X6 k) (View.readAt (Elt Ideal) arg5.view (Rect.unit (s := S1x6x96x2048) (k0_off13 k) S1x1x96x256.size (k0_off13_inb k)).toLoadRect X5) (tripU.sl.v455 (F := Ideal) c i arg3 arg8 arg17 X3 X8 k)) k0_pay69 (k0_pay70 (tripU.sl.v450 (F := Ideal) c arg6 arg16 X6 k) (View.readAt (Elt Ideal) arg5.view (Rect.unit (s := S1x6x96x2048) (k0_off13 k) S1x1x96x256.size (k0_off13_inb k)).toLoadRect X5) (tripU.sl.v455 (F := Ideal) c i arg3 arg8 arg17 X3 X8 k)) (k0_pay71) (tripU.sl.v473 (F := Ideal) c i arg7 arg9 arg18 X7 X9 k) (ix4 0 0 j r)) rfl ?_
  have e329 := v329_coe R
  have e335 := v335_coe R
  refine (tile3 D e329 e335 (fun x y => ?_) (fun y w => ?_) (fun x y => ?_) (fun y x => ?_) j r).trans ?_
  · refine (readAt_unit _ _ _ _ (ix2 (Fin.castLE (by decide) x) y) rfl ?_).trans (scr16 c arg6 arg16 X6 k D R.hk _ _)
    intro a; fin_cases a <;> exact (Nat.zero_add _).symm
  · refine (readAt_unit _ _ _ _ (ix4 0 (slot k) y ⟨768 + w.val, by omega⟩) (off13_eq k) ?_).trans (R.hq _ _)
    intro a; fin_cases a <;> first | rfl | exact (Nat.zero_add _).symm
  · refine (readAt_unit _ _ _ _ (ix2 (Fin.castLE (by decide) x) y) rfl ?_).trans (scr17 c i arg3 arg8 arg17 X3 X8 k D R.hqs R.hks _ _)
    intro a; fin_cases a <;> exact (Nat.zero_add _).symm
  · refine (readAt_unit _ _ _ _ (ix2 y (Fin.castLE (by decide) x)) rfl ?_).trans (scr18 c i arg7 arg9 arg18 X7 X9 k D R.hv R.hvs _ _)
    intro a; fin_cases a <;> exact (Nat.zero_add _).symm
  · rfl

set_option maxHeartbeats 2000000 in
theorem strip4 (R : Reads c i arg3 arg4 arg5 arg6 arg7 arg8 arg9 arg10 arg11 arg15 X3 X4 X5 X6 X7 X8 X9 X10 X11 f15 k D M z g) (j : Fin 96) (r : Fin 256) :
    (tripU.sl.v527 (F := Ideal) c i arg3 arg4 arg5 arg6 arg7 arg8 arg9 arg10 arg11 arg15 arg16 arg17 arg18 X3 X4 X5 X6 X7 X8 X9 X10 X11 k f15) (ix4 0 0 j r) = ((D.outAt g M z j ⟨1024 + r.val, by omega⟩ : ℝ) : EReal) := by
  refine Eq.trans (b := k0_pay76 (tripU.sl.v329 (F := Ideal) c i arg4 X4 k) (tripU.sl.v335 (F := Ideal) c i arg3 arg4 arg5 arg10 arg11 arg15 X3 X4 X5 X10 X11 k f15) (k0_pay74 (tripU.sl.v489 (F := Ideal) c arg6 arg16 X6 k) (View.readAt (Elt Ideal) arg5.view (Rect.unit (s := S1x6x96x2048) (k0_off14 k) S1x1x96x256.size (k0_off14_inb k)).toLoadRect X5) (tripU.sl.v494 (F := Ideal) c i arg3 arg8 arg17 X3 X8 k)) (k0_pay75 (tripU.sl.v489 (F := Ideal) c arg6 arg16 X6 k) (View.readAt (Elt Ideal) arg5.view (Rect.unit (s := S1x6x96x2048) (k0_off14 k) S1x1x96x256.size (k0_off14_inb k)).toLoadRect X5) (tripU.sl.v494 (F := Ideal) c i arg3 arg8 arg17 X3 X8 k)) (tripU.sl.v512 (F := Ideal) c i arg7 arg9 arg18 X7 X9 k) (ix4 0 0 j r)) rfl ?_
  have e329 := v329_coe R
  have e335 := v335_coe R
  refine (tile4 D e329 e335 (fun x y => ?_) (fun y w => ?_) (fun x y => ?_) (fun y x => ?_) j r).trans ?_
  · refine (readAt_unit _ _ _ _ (ix2 (Fin.castLE (by decide) x) y) rfl ?_).trans (scr16 c arg6 arg16 X6 k D R.hk _ _)
    intro a; fin_cases a <;> exact (Nat.zero_add _).symm
  · refine (readAt_unit _ _ _ _ (ix4 0 (slot k) y ⟨1024 + w.val, by omega⟩) (off14_eq k) ?_).trans (R.hq _ _)
    intro a; fin_cases a <;> first | rfl | exact (Nat.zero_add _).symm
  · refine (readAt_unit _ _ _ _ (ix2 (Fin.castLE (by decide) x) y) rfl ?_).trans (scr17 c i arg3 arg8 arg17 X3 X8 k D R.hqs R.hks _ _)
    intro a; fin_cases a <;> exact (Nat.zero_add _).symm
  · refine (readAt_unit _ _ _ _ (ix2 y (Fin.castLE (by decide) x)) rfl ?_).trans (scr18 c i arg7 arg9 arg18 X7 X9 k D R.hv R.hvs _ _)
    intro a; fin_cases a <;> exact (Nat.zero_add _).symm
  · rfl

set_option maxHeartbeats 2000000 in
theorem strip5 (R : Reads c i arg3 arg4 arg5 arg6 arg7 arg8 arg9 arg10 arg11 arg15 X3 X4 X5 X6 X7 X8 X9 X10 X11 f15 k D M z g) (j : Fin 96) (r : Fin 256) :
    (tripU.sl.v566 (F := Ideal) c i arg3 arg4 arg5 arg6 arg7 arg8 arg9 arg10 arg11 arg15 arg16 arg17 arg18 X3 X4 X5 X6 X7 X8 X9 X10 X11 k f15) (ix4 0 0 j r) = ((D.outAt g M z j ⟨1280 + r.val, by omega⟩ : ℝ) : EReal) := by
  refine Eq.trans (b := k0_pay78 (tripU.sl.v329 (F := Ideal) c i arg4 X4 k) (tripU.sl.v335 (F := Ideal) c i arg3 arg4 arg5 arg10 arg11 arg15 X3 X4 X5 X10 X11 k f15) (k0_pay77 (tripU.sl.v528 (F := Ideal) c arg6 arg16 X6 k) (View.readAt (Elt Ideal) arg5.view (Rect.unit (s := S1x6x96x2048) (k0_off15 k) S1x1x96x256.size (k0_off15_inb k)).toLoadRect X5) (tripU.sl.v533 (F := Ideal) c i arg3 arg8 arg17 X3 X8 k)) (tripU.sl.v551 (F := Ideal) c i arg7 arg9 arg18 X7 X9 k) (ix4 0 0 j r)) rfl ?_
  have e329 := v329_coe R
  have e335 := v335_coe R
  refine (tile5 D e329 e335 (fun x y => ?_) (fun y w => ?_) (fun x y => ?_) (fun y x => ?_) j r).trans ?_
  · refine (readAt_unit _ _ _ _ (ix2 (Fin.castLE (by decide) x) y) rfl ?_).trans (scr16 c arg6 arg16 X6 k D R.hk _ _)
    intro a; fin_cases a <;> exact (Nat.zero_add _).symm
  · refine (readAt_unit _ _ _ _ (ix4 0 (slot k) y ⟨1280 + w.val, by omega⟩) (off15_eq k) ?_).trans (R.hq _ _)
    intro a; fin_cases a <;> first | rfl | exact (Nat.zero_add _).symm
  · refine (readAt_unit _ _ _ _ (ix2 (Fin.castLE (by decide) x) y) rfl ?_).trans (scr17 c i arg3 arg8 arg17 X3 X8 k D R.hqs R.hks _ _)
    intro a; fin_cases a <;> exact (Nat.zero_add _).symm
  · refine (readAt_unit _ _ _ _ (ix2 y (Fin.castLE (by decide) x)) rfl ?_).trans (scr18 c i arg7 arg9 arg18 X7 X9 k D R.hv R.hvs _ _)
    intro a; fin_cases a <;> exact (Nat.zero_add _).symm
  · rfl

set_option maxHeartbeats 2000000 in
theorem strip6 (R : Reads c i arg3 arg4 arg5 arg6 arg7 arg8 arg9 arg10 arg11 arg15 X3 X4 X5 X6 X7 X8 X9 X10 X11 f15 k D M z g) (j : Fin 96) (r : Fin 256) :
    (tripU.sl.v605 (F := Ideal) c i arg3 arg4 arg5 arg6 arg7 arg8 arg9 arg10 arg11 arg15 arg16 arg17 arg18 X3 X4 X5 X6 X7 X8 X9 X10 X11 k f15) (ix4 0 0 j r) = ((D.outAt g M z j ⟨1536 + r.val, by omega⟩ : ℝ) : EReal) := by
  refine Eq.trans (b := k0_pay81 (tripU.sl.v329 (F := Ideal) c i arg4 X4 k) (tripU.sl.v335 (F := Ideal) c i arg3 arg4 arg5 arg10 arg11 arg15 X3 X4 X5 X10 X11 k f15) (k0_pay79 (tripU.sl.v567 (F := Ideal) c arg6 arg16 X6 k) (View.readAt (Elt Ideal) arg5.view (Rect.unit (s := S1x6x96x2048) (k0_off16 k) S1x1x96x256.size (k0_off16_inb k)).toLoadRect X5) (tripU.sl.v572 (F := Ideal) c i arg3 arg8 arg17 X3 X8 k)) (k0_pay80 (tripU.sl.v567 (F := Ideal) c arg6 arg16 X6 k) (View.readAt (Elt Ideal) arg5.view (Rect.unit (s := S1x6x96x2048) (k0_off16 k) S1x1x96x256.size (k0_off16_inb k)).toLoadRect X5) (tripU.sl.v572 (F := Ideal) c i arg3 arg8 arg17 X3 X8 k)) (tripU.sl.v590 (F := Ideal) c i arg7 arg9 arg18 X7 X9 k) (ix4 0 0 j r)) rfl ?_
  have e329 := v329_coe R
  have e335 := v335_coe R
  refine (tile6 D e329 e335 (fun x y => ?_) (fun y w => ?_) (fun x y => ?_) (fun y x => ?_) j r).trans ?_
  · refine (readAt_unit _ _ _ _ (ix2 (Fin.castLE (by decide) x) y) rfl ?_).trans (scr16 c arg6 arg16 X6 k D R.hk _ _)
    intro a; fin_cases a <;> exact (Nat.zero_add _).symm
  · refine (readAt_unit _ _ _ _ (ix4 0 (slot k) y ⟨1536 + w.val, by omega⟩) (off16_eq k) ?_).trans (R.hq _ _)
    intro a; fin_cases a <;> first | rfl | exact (Nat.zero_add _).symm
  · refine (readAt_unit _ _ _ _ (ix2 (Fin.castLE (by decide) x) y) rfl ?_).trans (scr17 c i arg3 arg8 arg17 X3 X8 k D R.hqs R.hks _ _)
    intro a; fin_cases a <;> exact (Nat.zero_add _).symm
  · refine (readAt_unit _ _ _ _ (ix2 y (Fin.castLE (by decide) x)) rfl ?_).trans (scr18 c i arg7 arg9 arg18 X7 X9 k D R.hv R.hvs _ _)
    intro a; fin_cases a <;> exact (Nat.zero_add _).symm
  · rfl

set_option maxHeartbeats 2000000 in
theorem strip7 (R : Reads c i arg3 arg4 arg5 arg6 arg7 arg8 arg9 arg10 arg11 arg15 X3 X4 X5 X6 X7 X8 X9 X10 X11 f15 k D M z g) (j : Fin 96) (r : Fin 256) :
    (k0_pay83 (tripU.sl.v329 (F := Ideal) c i arg4 X4 k) (tripU.sl.v335 (F := Ideal) c i arg3 arg4 arg5 arg10 arg11 arg15 X3 X4 X5 X10 X11 k f15) (tripU.sl.v625 (F := Ideal) c i arg3 arg5 arg6 arg8 arg16 arg17 X3 X5 X6 X8 k) (tripU.sl.v629 (F := Ideal) c i arg7 arg9 arg18 X7 X9 k)) (ix4 0 0 j r) = ((D.outAt g M z j ⟨1792 + r.val, by omega⟩ : ℝ) : EReal) := by
  refine Eq.trans (b := k0_pay83 (tripU.sl.v329 (F := Ideal) c i arg4 X4 k) (tripU.sl.v335 (F := Ideal) c i arg3 arg4 arg5 arg10 arg11 arg15 X3 X4 X5 X10 X11 k f15) (k0_pay82 (tripU.sl.v606 (F := Ideal) c arg6 arg16 X6 k) (View.readAt (Elt Ideal) arg5.view (Rect.unit (s := S1x6x96x2048) (k0_off17 k) S1x1x96x256.size (k0_off17_inb k)).toLoadRect X5) (tripU.sl.v611 (F := Ideal) c i arg3 arg8 arg17 X3 X8 k)) (tripU.sl.v629 (F := Ideal) c i arg7 arg9 arg18 X7 X9 k) (ix4 0 0 j r)) rfl ?_
  have e329 := v329_coe R
  have e335 := v335_coe R
  refine (tile7 D e329 e335 (fun x y => ?_) (fun y w => ?_) (fun x y => ?_) (fun y x => ?_) j r).trans ?_
  · refine (readAt_unit _ _ _ _ (ix2 (Fin.castLE (by decide) x) y) rfl ?_).trans (scr16 c arg6 arg16 X6 k D R.hk _ _)
    intro a; fin_cases a <;> exact (Nat.zero_add _).symm
  · refine (readAt_unit _ _ _ _ (ix4 0 (slot k) y ⟨1792 + w.val, by omega⟩) (off17_eq k) ?_).trans (R.hq _ _)
    intro a; fin_cases a <;> first | rfl | exact (Nat.zero_add _).symm
  · refine (readAt_unit _ _ _ _ (ix2 (Fin.castLE (by decide) x) y) rfl ?_).trans (scr17 c i arg3 arg8 arg17 X3 X8 k D R.hqs R.hks _ _)
    intro a; fin_cases a <;> exact (Nat.zero_add _).symm
  · refine (readAt_unit _ _ _ _ (ix2 y (Fin.castLE (by decide) x)) rfl ?_).trans (scr18 c i arg7 arg9 arg18 X7 X9 k D R.hv R.hvs _ _)
    intro a; fin_cases a <;> exact (Nat.zero_add _).symm
  · rfl

end

end Cert.KernelIdeal.Hand

end
-- ==== Proof.KernelIdeal.Trip1.lean ====
/-
  What one trip of the head loop leaves in the output block, the final memory and the carried scratch.
-/
module

public import proofs.«01_k».proof.Proof.KernelIdeal.Step

@[expose] public section

noncomputable section

namespace Cert.KernelIdeal.Hand

open Cert.KernelIdeal Cert.KernelIdeal.Gen Idealize.ShloMosaic Idealize.ShloMosaic.TcCoe Cert.Spec

section
variable {sig : RefSig} {κ : Kind} {sp : Space} {s : Shape} {e : EltTy} {Val : EltTy → Type}
/-- A store does not touch an index that one coordinate puts outside it. -/
theorem read_skip (v : View sig κ sp s e) (f : v.ty.Contents Val) {off off' size : Fin s.rank → ℕ}
    (inb : ∀ a, off a + size a ≤ s.size a) (w : (Rect.unit off size inb).shape.Idx → Val e) (L : List (View.Piece Val s e)) (y : s.Idx)
    (heq : off = off') (a : Fin s.rank) (h : ¬ (off' a ≤ (y a).val ∧ (y a).val < off' a + size a)) :
    v.read Val (v.writes Val f ((⟨Rect.unit off size inb, w⟩ : View.Piece Val s e) :: L)) y = v.read Val (v.writes Val f L) y := by
  rw [View.read_writes_cons_unit v f inb w L y heq, dif_neg fun h' => h (h' a)]
end

section
variable (c : Dev nD) (i : grid0.Coords)
  (arg3 : Memref sig .tc .smem S3x5x30 .f32) (harg3 : arg3.IsWhole) (arg4 : Memref sig .tc .smem S30 .f32) (harg4 : arg4.IsWhole) (arg5 : Memref sig .tc .vmem S1x6x96x2048 .fp8e4m3) (harg5 : arg5.IsWhole) (arg6 : Memref sig .tc .vmem S1x6x96x2048 .fp8e4m3) (harg6 : arg6.IsWhole) (arg7 : Memref sig .tc .vmem S1x6x96x2048 .fp8e4m3) (harg7 : arg7.IsWhole) (arg8 : Memref sig .tc .vmem S1x30x2048 .f32) (harg8 : arg8.IsWhole) (arg9 : Memref sig .tc .vmem S1x30x2048 .f32) (harg9 : arg9.IsWhole) (arg10 : Memref sig .tc .vmem S1x30x96x96 .f32) (harg10 : arg10.IsWhole) (arg11 : Memref sig .tc .vmem S1x30x96 .f32) (harg11 : arg11.IsWhole)
  (arg12 : Memref sig .tc .vmem S1x6x96x2048 .bf16) (harg12 : arg12.IsWhole) (arg13 : Memref sig .tc .vmem S1x30x96x96 .f32) (harg13 : arg13.IsWhole) (arg14 : Memref sig .tc .vmem S1x30x96 .f32) (harg14 : arg14.IsWhole) (arg15 : Memref sig .tc .vmem S30x96x128 .f32) (harg15 : arg15.IsWhole) (arg16 : Memref sig .tc .vmem S2048x96 .fp8e4m3) (harg16 : arg16.IsWhole) (arg17 : Memref sig .tc .vmem S2048x128 .f32) (harg17 : arg17.IsWhole) (arg18 : Memref sig .tc .vmem S96x2048 .bf16) (harg18 : arg18.IsWhole)
  (X3 : Buf (Elt Ideal) (arg3.view.loc (c : Thread nD τ))) (X4 : Buf (Elt Ideal) (arg4.view.loc (c : Thread nD τ))) (X5 : Buf (Elt Ideal) (arg5.view.loc (c : Thread nD τ))) (X6 : Buf (Elt Ideal) (arg6.view.loc (c : Thread nD τ))) (X7 : Buf (Elt Ideal) (arg7.view.loc (c : Thread nD τ))) (X8 : Buf (Elt Ideal) (arg8.view.loc (c : Thread nD τ))) (X9 : Buf (Elt Ideal) (arg9.view.loc (c : Thread nD τ))) (X10 : Buf (Elt Ideal) (arg10.view.loc (c : Thread nD τ))) (X11 : Buf (Elt Ideal) (arg11.view.loc (c : Thread nD τ)))

variable (f15 : Buf (Elt Ideal) (arg15.view.loc (c : Thread nD τ))) (k : Fin k0_t1_loop.trips)
variable {D : Cell} {M : Fin 96 → Fin 96 → ℝ} {z : Fin 96 → ℝ} {g : ℝ}

theorem out_hit (R : Reads c i arg3 arg4 arg5 arg6 arg7 arg8 arg9 arg10 arg11 arg15 X3 X4 X5 X6 X7 X8 X9 X10 X11 f15 k D M z g) (f12 : Buf (Elt Ideal) (arg12.view.loc (c : Thread nD τ))) (j : Fin 96) (l : Fin 2048) :
    arg12.view.read (Elt Ideal) (arg12.view.writes (Elt Ideal) f12 ((tripU (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).1 f15)) (ix4 0 (slot k) j l) = ((D.outAt g M z j l : ℝ) : EReal) := by
  unfold tripU
  show arg12.view.read (Elt Ideal) (arg12.view.writes (Elt Ideal) f12 (tripU.sl.H12_8 c i arg3 arg4 arg5 arg6 arg7 arg8 arg9 arg10 arg11 arg15 arg16 arg17 arg18 X3 X4 X5 X6 X7 X8 X9 X10 X11 k f15)) _ = _
  unfold tripU.sl.H12_8
  refine read_agree_val (Val := Elt Ideal) _ _ _ _ _ _ _ (off17_eq k) (fun r hr => ?_) (fun h7 => ?_)
  · obtain ⟨r0, r1, r2, r3, rfl⟩ : ∃ a b c d, r = ix4 a b c d := ⟨r 0, r 1, r 2, r 3, by funext a; fin_cases a <;> rfl⟩
    have e2 : j.val = 0 + r2.val := hr 2
    have e3 : l.val = 1792 + r3.val := hr 3
    obtain rfl : r0 = 0 := Subsingleton.elim _ _
    obtain rfl : r1 = 0 := Subsingleton.elim _ _
    refine (strip7 R r2 r3).trans ?_
    obtain rfl : j = r2 := Fin.ext (by omega)
    exact congrArg (fun x : Fin 2048 => ((D.outAt g M z j x : ℝ) : EReal)) (Fin.ext e3.symm)
  replace h7 : ¬ (1792 ≤ l.val ∧ l.val < 1792 + 256) := fun h => h7 fun a => by
    fin_cases a
    · exact ⟨le_refl _, Nat.lt_succ_self _⟩
    · exact ⟨le_refl _, Nat.lt_succ_self _⟩
    · exact ⟨Nat.zero_le _, by have := j.isLt; show j.val < 0 + 96; omega⟩
    · exact h
  refine read_agree_val (Val := Elt Ideal) _ _ _ _ _ _ _ (off16_eq k) (fun r hr => ?_) (fun h6 => ?_)
  · obtain ⟨r0, r1, r2, r3, rfl⟩ : ∃ a b c d, r = ix4 a b c d := ⟨r 0, r 1, r 2, r 3, by funext a; fin_cases a <;> rfl⟩
    have e2 : j.val = 0 + r2.val := hr 2
    have e3 : l.val = 1536 + r3.val := hr 3
    obtain rfl : r0 = 0 := Subsingleton.elim _ _
    obtain rfl : r1 = 0 := Subsingleton.elim _ _
    refine (strip6 R r2 r3).trans ?_
    obtain rfl : j = r2 := Fin.ext (by omega)
    exact congrArg (fun x : Fin 2048 => ((D.outAt g M z j x : ℝ) : EReal)) (Fin.ext e3.symm)
  replace h6 : ¬ (1536 ≤ l.val ∧ l.val < 1536 + 256) := fun h => h6 fun a => by
    fin_cases a
    · exact ⟨le_refl _, Nat.lt_succ_self _⟩
    · exact ⟨le_refl _, Nat.lt_succ_self _⟩
    · exact ⟨Nat.zero_le _, by have := j.isLt; show j.val < 0 + 96; omega⟩
    · exact h
  refine read_agree_val (Val := Elt Ideal) _ _ _ _ _ _ _ (off15_eq k) (fun r hr => ?_) (fun h5 => ?_)
  · obtain ⟨r0, r1, r2, r3, rfl⟩ : ∃ a b c d, r = ix4 a b c d := ⟨r 0, r 1, r 2, r 3, by funext a; fin_cases a <;> rfl⟩
    have e2 : j.val = 0 + r2.val := hr 2
    have e3 : l.val = 1280 + r3.val := hr 3
    obtain rfl : r0 = 0 := Subsingleton.elim _ _
    obtain rfl : r1 = 0 := Subsingleton.elim _ _
    refine (strip5 R r2 r3).trans ?_
    obtain rfl : j = r2 := Fin.ext (by omega)
    exact congrArg (fun x : Fin 2048 => ((D.outAt g M z j x : ℝ) : EReal)) (Fin.ext e3.symm)
  replace h5 : ¬ (1280 ≤ l.val ∧ l.val < 1280 + 256) := fun h => h5 fun a => by
    fin_cases a
    · exact ⟨le_refl _, Nat.lt_succ_self _⟩
    · exact ⟨le_refl _, Nat.lt_succ_self _⟩
    · exact ⟨Nat.zero_le _, by have := j.isLt; show j.val < 0 + 96; omega⟩
    · exact h
  refine read_agree_val (Val := Elt Ideal) _ _ _ _ _ _ _ (off14_eq k) (fun r hr => ?_) (fun h4 => ?_)
  · obtain ⟨r0, r1, r2, r3, rfl⟩ : ∃ a b c d, r = ix4 a b c d := ⟨r 0, r 1, r 2, r 3, by funext a; fin_cases a <;> rfl⟩
    have e2 : j.val = 0 + r2.val := hr 2
    have e3 : l.val = 1024 + r3.val := hr 3
    obtain rfl : r0 = 0 := Subsingleton.elim _ _
    obtain rfl : r1 = 0 := Subsingleton.elim _ _
    refine (strip4 R r2 r3).trans ?_
    obtain rfl : j = r2 := Fin.ext (by omega)
    exact congrArg (fun x : Fin 2048 => ((D.outAt g M z j x : ℝ) : EReal)) (Fin.ext e3.symm)
  replace h4 : ¬ (1024 ≤ l.val ∧ l.val < 1024 + 256) := fun h => h4 fun a => by
    fin_cases a
    · exact ⟨le_refl _, Nat.lt_succ_self _⟩
    · exact ⟨le_refl _, Nat.lt_succ_self _⟩
    · exact ⟨Nat.zero_le _, by have := j.isLt; show j.val < 0 + 96; omega⟩
    · exact h
  refine read_agree_val (Val := Elt Ideal) _ _ _ _ _ _ _ (off13_eq k) (fun r hr => ?_) (fun h3 => ?_)
  · obtain ⟨r0, r1, r2, r3, rfl⟩ : ∃ a b c d, r = ix4 a b c d := ⟨r 0, r 1, r 2, r 3, by funext a; fin_cases a <;> rfl⟩
    have e2 : j.val = 0 + r2.val := hr 2
    have e3 : l.val = 768 + r3.val := hr 3
    obtain rfl : r0 = 0 := Subsingleton.elim _ _
    obtain rfl : r1 = 0 := Subsingleton.elim _ _
    refine (strip3 R r2 r3).trans ?_
    obtain rfl : j = r2 := Fin.ext (by omega)
    exact congrArg (fun x : Fin 2048 => ((D.outAt g M z j x : ℝ) : EReal)) (Fin.ext e3.symm)
  replace h3 : ¬ (768 ≤ l.val ∧ l.val < 768 + 256) := fun h => h3 fun a => by
    fin_cases a
    · exact ⟨le_refl _, Nat.lt_succ_self _⟩
    · exact ⟨le_refl _, Nat.lt_succ_self _⟩
    · exact ⟨Nat.zero_le _, by have := j.isLt; show j.val < 0 + 96; omega⟩
    · exact h
  refine read_agree_val (Val := Elt Ideal) _ _ _ _ _ _ _ (off12_eq k) (fun r hr => ?_) (fun h2 => ?_)
  · obtain ⟨r0, r1, r2, r3, rfl⟩ : ∃ a b c d, r = ix4 a b c d := ⟨r 0, r 1, r 2, r 3, by funext a; fin_cases a <;> rfl⟩
    have e2 : j.val = 0 + r2.val := hr 2
    have e3 : l.val = 512 + r3.val := hr 3
    obtain rfl : r0 = 0 := Subsingleton.elim _ _
    obtain rfl : r1 = 0 := Subsingleton.elim _ _
    refine (strip2 R r2 r3).trans ?_
    obtain rfl : j = r2 := Fin.ext (by omega)
    exact congrArg (fun x : Fin 2048 => ((D.outAt g M z j x : ℝ) : EReal)) (Fin.ext e3.symm)
  replace h2 : ¬ (512 ≤ l.val ∧ l.val < 512 + 256) := fun h => h2 fun a => by
    fin_cases a
    · exact ⟨le_refl _, Nat.lt_succ_self _⟩
    · exact ⟨le_refl _, Nat.lt_succ_self _⟩
    · exact ⟨Nat.zero_le _, by have := j.isLt; show j.val < 0 + 96; omega⟩
    · exact h
  refine read_agree_val (Val := Elt Ideal) _ _ _ _ _ _ _ (off11_eq k) (fun r hr => ?_) (fun h1 => ?_)
  · obtain ⟨r0, r1, r2, r3, rfl⟩ : ∃ a b c d, r = ix4 a b c d := ⟨r 0, r 1, r 2, r 3, by funext a; fin_cases a <;> rfl⟩
    have e2 : j.val = 0 + r2.val := hr 2
    have e3 : l.val = 256 + r3.val := hr 3
    obtain rfl : r0 = 0 := Subsingleton.elim _ _
    obtain rfl : r1 = 0 := Subsingleton.elim _ _
    refine (strip1 R r2 r3).trans ?_
    obtain rfl : j = r2 := Fin.ext (by omega)
    exact congrArg (fun x : Fin 2048 => ((D.outAt g M z j x : ℝ) : EReal)) (Fin.ext e3.symm)
  replace h1 : ¬ (256 ≤ l.val ∧ l.val < 256 + 256) := fun h => h1 fun a => by
    fin_cases a
    · exact ⟨le_refl _, Nat.lt_succ_self _⟩
    · exact ⟨le_refl _, Nat.lt_succ_self _⟩
    · exact ⟨Nat.zero_le _, by have := j.isLt; show j.val < 0 + 96; omega⟩
    · exact h
  refine read_agree_val (Val := Elt Ideal) _ _ _ _ _ _ _ (off10_eq k) (fun r hr => ?_) (fun h0 => ?_)
  · obtain ⟨r0, r1, r2, r3, rfl⟩ : ∃ a b c d, r = ix4 a b c d := ⟨r 0, r 1, r 2, r 3, by funext a; fin_cases a <;> rfl⟩
    have e2 : j.val = 0 + r2.val := hr 2
    have e3 : l.val = 0 + r3.val := hr 3
    obtain rfl : r0 = 0 := Subsingleton.elim _ _
    obtain rfl : r1 = 0 := Subsingleton.elim _ _
    refine (strip0 R r2 r3).trans ?_
    obtain rfl : j = r2 := Fin.ext (by omega)
    exact congrArg (fun x : Fin 2048 => ((D.outAt g M z j x : ℝ) : EReal)) (Fin.ext e3.symm)
  replace h0 : ¬ (0 ≤ l.val ∧ l.val < 0 + 256) := fun h => h0 fun a => by
    fin_cases a
    · exact ⟨le_refl _, Nat.lt_succ_self _⟩
    · exact ⟨le_refl _, Nat.lt_succ_self _⟩
    · exact ⟨Nat.zero_le _, by have := j.isLt; show j.val < 0 + 96; omega⟩
    · exact h
  have := l.isLt
  omega

theorem out_miss (f12 : Buf (Elt Ideal) (arg12.view.loc (c : Thread nD τ))) (k' : Fin 6) (hk : k' ≠ slot k) (j : Fin 96) (l : Fin 2048) :
    arg12.view.read (Elt Ideal) (arg12.view.writes (Elt Ideal) f12 ((tripU (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).1 f15)) (ix4 0 k' j l) = arg12.view.read (Elt Ideal) f12 (ix4 0 k' j l) := by
  have h : ¬ ((slot k).val ≤ k'.val ∧ k'.val < (slot k).val + 1) := fun h => hk (Fin.ext (by omega))
  unfold tripU
  show arg12.view.read (Elt Ideal) (arg12.view.writes (Elt Ideal) f12 (tripU.sl.H12_8 c i arg3 arg4 arg5 arg6 arg7 arg8 arg9 arg10 arg11 arg15 arg16 arg17 arg18 X3 X4 X5 X6 X7 X8 X9 X10 X11 k f15)) _ = _
  unfold tripU.sl.H12_8
  refine (read_skip _ _ _ _ _ _ (off17_eq k) 1 h).trans ?_
  refine (read_skip _ _ _ _ _ _ (off16_eq k) 1 h).trans ?_
  refine (read_skip _ _ _ _ _ _ (off15_eq k) 1 h).trans ?_
  refine (read_skip _ _ _ _ _ _ (off14_eq k) 1 h).trans ?_
  refine (read_skip _ _ _ _ _ _ (off13_eq k) 1 h).trans ?_
  refine (read_skip _ _ _ _ _ _ (off12_eq k) 1 h).trans ?_
  refine (read_skip _ _ _ _ _ _ (off11_eq k) 1 h).trans ?_
  refine (read_skip _ _ _ _ _ _ (off10_eq k) 1 h).trans ?_
  rfl

theorem carry_hit (R : Reads c i arg3 arg4 arg5 arg6 arg7 arg8 arg9 arg10 arg11 arg15 X3 X4 X5 X6 X7 X8 X9 X10 X11 f15 k D M z g) (c' : Fin 96) (l : Fin 128) :
    arg15.view.read (Elt Ideal) ((tripU (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).2.2.2.1 f15) (ix3 (head i k) c' l) = ((mzOf (D.newM M z) (D.newZ z) c' l : ℝ) : EReal) := by
  unfold tripU
  show arg15.view.read (Elt Ideal) (arg15.view.writes (Elt Ideal) _ (tripU.sl.H15_1 c i arg6 arg7 arg8 arg9 arg10 arg11 arg15 X6 X7 X8 X9 X10 X11 k f15)) _ = _
  unfold tripU.sl.H15_1
  refine read_agree_val (Val := Elt Ideal) _ _ _ _ _ _ _ (off8_eq i k) (fun r hr => ?_) (fun h => absurd (fun a => ?_) h)
  · obtain ⟨r0, r1, r2, rfl⟩ : ∃ a b c, r = ix3 a b c := ⟨r 0, r 1, r 2, by funext a; fin_cases a <;> rfl⟩
    have e1 : c'.val = 0 + r1.val := hr 1
    have e2 : l.val = 0 + r2.val := hr 2
    obtain rfl : r0 = 0 := Subsingleton.elim _ _
    refine (pay1_coe (fun a b => r19_coe R a b) r1 r2).trans ?_
    obtain rfl : c' = r1 := Fin.ext (by omega)
    obtain rfl : l = r2 := Fin.ext (by omega)
    rfl
  · fin_cases a
    · exact ⟨le_refl _, Nat.lt_succ_self _⟩
    · exact ⟨Nat.zero_le _, by have := c'.isLt; show _ < 0 + 96; simpa using this⟩
    · exact ⟨Nat.zero_le _, by have := l.isLt; show _ < 0 + 128; simpa using this⟩

set_option maxHeartbeats 2000000 in
theorem carry_miss (h' : Fin 30) (hh : h' ≠ head i k) (c' : Fin 96) (l : Fin 128) :
    arg15.view.read (Elt Ideal) ((tripU (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).2.2.2.1 f15) (ix3 h' c' l) = arg15.view.read (Elt Ideal) f15 (ix3 h' c' l) := by
  have h : ¬ ((head i k).val ≤ h'.val ∧ h'.val < (head i k).val + 1) := fun h => hh (Fin.ext (by omega))
  unfold tripU
  show arg15.view.read (Elt Ideal) (arg15.view.writes (Elt Ideal) _ (tripU.sl.H15_1 c i arg6 arg7 arg8 arg9 arg10 arg11 arg15 X6 X7 X8 X9 X10 X11 k f15)) _ = _
  unfold tripU.sl.H15_1
  refine (read_skip _ _ _ _ _ _ (off8_eq i k) 0 h).trans ?_
  by_cases hc : k0_cond1 i = 1#1
  · rw [View.writes_nil, dif_pos hc]
    refine (read_skip _ _ _ _ _ _ (off4_eq i k) 0 h).trans ?_
    exact (read_skip _ _ _ _ _ _ (off2_eq i k) 0 h).trans rfl
  · rw [View.writes_nil, dif_neg hc]

theorem m_hit (R : Reads c i arg3 arg4 arg5 arg6 arg7 arg8 arg9 arg10 arg11 arg15 X3 X4 X5 X6 X7 X8 X9 X10 X11 f15 k D M z g) (f13 : Buf (Elt Ideal) (arg13.view.loc (c : Thread nD τ))) (hc : k0_cond2 i = 1#1) (c' j : Fin 96) :
    arg13.view.read (Elt Ideal) ((tripU (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).2.1 f13 f15) (ix4 0 (head i k) c' j) = ((D.newM M z c' j : ℝ) : EReal) := by
  unfold tripU
  show arg13.view.read (Elt Ideal) (if hc : k0_cond2 i = 1#1 then _ else f13) _ = _
  rw [dif_pos hc]
  refine read_agree_val (Val := Elt Ideal) _ _ _ _ _ _ _ (off18_eq i k) (fun r hr => ?_) (fun h => absurd (fun a => ?_) h)
  · obtain ⟨r0, r1, r2, r3, rfl⟩ : ∃ a b c d, r = ix4 a b c d := ⟨r 0, r 1, r 2, r 3, by funext a; fin_cases a <;> rfl⟩
    have e2 : c'.val = 0 + r2.val := hr 2
    have e3 : j.val = 0 + r3.val := hr 3
    obtain rfl : r0 = 0 := Subsingleton.elim _ _
    obtain rfl : r1 = 0 := Subsingleton.elim _ _
    refine (pay2_coe (fun a b => r19_coe R a b) r2 r3).trans ?_
    obtain rfl : c' = r2 := Fin.ext (by omega)
    obtain rfl : j = r3 := Fin.ext (by omega)
    rfl
  · fin_cases a
    · exact ⟨le_refl _, Nat.lt_succ_self _⟩
    · exact ⟨le_refl _, Nat.lt_succ_self _⟩
    · exact ⟨Nat.zero_le _, by have := c'.isLt; show _ < 0 + 96; simpa using this⟩
    · exact ⟨Nat.zero_le _, by have := j.isLt; show _ < 0 + 96; simpa using this⟩

theorem m_miss (f13 : Buf (Elt Ideal) (arg13.view.loc (c : Thread nD τ))) (h' : Fin 30) (hh : h' ≠ head i k) (c' j : Fin 96) :
    arg13.view.read (Elt Ideal) ((tripU (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).2.1 f13 f15) (ix4 0 h' c' j) = arg13.view.read (Elt Ideal) f13 (ix4 0 h' c' j) := by
  have h : ¬ ((head i k).val ≤ h'.val ∧ h'.val < (head i k).val + 1) := fun h => hh (Fin.ext (by omega))
  unfold tripU
  show arg13.view.read (Elt Ideal) (if hc : k0_cond2 i = 1#1 then _ else f13) _ = _
  by_cases hc : k0_cond2 i = 1#1
  · rw [dif_pos hc]
    exact read_skip _ _ _ _ _ _ (off18_eq i k) 1 h
  · rw [dif_neg hc]

theorem z_hit (R : Reads c i arg3 arg4 arg5 arg6 arg7 arg8 arg9 arg10 arg11 arg15 X3 X4 X5 X6 X7 X8 X9 X10 X11 f15 k D M z g) (f14 : Buf (Elt Ideal) (arg14.view.loc (c : Thread nD τ))) (hc : k0_cond2 i = 1#1) (c' : Fin 96) :
    arg14.view.read (Elt Ideal) ((tripU (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).2.2.1 f14 f15) (ix3 0 (head i k) c') = ((D.newZ z c' : ℝ) : EReal) := by
  unfold tripU
  show arg14.view.read (Elt Ideal) (if hc : k0_cond2 i = 1#1 then _ else f14) _ = _
  rw [dif_pos hc]
  refine read_agree_val (Val := Elt Ideal) _ _ _ _ _ _ _ (off19_eq i k) (fun r hr => ?_) (fun h => absurd (fun a => ?_) h)
  · obtain ⟨r0, r1, r2, rfl⟩ : ∃ a b c, r = ix3 a b c := ⟨r 0, r 1, r 2, by funext a; fin_cases a <;> rfl⟩
    have e2 : c'.val = 0 + r2.val := hr 2
    obtain rfl : r0 = 0 := Subsingleton.elim _ _
    obtain rfl : r1 = 0 := Subsingleton.elim _ _
    refine (pay3_coe (fun a b => r19_coe R a b) r2).trans ?_
    obtain rfl : c' = r2 := Fin.ext (by omega)
    rfl
  · fin_cases a
    · exact ⟨le_refl _, Nat.lt_succ_self _⟩
    · exact ⟨le_refl _, Nat.lt_succ_self _⟩
    · exact ⟨Nat.zero_le _, by have := c'.isLt; show _ < 0 + 96; simpa using this⟩

theorem z_miss (f14 : Buf (Elt Ideal) (arg14.view.loc (c : Thread nD τ))) (h' : Fin 30) (hh : h' ≠ head i k) (c' : Fin 96) :
    arg14.view.read (Elt Ideal) ((tripU (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (BitVec.ofNat 32 (i 1).val) (BitVec.ofNat 32 (i 2).val) X3 X4 X5 X6 X7 X8 X9 X10 X11 k).2.2.1 f14 f15) (ix3 0 h' c') = arg14.view.read (Elt Ideal) f14 (ix3 0 h' c') := by
  have h : ¬ ((head i k).val ≤ h'.val ∧ h'.val < (head i k).val + 1) := fun h => hh (Fin.ext (by omega))
  unfold tripU
  show arg14.view.read (Elt Ideal) (if hc : k0_cond2 i = 1#1 then _ else f14) _ = _
  by_cases hc : k0_cond2 i = 1#1
  · rw [dif_pos hc]
    exact read_skip _ _ _ _ _ _ (off19_eq i k) 1 h
  · rw [dif_neg hc]
end

end Cert.KernelIdeal.Hand

end
-- ==== Proof.Data.lean ====
/-
  The whole problem over the reals: the data of every head of every sequence, its cells segment by segment, the memory
  each segment finds, and the outputs.
-/
module

public import proofs.«01_k».proof.Proof.Spec

@[expose] public section

noncomputable section

namespace Cert.Spec

/-- What the programs are given, as real numbers: codes and scales by sequence, head, (channel,) position. -/
structure Data where
  q : Fin 3 → Fin 30 → Fin 96 → Fin 10240 → ℝ
  k : Fin 3 → Fin 30 → Fin 96 → Fin 10240 → ℝ
  v : Fin 3 → Fin 30 → Fin 96 → Fin 10240 → ℝ
  qs : Fin 3 → Fin 5 → Fin 30 → ℝ
  ks : Fin 3 → Fin 30 → Fin 10240 → ℝ
  vs : Fin 3 → Fin 30 → Fin 10240 → ℝ
  m0 : Fin 3 → Fin 30 → Fin 96 → Fin 96 → ℝ
  z0 : Fin 3 → Fin 30 → Fin 96 → ℝ
  g : Fin 30 → ℝ

/-- Position `l` of segment `s`. -/
def pos (s : Fin 5) (l : Fin 2048) : Fin 10240 := ⟨s.val * 2048 + l.val, by omega⟩

/-- The segment number, of any natural number. -/
def seg (n : ℕ) : Fin 5 := ⟨n % 5, Nat.mod_lt _ (by decide)⟩

theorem seg_val (s : Fin 5) : seg s.val = s := Fin.ext (Nat.mod_eq_of_lt s.isLt)

namespace Data

variable (D : Data)

/-- One head of one sequence in one segment. -/
def cell (b : Fin 3) (h : Fin 30) (s : Fin 5) : Cell where
  q := fun c l => D.q b h c (pos s l)
  k := fun c l => D.k b h c (pos s l)
  v := fun c l => D.v b h c (pos s l)
  qs := D.qs b s h
  ks := fun l => D.ks b h (pos s l)
  vs := fun l => D.vs b h (pos s l)

/-- The memory and its normaliser after the first `n` segments. -/
def state (b : Fin 3) (h : Fin 30) : ℕ → (Fin 96 → Fin 96 → ℝ) × (Fin 96 → ℝ)
  | 0 => (D.m0 b h, D.z0 b h)
  | n + 1 => ((D.cell b h (seg n)).newM (state b h n).1 (state b h n).2, (D.cell b h (seg n)).newZ (state b h n).2)

theorem state_succ (b : Fin 3) (h : Fin 30) (n : ℕ) :
    D.state b h (n + 1) = ((D.cell b h (seg n)).newM (D.state b h n).1 (D.state b h n).2, (D.cell b h (seg n)).newZ (D.state b h n).2) := rfl

theorem state_pos (hz : ∀ b h c, 0 < D.z0 b h c) (b : Fin 3) (h : Fin 30) (n : ℕ) (c : Fin 96) : 0 < (D.state b h n).2 c := by
  induction n generalizing c with
  | zero => exact hz b h c
  | succ n ih => exact Cell.newZ_pos _ (fun c => ih c) c

/-- The output of segment `s`. -/
def out (b : Fin 3) (h : Fin 30) (s : Fin 5) (j : Fin 96) (l : Fin 2048) : ℝ :=
  (D.cell b h s).outAt (D.g h) (D.state b h s.val).1 (D.state b h s.val).2 j l

end Data

end Cert.Spec

end
-- ==== Proof.KernelIdeal.Point.lean ====
/-
  One point of the grid: six heads, one after another. What the output block, the final memory and the carried scratch hold afterwards.
-/
module

public import proofs.«01_k».proof.Proof.KernelIdeal.Trip1
public import proofs.«01_k».proof.Proof.KernelIdeal.Body
public import proofs.«01_k».proof.Proof.Data

@[expose] public section

noncomputable section

namespace Cert.KernelIdeal.Hand

open Cert.KernelIdeal Cert.KernelIdeal.Gen Idealize.ShloMosaic Idealize.ShloMosaic.TcCoe Cert.Spec

/-- The head that trip `k` at point `i` works on. -/
def hd (i : grid0.Coords) (k : Fin 6) : Fin 30 := ⟨(i 2).val * 6 + k.val, by
  have h : (i 2).val < 5 := (i 2).isLt
  omega⟩

theorem hd_inj {i : grid0.Coords} {k k' : Fin 6} (h : hd i k = hd i k') : k = k' := by
  have := congrArg Fin.val h
  simp only [hd] at this
  exact Fin.ext (by omega)

section
variable (c : Dev nD) (i : grid0.Coords)
  (arg3 : Memref sig .tc .smem S3x5x30 .f32) (harg3 : arg3.IsWhole) (arg4 : Memref sig .tc .smem S30 .f32) (harg4 : arg4.IsWhole) (arg5 : Memref sig .tc .vmem S1x6x96x2048 .fp8e4m3) (harg5 : arg5.IsWhole) (arg6 : Memref sig .tc .vmem S1x6x96x2048 .fp8e4m3) (harg6 : arg6.IsWhole) (arg7 : Memref sig .tc .vmem S1x6x96x2048 .fp8e4m3) (harg7 : arg7.IsWhole) (arg8 : Memref sig .tc .vmem S1x30x2048 .f32) (harg8 : arg8.IsWhole) (arg9 : Memref sig .tc .vmem S1x30x2048 .f32) (harg9 : arg9.IsWhole) (arg10 : Memref sig .tc .vmem S1x30x96x96 .f32) (harg10 : arg10.IsWhole) (arg11 : Memref sig .tc .vmem S1x30x96 .f32) (harg11 : arg11.IsWhole)
  (arg12 : Memref sig .tc .vmem S1x6x96x2048 .bf16) (harg12 : arg12.IsWhole) (arg13 : Memref sig .tc .vmem S1x30x96x96 .f32) (harg13 : arg13.IsWhole) (arg14 : Memref sig .tc .vmem S1x30x96 .f32) (harg14 : arg14.IsWhole) (arg15 : Memref sig .tc .vmem S30x96x128 .f32) (harg15 : arg15.IsWhole) (arg16 : Memref sig .tc .vmem S2048x96 .fp8e4m3) (harg16 : arg16.IsWhole) (arg17 : Memref sig .tc .vmem S2048x128 .f32) (harg17 : arg17.IsWhole) (arg18 : Memref sig .tc .vmem S96x2048 .bf16) (harg18 : arg18.IsWhole)
  (X3 : Buf (Elt Ideal) (arg3.view.loc (c : Thread nD τ))) (X4 : Buf (Elt Ideal) (arg4.view.loc (c : Thread nD τ))) (X5 : Buf (Elt Ideal) (arg5.view.loc (c : Thread nD τ))) (X6 : Buf (Elt Ideal) (arg6.view.loc (c : Thread nD τ))) (X7 : Buf (Elt Ideal) (arg7.view.loc (c : Thread nD τ))) (X8 : Buf (Elt Ideal) (arg8.view.loc (c : Thread nD τ))) (X9 : Buf (Elt Ideal) (arg9.view.loc (c : Thread nD τ))) (X10 : Buf (Elt Ideal) (arg10.view.loc (c : Thread nD τ))) (X11 : Buf (Elt Ideal) (arg11.view.loc (c : Thread nD τ)))

/-- The blocks of a point hold the data of its sequence, its segment and its heads. -/
structure Ins (Dt : Data) : Prop where
  hqs : ∀ b s h, arg3.view.read (Elt Ideal) X3 (ix3 b s h) = ((Dt.qs b s h : ℝ) : EReal)
  hg : ∀ h, (Ideal.logistic (arg4.view.read (Elt Ideal) X4 (ix1 h))).toReal = Dt.g h
  hq : ∀ k c' l, arg5.view.read (Elt Ideal) X5 (ix4 0 k c' l) = ((Dt.q (i 0) (hd i k) c' (pos (i 1) l) : ℝ) : EReal)
  hk : ∀ k c' l, arg6.view.read (Elt Ideal) X6 (ix4 0 k c' l) = ((Dt.k (i 0) (hd i k) c' (pos (i 1) l) : ℝ) : EReal)
  hv : ∀ k c' l, arg7.view.read (Elt Ideal) X7 (ix4 0 k c' l) = ((Dt.v (i 0) (hd i k) c' (pos (i 1) l) : ℝ) : EReal)
  hks : ∀ h l, arg8.view.read (Elt Ideal) X8 (ix3 0 h l) = ((Dt.ks (i 0) h (pos (i 1) l) : ℝ) : EReal)
  hvs : ∀ h l, arg9.view.read (Elt Ideal) X9 (ix3 0 h l) = ((Dt.vs (i 0) h (pos (i 1) l) : ℝ) : EReal)
  hm0 : ∀ h c' j, arg10.view.read (Elt Ideal) X10 (ix4 0 h c' j) = ((Dt.m0 (i 0) h c' j : ℝ) : EReal)
  hz0 : ∀ h c', arg11.view.read (Elt Ideal) X11 (ix3 0 h c') = ((Dt.z0 (i 0) h c' : ℝ) : EReal)
  hpos : ∀ b h c', 0 < Dt.z0 b h c'

/-- What the first `n` trips of a point leave, from a state `s₀` to a state `s`. -/
structure After (Dt : Data) (s₀ s : St (F := Ideal) c arg12 arg13 arg14 arg15) (n : ℕ) : Prop where
  carry : ∀ k : Fin 6, k.val < n → ∀ c' l, arg15.view.read (Elt Ideal) s.2.2.2 (ix3 (hd i k) c' l)
    = ((mzOf (Dt.state (i 0) (hd i k) ((i 1).val + 1)).1 (Dt.state (i 0) (hd i k) ((i 1).val + 1)).2 c' l : ℝ) : EReal)
  keep : ∀ h, (∀ k : Fin 6, k.val < n → h ≠ hd i k) → ∀ c' l,
    arg15.view.read (Elt Ideal) s.2.2.2 (ix3 h c' l) = arg15.view.read (Elt Ideal) s₀.2.2.2 (ix3 h c' l)
  out : ∀ k : Fin 6, k.val < n → ∀ j l, arg12.view.read (Elt Ideal) s.1 (ix4 0 k j l) = ((Dt.out (i 0) (hd i k) (i 1) j l : ℝ) : EReal)
  fm : (i 1).val = 4 → ∀ k : Fin 6, k.val < n → ∀ c' j,
    arg13.view.read (Elt Ideal) s.2.1 (ix4 0 (hd i k) c' j) = (((Dt.state (i 0) (hd i k) 5).1 c' j : ℝ) : EReal)
  keepm : ∀ h, (∀ k : Fin 6, k.val < n → h ≠ hd i k) → ∀ c' j,
    arg13.view.read (Elt Ideal) s.2.1 (ix4 0 h c' j) = arg13.view.read (Elt Ideal) s₀.2.1 (ix4 0 h c' j)
  fz : (i 1).val = 4 → ∀ k : Fin 6, k.val < n → ∀ c',
    arg14.view.read (Elt Ideal) s.2.2.1 (ix3 0 (hd i k) c') = (((Dt.state (i 0) (hd i k) 5).2 c' : ℝ) : EReal)
  keepz : ∀ h, (∀ k : Fin 6, k.val < n → h ≠ hd i k) → ∀ c',
    arg14.view.read (Elt Ideal) s.2.2.1 (ix3 0 h c') = arg14.view.read (Elt Ideal) s₀.2.2.1 (ix3 0 h c')

theorem reads_of {Dt : Data} (I : Ins c i arg3 arg4 arg5 arg6 arg7 arg8 arg9 arg10 arg11 X3 X4 X5 X6 X7 X8 X9 X10 X11 Dt) (f15 : Buf (Elt Ideal) (arg15.view.loc (c : Thread nD τ))) (k : Fin k0_t1_loop.trips)
    (hc : 0 < (i 1).val → ∀ c' l, arg15.view.read (Elt Ideal) f15 (ix3 (head i k) c' l)
      = ((mzOf (Dt.state (i 0) (head i k) (i 1).val).1 (Dt.state (i 0) (head i k) (i 1).val).2 c' l : ℝ) : EReal)) :
    Reads c i arg3 arg4 arg5 arg6 arg7 arg8 arg9 arg10 arg11 arg15 X3 X4 X5 X6 X7 X8 X9 X10 X11 f15 k
      (Dt.cell (i 0) (head i k) (i 1)) (Dt.state (i 0) (head i k) (i 1).val).1 (Dt.state (i 0) (head i k) (i 1).val).2 (Dt.g (head i k)) where
  hqs := I.hqs _ _ _
  hg := I.hg _
  hq := fun c' l => I.hq (slot k) c' l
  hk := fun c' l => I.hk (slot k) c' l
  hv := fun c' l => I.hv (slot k) c' l
  hks := fun l => I.hks _ l
  hvs := fun l => I.hvs _ l
  hm0 := fun h c' j => by
    rw [(cond1_iff i).mp h]; exact I.hm0 (head i k) c' j
  hz0 := fun h c' => by
    rw [(cond1_iff i).mp h]; exact I.hz0 (head i k) c'
  hmz := fun h => hc (by rw [cond1_iff] at h; omega)
  hpos := fun c' => Data.state_pos Dt I.hpos _ _ _ _

theorem After.step {Dt : Data} (I : Ins c i arg3 arg4 arg5 arg6 arg7 arg8 arg9 arg10 arg11 X3 X4 X5 X6 X7 X8 X9 X10 X11 Dt) (s₀ s : St (F := Ideal) c arg12 arg13 arg14 arg15) (k : Fin k0_t1_loop.trips)
    (hc : 0 < (i 1).val → ∀ (k : Fin 6) c' l, arg15.view.read (Elt Ideal) s₀.2.2.2 (ix3 (hd i k) c' l)
      = ((mzOf (Dt.state (i 0) (hd i k) (i 1).val).1 (Dt.state (i 0) (hd i k) (i 1).val).2 c' l : ℝ) : EReal))
    (A : After c i arg12 arg13 arg14 arg15 Dt s₀ s k.val) :
    After c i arg12 arg13 arg14 arg15 Dt s₀ (stepSt (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 k s) (k.val + 1) := by
  have hk6 : k.val < 6 := trips_eq ▸ k.isLt
  have hne : ∀ k' : Fin 6, k'.val < k.val → hd i k' ≠ head i k := fun k' h e => by
    have := congrArg Fin.val (hd_inj (i := i) (k := k') (k' := slot k) e)
    have e2 : (slot k).val = k.val := rfl
    omega
  have R := reads_of c i arg3 arg4 arg5 arg6 arg7 arg8 arg9 arg10 arg11 arg15 X3 X4 X5 X6 X7 X8 X9 X10 X11 I s.2.2.2 k (fun h c' l => (A.keep (head i k) (fun k' hk' => (hne k' hk').symm) c' l).trans (hc h (slot k) c' l))
  have hcase : ∀ k' : Fin 6, k'.val < k.val + 1 → k'.val < k.val ∨ k' = slot k := fun k' h => by
    rcases Nat.lt_succ_iff_lt_or_eq.mp h with h | h
    · exact .inl h
    · exact .inr (Fin.ext h)
  have hs1 : Dt.state (i 0) (head i k) ((i 1).val + 1) = ((Dt.cell (i 0) (head i k) (i 1)).newM (Dt.state (i 0) (head i k) (i 1).val).1 (Dt.state (i 0) (head i k) (i 1).val).2,
      (Dt.cell (i 0) (head i k) (i 1)).newZ (Dt.state (i 0) (head i k) (i 1).val).2) := by
    refine (Data.state_succ Dt (i 0) (head i k) (i 1).val).trans ?_
    exact congrArg (fun x => ((Dt.cell (i 0) (head i k) x).newM (Dt.state (i 0) (head i k) (i 1).val).1 (Dt.state (i 0) (head i k) (i 1).val).2, (Dt.cell (i 0) (head i k) x).newZ (Dt.state (i 0) (head i k) (i 1).val).2)) (seg_val (i 1))
  have hout : ∀ h : Fin 30, (∀ k' : Fin 6, k'.val < k.val + 1 → h ≠ hd i k') → h ≠ head i k ∧ ∀ k' : Fin 6, k'.val < k.val → h ≠ hd i k' :=
    fun h H => ⟨H (slot k) (Nat.lt_succ_self _), fun k' hk' => H k' (by omega)⟩
  refine ⟨fun k' hk' c' l => ?_, fun h H c' l => ?_, fun k' hk' j l => ?_, fun h4 k' hk' c' j => ?_, fun h H c' j => ?_, fun h4 k' hk' c' => ?_, fun h H c' => ?_⟩
  · rcases hcase k' hk' with h | rfl
    · exact (carry_miss c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s.2.2.2 k (hd i k') (hne k' h) c' l).trans (A.carry k' h c' l)
    · refine (carry_hit c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s.2.2.2 k R c' l).trans ?_
      rw [show hd i (slot k) = head i k from rfl, hs1]
  · exact (carry_miss c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s.2.2.2 k h (hout h H).1 c' l).trans (A.keep h (hout h H).2 c' l)
  · rcases hcase k' hk' with h | rfl
    · exact (out_miss c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s.2.2.2 k s.1 k' (fun e => by rw [e] at h; exact absurd h (lt_irrefl _)) j l).trans (A.out k' h j l)
    · exact out_hit c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s.2.2.2 k R s.1 j l
  · rcases hcase k' hk' with h | rfl
    · exact (m_miss c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s.2.2.2 k s.2.1 (hd i k') (hne k' h) c' j).trans (A.fm h4 k' h c' j)
    · refine (m_hit c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s.2.2.2 k R s.2.1 ((cond2_iff i).mpr h4) c' j).trans ?_
      rw [h4] at hs1 ⊢
      rw [show hd i (slot k) = head i k from rfl, show (5 : ℕ) = 4 + 1 from rfl, hs1]
  · exact (m_miss c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s.2.2.2 k s.2.1 h (hout h H).1 c' j).trans (A.keepm h (hout h H).2 c' j)
  · rcases hcase k' hk' with h | rfl
    · exact (z_miss c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s.2.2.2 k s.2.2.1 (hd i k') (hne k' h) c').trans (A.fz h4 k' h c')
    · refine (z_hit c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s.2.2.2 k R s.2.2.1 ((cond2_iff i).mpr h4) c').trans ?_
      rw [h4] at hs1 ⊢
      rw [show hd i (slot k) = head i k from rfl, show (5 : ℕ) = 4 + 1 from rfl, hs1]
  · exact (z_miss c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s.2.2.2 k s.2.2.1 h (hout h H).1 c').trans (A.keepz h (hout h H).2 c')

/-- A whole point. -/
theorem point {Dt : Data} (I : Ins c i arg3 arg4 arg5 arg6 arg7 arg8 arg9 arg10 arg11 X3 X4 X5 X6 X7 X8 X9 X10 X11 Dt) (s₀ : St (F := Ideal) c arg12 arg13 arg14 arg15)
    (hc : 0 < (i 1).val → ∀ (k : Fin 6) c' l, arg15.view.read (Elt Ideal) s₀.2.2.2 (ix3 (hd i k) c' l)
      = ((mzOf (Dt.state (i 0) (hd i k) (i 1).val).1 (Dt.state (i 0) (hd i k) (i 1).val).2 c' l : ℝ) : EReal)) (n : ℕ) (hn : n ≤ k0_t1_loop.trips) :
    After c i arg12 arg13 arg14 arg15 Dt s₀ (st (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ n) n := by
  induction n with
  | zero => exact ⟨fun _ h => absurd h (Nat.not_lt_zero _), fun _ _ _ _ => rfl, fun _ h => absurd h (Nat.not_lt_zero _),
      fun _ _ h => absurd h (Nat.not_lt_zero _), fun _ _ _ _ => rfl, fun _ _ h => absurd h (Nat.not_lt_zero _), fun _ _ _ => rfl⟩
  | succ n ih =>
    have h := st_succ (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 s₀ ⟨n, hn⟩
    rw [show n + 1 = (⟨n, hn⟩ : Fin k0_t1_loop.trips).val + 1 from rfl, h]
    exact After.step c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 X3 X4 X5 X6 X7 X8 X9 X10 X11 I s₀ _ ⟨n, hn⟩ hc (ih (Nat.le_of_succ_le hn))
end

end Cert.KernelIdeal.Hand

end
-- ==== Proof.KernelIdeal.Entry.lean ====
/-
  What each input block of a point holds, in the arguments' own indices.
-/
module

public import proofs.«01_k».proof.Proof.KernelIdeal.Point
public import proofs.«01_k».proof.Proof.KernelIdeal.Launch
public import Idealize.ShloMosaic.Lib.Pipeline.ValueKit.Point
public import Idealize.ShloMosaic.Lib.Claim

@[expose] public section

noncomputable section

namespace Cert.KernelIdeal.Hand

open Cert.KernelIdeal Cert.KernelIdeal.Gen Idealize.ShloMosaic Idealize.ShloMosaic.TcCoe Cert.Spec
open Idealize.ShloMosaic.Pipeline (RDat)

variable (m : (ℓ : Loc nD τ sig) → Buf (Elt Ideal) ℓ)

theorem idx0 : ∀ t : Fin cfg0.N, win0_0.index t = ![0, 0, 0] := (by decide +kernel : ∀ t : Fin grid0.N, _)
theorem idx1 : ∀ t : Fin cfg0.N, win0_1.index t = ![0] := (by decide +kernel : ∀ t : Fin grid0.N, _)
theorem idx2 : ∀ t : Fin cfg0.N, win0_2.index t = ![(grid0.coords t 0).val, (grid0.coords t 2).val, 0, (grid0.coords t 1).val] := (by decide +kernel : ∀ t : Fin grid0.N, _)
theorem idx3 : ∀ t : Fin cfg0.N, win0_3.index t = ![(grid0.coords t 0).val, (grid0.coords t 2).val, 0, (grid0.coords t 1).val] := (by decide +kernel : ∀ t : Fin grid0.N, _)
theorem idx4 : ∀ t : Fin cfg0.N, win0_4.index t = ![(grid0.coords t 0).val, (grid0.coords t 2).val, 0, (grid0.coords t 1).val] := (by decide +kernel : ∀ t : Fin grid0.N, _)
theorem idx5 : ∀ t : Fin cfg0.N, win0_5.index t = ![(grid0.coords t 0).val, 0, (grid0.coords t 1).val] := (by decide +kernel : ∀ t : Fin grid0.N, _)
theorem idx6 : ∀ t : Fin cfg0.N, win0_6.index t = ![(grid0.coords t 0).val, 0, (grid0.coords t 1).val] := (by decide +kernel : ∀ t : Fin grid0.N, _)
theorem idx7 : ∀ t : Fin cfg0.N, win0_7.index t = ![(grid0.coords t 0).val, 0, 0, 0] := (by decide +kernel : ∀ t : Fin grid0.N, _)
theorem idx8 : ∀ t : Fin cfg0.N, win0_8.index t = ![(grid0.coords t 0).val, 0, 0] := (by decide +kernel : ∀ t : Fin grid0.N, _)
theorem idx9 : ∀ t : Fin cfg0.N, win0_9.index t = ![(grid0.coords t 0).val, (grid0.coords t 2).val, 0, (grid0.coords t 1).val] := (by decide +kernel : ∀ t : Fin grid0.N, _)
theorem idx10 : ∀ t : Fin cfg0.N, win0_10.index t = ![(grid0.coords t 0).val, 0, 0, 0] := (by decide +kernel : ∀ t : Fin grid0.N, _)
theorem idx11 : ∀ t : Fin cfg0.N, win0_11.index t = ![(grid0.coords t 0).val, 0, 0] := (by decide +kernel : ∀ t : Fin grid0.N, _)

theorem c0_val (t : Fin cfg0.N) : (grid0.coords t 0).val = t.val / 25 % 3 := Pipeline.Grid.coords_val t 0 (by decide) rfl
theorem c1_val (t : Fin cfg0.N) : (grid0.coords t 1).val = t.val / 5 % 5 := Pipeline.Grid.coords_val t 1 (by decide) rfl
theorem c2_val (t : Fin cfg0.N) : (grid0.coords t 2).val = t.val % 5 := (Pipeline.Grid.coords_val t 2 (S := 1) (B := 5) (by decide) rfl).trans (by rw [Nat.div_one])

variable (c : Dev nD)

theorem V_v3 (b : Fin 3) (h : Fin 30) (c' : Fin 96) (p : Fin 10240) :
    V m c main_v3 (ix4 b h c' p) = Ideal.ofBits .fp8e4m3 (m ((c : Thread nD τ).loc main_arg0) (ix4 b p h c')) := by
  entry_read
  pointwise [bitcastToFloat]

theorem V_v4 (b : Fin 3) (h : Fin 30) (c' : Fin 96) (p : Fin 10240) :
    V m c main_v4 (ix4 b h c' p) = Ideal.ofBits .fp8e4m3 (m ((c : Thread nD τ).loc main_arg1) (ix4 b p h c')) := by
  entry_read
  pointwise [bitcastToFloat]

theorem V_v5 (b : Fin 3) (h : Fin 30) (c' : Fin 96) (p : Fin 10240) :
    V m c main_v5 (ix4 b h c' p) = Ideal.ofBits .fp8e4m3 (m ((c : Thread nD τ).loc main_arg2) (ix4 b p h c')) := by
  entry_read
  pointwise [bitcastToFloat]

theorem V_v6 (b : Fin 3) (h : Fin 30) (p : Fin 10240) :
    V m c main_v6 (ix3 b h p) = m ((c : Thread nD τ).loc main_arg4) (ix3 b p h) := by
  entry_read
  pointwise

theorem V_v7 (b : Fin 3) (h : Fin 30) (p : Fin 10240) :
    V m c main_v7 (ix3 b h p) = m ((c : Thread nD τ).loc main_arg5) (ix3 b p h) := by
  entry_read
  pointwise

theorem blk0 (t : Fin cfg0.N) (b : Fin 3) (s : Fin 5) (h : Fin 30) :
    (iblk m c 0 t : S3x5x30.Idx → EReal) (ix3 b s h) = m ((c : Thread nD τ).loc main_arg3) (ix3 b s h) := by
  refine Eq.trans ?_ (congrFun (V_main_arg3 m c) (ix3 b s h))
  blk_simp [iblk]
  refine congrArg _ ?_
  blk_ext [idx0 t]

theorem blk1 (t : Fin cfg0.N) (h : Fin 30) :
    (iblk m c 1 t : S30.Idx → EReal) (ix1 h) = m ((c : Thread nD τ).loc main_arg8) (ix1 h) := by
  refine Eq.trans ?_ (congrFun (V_main_arg8 m c) (ix1 h))
  blk_simp [iblk]
  refine congrArg _ ?_
  blk_ext [idx1 t]

theorem blk2 (t : Fin cfg0.N) (b : Fin 3) (hb : b.val = (grid0.coords t 0).val) (s : Fin 5) (hs : s.val = (grid0.coords t 1).val)
    (k : Fin 6) (h : Fin 30) (hh : h.val = (grid0.coords t 2).val * 6 + k.val) (c' : Fin 96) (l : Fin 2048) :
    (iblk m c 2 t : S1x6x96x2048.Idx → EReal) (ix4 0 k c' l)
      = Ideal.ofBits .fp8e4m3 (m ((c : Thread nD τ).loc main_arg0) (ix4 b (pos s l) h c')) := by
  refine Eq.trans ?_ (V_v3 m c b h c' (pos s l))
  blk_simp [iblk]
  refine congrArg _ ?_
  blk_ext [idx2 t, pos]

theorem blk3 (t : Fin cfg0.N) (b : Fin 3) (hb : b.val = (grid0.coords t 0).val) (s : Fin 5) (hs : s.val = (grid0.coords t 1).val)
    (k : Fin 6) (h : Fin 30) (hh : h.val = (grid0.coords t 2).val * 6 + k.val) (c' : Fin 96) (l : Fin 2048) :
    (iblk m c 3 t : S1x6x96x2048.Idx → EReal) (ix4 0 k c' l)
      = Ideal.ofBits .fp8e4m3 (m ((c : Thread nD τ).loc main_arg1) (ix4 b (pos s l) h c')) := by
  refine Eq.trans ?_ (V_v4 m c b h c' (pos s l))
  blk_simp [iblk]
  refine congrArg _ ?_
  blk_ext [idx3 t, pos]

theorem blk4 (t : Fin cfg0.N) (b : Fin 3) (hb : b.val = (grid0.coords t 0).val) (s : Fin 5) (hs : s.val = (grid0.coords t 1).val)
    (k : Fin 6) (h : Fin 30) (hh : h.val = (grid0.coords t 2).val * 6 + k.val) (c' : Fin 96) (l : Fin 2048) :
    (iblk m c 4 t : S1x6x96x2048.Idx → EReal) (ix4 0 k c' l)
      = Ideal.ofBits .fp8e4m3 (m ((c : Thread nD τ).loc main_arg2) (ix4 b (pos s l) h c')) := by
  refine Eq.trans ?_ (V_v5 m c b h c' (pos s l))
  blk_simp [iblk]
  refine congrArg _ ?_
  blk_ext [idx4 t, pos]

theorem blk5 (t : Fin cfg0.N) (b : Fin 3) (hb : b.val = (grid0.coords t 0).val) (s : Fin 5) (hs : s.val = (grid0.coords t 1).val) (h : Fin 30) (l : Fin 2048) :
    (iblk m c 5 t : S1x30x2048.Idx → EReal) (ix3 0 h l) = m ((c : Thread nD τ).loc main_arg4) (ix3 b (pos s l) h) := by
  refine Eq.trans ?_ (V_v6 m c b h (pos s l))
  blk_simp [iblk]
  refine congrArg _ ?_
  blk_ext [idx5 t, pos]

theorem blk6 (t : Fin cfg0.N) (b : Fin 3) (hb : b.val = (grid0.coords t 0).val) (s : Fin 5) (hs : s.val = (grid0.coords t 1).val) (h : Fin 30) (l : Fin 2048) :
    (iblk m c 6 t : S1x30x2048.Idx → EReal) (ix3 0 h l) = m ((c : Thread nD τ).loc main_arg5) (ix3 b (pos s l) h) := by
  refine Eq.trans ?_ (V_v7 m c b h (pos s l))
  blk_simp [iblk]
  refine congrArg _ ?_
  blk_ext [idx6 t, pos]

theorem blk7 (t : Fin cfg0.N) (b : Fin 3) (hb : b.val = (grid0.coords t 0).val) (h : Fin 30) (c' j : Fin 96) :
    (iblk m c 7 t : S1x30x96x96.Idx → EReal) (ix4 0 h c' j) = m ((c : Thread nD τ).loc main_arg6) (ix4 b h c' j) := by
  refine Eq.trans ?_ (congrFun (V_main_arg6 m c) (ix4 b h c' j))
  blk_simp [iblk]
  refine congrArg _ ?_
  blk_ext [idx7 t]

theorem blk8 (t : Fin cfg0.N) (b : Fin 3) (hb : b.val = (grid0.coords t 0).val) (h : Fin 30) (c' : Fin 96) :
    (iblk m c 8 t : S1x30x96.Idx → EReal) (ix3 0 h c') = m ((c : Thread nD τ).loc main_arg7) (ix3 b h c') := by
  refine Eq.trans ?_ (congrFun (V_main_arg7 m c) (ix3 b h c'))
  blk_simp [iblk]
  refine congrArg _ ?_
  blk_ext [idx8 t]

variable (R : RelW Ideal) (S : RelS Ideal)
theorem finds0 (hR : ∀ t Y X, R 0 t Y X → X = Y) (t : Fin cfg0.N) (Y) (h : (rdat m R S c).Finds 0 t Y) : Y = iblk m c 0 t := by
  obtain ⟨d, rfl⟩ := RDat.finds_in_eq_fetched (rdat m R S c) 0 rfl (fun _ _ _ => rfl) hR t Y h
  rfl
theorem finds1 (hR : ∀ t Y X, R 1 t Y X → X = Y) (t : Fin cfg0.N) (Y) (h : (rdat m R S c).Finds 1 t Y) : Y = iblk m c 1 t := by
  obtain ⟨d, rfl⟩ := RDat.finds_in_eq_fetched (rdat m R S c) 1 rfl (fun _ _ _ => rfl) hR t Y h
  rfl
theorem finds2 (hR : ∀ t Y X, R 2 t Y X → X = Y) (t : Fin cfg0.N) (Y) (h : (rdat m R S c).Finds 2 t Y) : Y = iblk m c 2 t := by
  obtain ⟨d, rfl⟩ := RDat.finds_in_eq_fetched (rdat m R S c) 2 rfl (fun _ _ _ => rfl) hR t Y h
  rfl
theorem finds3 (hR : ∀ t Y X, R 3 t Y X → X = Y) (t : Fin cfg0.N) (Y) (h : (rdat m R S c).Finds 3 t Y) : Y = iblk m c 3 t := by
  obtain ⟨d, rfl⟩ := RDat.finds_in_eq_fetched (rdat m R S c) 3 rfl (fun _ _ _ => rfl) hR t Y h
  rfl
theorem finds4 (hR : ∀ t Y X, R 4 t Y X → X = Y) (t : Fin cfg0.N) (Y) (h : (rdat m R S c).Finds 4 t Y) : Y = iblk m c 4 t := by
  obtain ⟨d, rfl⟩ := RDat.finds_in_eq_fetched (rdat m R S c) 4 rfl (fun _ _ _ => rfl) hR t Y h
  rfl
theorem finds5 (hR : ∀ t Y X, R 5 t Y X → X = Y) (t : Fin cfg0.N) (Y) (h : (rdat m R S c).Finds 5 t Y) : Y = iblk m c 5 t := by
  obtain ⟨d, rfl⟩ := RDat.finds_in_eq_fetched (rdat m R S c) 5 rfl (fun _ _ _ => rfl) hR t Y h
  rfl
theorem finds6 (hR : ∀ t Y X, R 6 t Y X → X = Y) (t : Fin cfg0.N) (Y) (h : (rdat m R S c).Finds 6 t Y) : Y = iblk m c 6 t := by
  obtain ⟨d, rfl⟩ := RDat.finds_in_eq_fetched (rdat m R S c) 6 rfl (fun _ _ _ => rfl) hR t Y h
  rfl
theorem finds7 (hR : ∀ t Y X, R 7 t Y X → X = Y) (t : Fin cfg0.N) (Y) (h : (rdat m R S c).Finds 7 t Y) : Y = iblk m c 7 t := by
  obtain ⟨d, rfl⟩ := RDat.finds_in_eq_fetched (rdat m R S c) 7 rfl (fun _ _ _ => rfl) hR t Y h
  rfl
theorem finds8 (hR : ∀ t Y X, R 8 t Y X → X = Y) (t : Fin cfg0.N) (Y) (h : (rdat m R S c).Finds 8 t Y) : Y = iblk m c 8 t := by
  obtain ⟨d, rfl⟩ := RDat.finds_in_eq_fetched (rdat m R S c) 8 rfl (fun _ _ _ => rfl) hR t Y h
  rfl

end Cert.KernelIdeal.Hand

end
-- ==== Proof.Args.lean ====
/-
  When the argument arrays hold given real data, and the three results as functions of that data.
-/
module

public import proofs.«01_k».proof.Proof.Data
public import Idealize.ShloMosaic.PureOps.Ideal
public import Idealize.ShloMosaic.Lib.Pointwise

@[expose] public section

noncomputable section

namespace Cert.Spec

open Idealize.ShloMosaic

/-- The nine arguments (three byte arrays of codes, scales, initial memory, gates) hold the data `D`. -/
structure Fits (D : Data) (a0 a1 a2 : (⟨4, ![3, 10240, 30, 96]⟩ : Shape).Idx → BitVec 8) (a3 : (⟨3, ![3, 5, 30]⟩ : Shape).Idx → EReal)
    (a4 a5 : (⟨3, ![3, 10240, 30]⟩ : Shape).Idx → EReal) (a6 : (⟨4, ![3, 30, 96, 96]⟩ : Shape).Idx → EReal)
    (a7 : (⟨3, ![3, 30, 96]⟩ : Shape).Idx → EReal) (a8 : (⟨1, ![30]⟩ : Shape).Idx → EReal) : Prop where
  hq : ∀ b p h c, Ideal.ofBits .fp8e4m3 (a0 (ix4 b p h c)) = ((D.q b h c p : ℝ) : EReal)
  hk : ∀ b p h c, Ideal.ofBits .fp8e4m3 (a1 (ix4 b p h c)) = ((D.k b h c p : ℝ) : EReal)
  hv : ∀ b p h c, Ideal.ofBits .fp8e4m3 (a2 (ix4 b p h c)) = ((D.v b h c p : ℝ) : EReal)
  hqs : ∀ b s h, a3 (ix3 b s h) = ((D.qs b s h : ℝ) : EReal)
  hks : ∀ b p h, a4 (ix3 b p h) = ((D.ks b h p : ℝ) : EReal)
  hvs : ∀ b p h, a5 (ix3 b p h) = ((D.vs b h p : ℝ) : EReal)
  hm0 : ∀ b h c j, a6 (ix4 b h c j) = ((D.m0 b h c j : ℝ) : EReal)
  hz0 : ∀ b h c, a7 (ix3 b h c) = ((D.z0 b h c : ℝ) : EReal)
  hg : ∀ h, (Ideal.logistic (a8 (ix1 h))).toReal = D.g h
  hpos : ∀ b h c, 0 < D.z0 b h c

/-- The segment a position lies in. -/
def segOf (p : Fin 10240) : Fin 5 := ⟨p.val / 2048, by omega⟩
/-- Its place there. -/
def locOf (p : Fin 10240) : Fin 2048 := ⟨p.val % 2048, Nat.mod_lt _ (by decide)⟩

theorem pos_of (p : Fin 10240) : pos (segOf p) (locOf p) = p := Fin.ext (by simp only [pos, segOf, locOf]; omega)

/-- The output array. -/
def outV (D : Data) (i : (⟨4, ![3, 30, 96, 10240]⟩ : Shape).Idx) : EReal := ((D.out (i 0) (i 1) (segOf (i 3)) (i 2) (locOf (i 3)) : ℝ) : EReal)
/-- The final memory. -/
def memV (D : Data) (i : (⟨4, ![3, 30, 96, 96]⟩ : Shape).Idx) : EReal := (((D.state (i 0) (i 1) 5).1 (i 2) (i 3) : ℝ) : EReal)
/-- The final normaliser. -/
def norV (D : Data) (i : (⟨3, ![3, 30, 96]⟩ : Shape).Idx) : EReal := (((D.state (i 0) (i 1) 5).2 (i 2) : ℝ) : EReal)

end Cert.Spec

end
-- ==== Proof.KernelIdeal.Value.lean ====
/-
  Every point of the grid respects the relations that say what the blocks and the carried scratch hold.
-/
module

public import proofs.«01_k».proof.Proof.KernelIdeal.Entry
public import proofs.«01_k».proof.Proof.Args

@[expose] public section

noncomputable section

namespace Cert.KernelIdeal.Hand

open Cert.KernelIdeal Cert.KernelIdeal.Gen Idealize.ShloMosaic Idealize.ShloMosaic.TcCoe Cert.Spec
open Idealize.ShloMosaic.Pipeline (RDat)

variable (m : (ℓ : Loc nD τ sig) → Buf (Elt Ideal) ℓ) (c : Dev nD) (Dt : Data)

/-- A point's input blocks hold the data. -/
theorem ins_of (F : Fits Dt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (t : Fin cfg0.N) (f0 : Buf (Elt Ideal) ((win0_0.stage (cfg0.slots t 0)).view.loc (c : Thread nD τ))) (f1 : Buf (Elt Ideal) ((win0_1.stage (cfg0.slots t 1)).view.loc (c : Thread nD τ))) (f2 : Buf (Elt Ideal) ((win0_2.stage (cfg0.slots t 2)).view.loc (c : Thread nD τ))) (f3 : Buf (Elt Ideal) ((win0_3.stage (cfg0.slots t 3)).view.loc (c : Thread nD τ))) (f4 : Buf (Elt Ideal) ((win0_4.stage (cfg0.slots t 4)).view.loc (c : Thread nD τ))) (f5 : Buf (Elt Ideal) ((win0_5.stage (cfg0.slots t 5)).view.loc (c : Thread nD τ))) (f6 : Buf (Elt Ideal) ((win0_6.stage (cfg0.slots t 6)).view.loc (c : Thread nD τ))) (f7 : Buf (Elt Ideal) ((win0_7.stage (cfg0.slots t 7)).view.loc (c : Thread nD τ))) (f8 : Buf (Elt Ideal) ((win0_8.stage (cfg0.slots t 8)).view.loc (c : Thread nD τ)))
    (h0 : (win0_0.stage (cfg0.slots t 0)).view.read (Elt Ideal) f0 = iblk m c 0 t) (h1 : (win0_1.stage (cfg0.slots t 1)).view.read (Elt Ideal) f1 = iblk m c 1 t) (h2 : (win0_2.stage (cfg0.slots t 2)).view.read (Elt Ideal) f2 = iblk m c 2 t) (h3 : (win0_3.stage (cfg0.slots t 3)).view.read (Elt Ideal) f3 = iblk m c 3 t) (h4 : (win0_4.stage (cfg0.slots t 4)).view.read (Elt Ideal) f4 = iblk m c 4 t) (h5 : (win0_5.stage (cfg0.slots t 5)).view.read (Elt Ideal) f5 = iblk m c 5 t) (h6 : (win0_6.stage (cfg0.slots t 6)).view.read (Elt Ideal) f6 = iblk m c 6 t) (h7 : (win0_7.stage (cfg0.slots t 7)).view.read (Elt Ideal) f7 = iblk m c 7 t) (h8 : (win0_8.stage (cfg0.slots t 8)).view.read (Elt Ideal) f8 = iblk m c 8 t) :
    Ins c (grid0.coords t) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (win0_8.stage (cfg0.slots t 8)) f0 f1 f2 f3 f4 f5 f6 f7 f8 Dt where
  hqs := fun b s h => (congrFun h0 (ix3 b s h)).trans ((blk0 m c t b s h).trans (F.hqs b s h))
  hg := fun h => by
    rw [show (win0_1.stage (cfg0.slots t 1)).view.read (Elt Ideal) f1 (ix1 h) = _ from (congrFun h1 (ix1 h)).trans (blk1 m c t h)]; exact F.hg h
  hq := fun k c' l => (congrFun h2 (ix4 0 k c' l)).trans ((blk2 m c t _ rfl _ rfl k (hd (grid0.coords t) k) rfl c' l).trans (F.hq _ _ _ _))
  hk := fun k c' l => (congrFun h3 (ix4 0 k c' l)).trans ((blk3 m c t _ rfl _ rfl k (hd (grid0.coords t) k) rfl c' l).trans (F.hk _ _ _ _))
  hv := fun k c' l => (congrFun h4 (ix4 0 k c' l)).trans ((blk4 m c t _ rfl _ rfl k (hd (grid0.coords t) k) rfl c' l).trans (F.hv _ _ _ _))
  hks := fun h l => (congrFun h5 (ix3 0 h l)).trans ((blk5 m c t _ rfl _ rfl h l).trans (F.hks _ _ _))
  hvs := fun h l => (congrFun h6 (ix3 0 h l)).trans ((blk6 m c t _ rfl _ rfl h l).trans (F.hvs _ _ _))
  hm0 := fun h c' j => (congrFun h7 (ix4 0 h c' j)).trans ((blk7 m c t _ rfl h c' j).trans (F.hm0 _ _ _ _))
  hz0 := fun h c' => (congrFun h8 (ix3 0 h c')).trans ((blk8 m c t _ rfl h c').trans (F.hz0 _ _ _))
  hpos := F.hpos

/-- What a whole point leaves, head by head. -/
structure Done (t : Fin cfg0.N) (b : Fin 3) (s : Fin 5) (s₀ s₁ : St (F := Ideal) c (win0_9.stage (cfg0.slots t 9)) (win0_10.stage (cfg0.slots t 10)) (win0_11.stage (cfg0.slots t 11)) (Memref.whole cc0_scratch0)) : Prop where
  carry : ∀ h : Fin 30, h.val / 6 = t.val % 5 → ∀ c' l, (Memref.whole cc0_scratch0).view.read (Elt Ideal) s₁.2.2.2 (ix3 h c' l)
    = ((mzOf (Dt.state b h (s.val + 1)).1 (Dt.state b h (s.val + 1)).2 c' l : ℝ) : EReal)
  keep : ∀ h : Fin 30, h.val / 6 ≠ t.val % 5 → ∀ c' l, (Memref.whole cc0_scratch0).view.read (Elt Ideal) s₁.2.2.2 (ix3 h c' l)
    = (Memref.whole cc0_scratch0).view.read (Elt Ideal) s₀.2.2.2 (ix3 h c' l)
  out : ∀ (k : Fin 6) (h : Fin 30), h.val = t.val % 5 * 6 + k.val → ∀ j l, (win0_9.stage (cfg0.slots t 9)).view.read (Elt Ideal) s₁.1 (ix4 0 k j l) = ((Dt.out b h s j l : ℝ) : EReal)
  fm : s.val = 4 → ∀ h : Fin 30, h.val / 6 = t.val % 5 → ∀ c' j, (win0_10.stage (cfg0.slots t 10)).view.read (Elt Ideal) s₁.2.1 (ix4 0 h c' j) = (((Dt.state b h 5).1 c' j : ℝ) : EReal)
  keepm : ∀ h : Fin 30, h.val / 6 ≠ t.val % 5 → ∀ c' j, (win0_10.stage (cfg0.slots t 10)).view.read (Elt Ideal) s₁.2.1 (ix4 0 h c' j) = (win0_10.stage (cfg0.slots t 10)).view.read (Elt Ideal) s₀.2.1 (ix4 0 h c' j)
  fz : s.val = 4 → ∀ h : Fin 30, h.val / 6 = t.val % 5 → ∀ c', (win0_11.stage (cfg0.slots t 11)).view.read (Elt Ideal) s₁.2.2.1 (ix3 0 h c') = (((Dt.state b h 5).2 c' : ℝ) : EReal)
  keepz : ∀ h : Fin 30, h.val / 6 ≠ t.val % 5 → ∀ c', (win0_11.stage (cfg0.slots t 11)).view.read (Elt Ideal) s₁.2.2.1 (ix3 0 h c') = (win0_11.stage (cfg0.slots t 11)).view.read (Elt Ideal) s₀.2.2.1 (ix3 0 h c')

theorem hd_val (t : Fin cfg0.N) (k : Fin 6) : (hd (grid0.coords t) k).val = t.val % 5 * 6 + k.val := by
  show (grid0.coords t 2).val * 6 + k.val = _
  rw [c2_val]

/-- A head of the point's group is one of its six trips'. -/
theorem hd_of (t : Fin cfg0.N) (h : Fin 30) (hh : h.val / 6 = t.val % 5) : ∃ k : Fin 6, h = hd (grid0.coords t) k :=
  ⟨⟨h.val % 6, Nat.mod_lt _ (by decide)⟩, Fin.ext (by rw [hd_val]; show _ = t.val % 5 * 6 + h.val % 6; omega)⟩

theorem hd_ne (t : Fin cfg0.N) (h : Fin 30) (hh : h.val / 6 ≠ t.val % 5) (k : Fin 6) : h ≠ hd (grid0.coords t) k := fun e => hh (by
  rw [e, hd_val]; omega)

theorem k6 (k : Fin 6) : k.val < k0_t1_loop.trips := by rw [trips_eq]; exact k.isLt

variable {Dt} in
theorem done_of (t : Fin cfg0.N) (s₀ s₁ : St (F := Ideal) c (win0_9.stage (cfg0.slots t 9)) (win0_10.stage (cfg0.slots t 10)) (win0_11.stage (cfg0.slots t 11)) (Memref.whole cc0_scratch0))
    (A : After c (grid0.coords t) (win0_9.stage (cfg0.slots t 9)) (win0_10.stage (cfg0.slots t 10)) (win0_11.stage (cfg0.slots t 11)) (Memref.whole cc0_scratch0) Dt s₀ s₁ k0_t1_loop.trips) :
    Done c Dt t (grid0.coords t 0) (grid0.coords t 1) s₀ s₁ where
  carry := fun h hh c' l => by
    obtain ⟨k, rfl⟩ := hd_of t h hh
    exact A.carry k (k6 k) c' l
  keep := fun h hh c' l => A.keep h (fun k _ => hd_ne t h hh k) c' l
  out := fun k h hh j l => by
    obtain rfl : h = hd (grid0.coords t) k := Fin.ext (by rw [hd_val]; exact hh)
    exact A.out k (k6 k) j l
  fm := fun h4 h hh c' j => by
    obtain ⟨k, rfl⟩ := hd_of t h hh
    exact A.fm h4 k (k6 k) c' j
  keepm := fun h hh c' j => A.keepm h (fun k _ => hd_ne t h hh k) c' j
  fz := fun h4 h hh c' => by
    obtain ⟨k, rfl⟩ := hd_of t h hh
    exact A.fz h4 k (k6 k) c'
  keepz := fun h hh c' => A.keepz h (fun k _ => hd_ne t h hh k) c'

/-- The output block after a point. -/
def R9 (t : Fin cfg0.N) (X : S1x6x96x2048.Idx → EReal) : Prop :=
  ∀ (b : Fin 3) (s : Fin 5), b.val = t.val / 25 → s.val = t.val / 5 % 5 → ∀ (k : Fin 6) (h : Fin 30), h.val = t.val % 5 * 6 + k.val →
    ∀ j l, X (ix4 0 k j l) = ((Dt.out b h s j l : ℝ) : EReal)
/-- The final memory's block: the last segment's points write their group's heads and leave the others. -/
def R10 (t : Fin cfg0.N) (Y X : S1x30x96x96.Idx → EReal) : Prop :=
  ∀ b : Fin 3, b.val = t.val / 25 → t.val / 5 % 5 = 4 → ∀ h : Fin 30, ∀ c' j,
    (h.val / 6 = t.val % 5 → X (ix4 0 h c' j) = (((Dt.state b h 5).1 c' j : ℝ) : EReal)) ∧ (h.val / 6 ≠ t.val % 5 → X (ix4 0 h c' j) = Y (ix4 0 h c' j))
/-- The final normaliser's block, likewise. -/
def R11 (t : Fin cfg0.N) (Y X : S1x30x96.Idx → EReal) : Prop :=
  ∀ b : Fin 3, b.val = t.val / 25 → t.val / 5 % 5 = 4 → ∀ h : Fin 30, ∀ c',
    (h.val / 6 = t.val % 5 → X (ix3 0 h c') = (((Dt.state b h 5).2 c' : ℝ) : EReal)) ∧ (h.val / 6 ≠ t.val % 5 → X (ix3 0 h c') = Y (ix3 0 h c'))

/-- The relations: inputs stay, outputs as above. -/
def RV : RelW Ideal := fun (w : Fin 12) => match w with
  | 0 => fun _ Y X => X = Y
  | 1 => fun _ Y X => X = Y
  | 2 => fun _ Y X => X = Y
  | 3 => fun _ Y X => X = Y
  | 4 => fun _ Y X => X = Y
  | 5 => fun _ Y X => X = Y
  | 6 => fun _ Y X => X = Y
  | 7 => fun _ Y X => X = Y
  | 8 => fun _ Y X => X = Y
  | 9 => fun t _ X => R9 Dt t X
  | 10 => fun t Y X => R10 Dt t Y X
  | 11 => fun t Y X => R11 Dt t Y X
  | ⟨_ + 12, h⟩ => absurd h (Nat.not_lt.2 (Nat.le_add_left _ _))

/-- The carried scratch before a point: groups already visited in this segment hold the memory after it, the others the
    memory before it. -/
def SV : RelS Ideal := fun n d => ∀ b : Fin 3, b.val = n.val / 25 → ∀ h : Fin 30, ∀ c' l,
  (h.val / 6 < n.val % 5 → d (ix3 h c' l) = ((mzOf (Dt.state b h (n.val / 5 % 5 + 1)).1 (Dt.state b h (n.val / 5 % 5 + 1)).2 c' l : ℝ) : EReal))
  ∧ (n.val % 5 ≤ h.val / 6 → 0 < n.val / 5 % 5 → d (ix3 h c' l) = ((mzOf (Dt.state b h (n.val / 5 % 5)).1 (Dt.state b h (n.val / 5 % 5)).2 c' l : ℝ) : EReal))

theorem SV_step (t : Fin cfg0.N) (b : Fin 3) (hb : b.val = t.val / 25) (s : Fin 5) (hs : s.val = t.val / 5 % 5) (s₀ s₁ : St (F := Ideal) c (win0_9.stage (cfg0.slots t 9)) (win0_10.stage (cfg0.slots t 10)) (win0_11.stage (cfg0.slots t 11)) (Memref.whole cc0_scratch0)) (A : Done c Dt t b s s₀ s₁)
    (h0 : SV Dt t.castSucc ((Memref.whole cc0_scratch0).view.read (Elt Ideal) s₀.2.2.2)) :
    SV Dt t.succ ((Memref.whole cc0_scratch0).view.read (Elt Ideal) s₁.2.2.2) := by
  intro b' hb' h c' l
  have ht : t.val < 75 := N_0 ▸ t.isLt
  have e1 : t.succ.val = t.val + 1 := rfl
  have e0 : t.castSucc.val = t.val := rfl
  have hh := h.isLt
  rw [e1] at hb' ⊢
  have H := h0 b hb h c' l
  rw [e0, ← hs] at H
  by_cases hlast : t.val % 25 = 24
  · exact ⟨fun h1 => by omega, fun _ h1 => by omega⟩
  obtain rfl : b' = b := Fin.ext (by omega)
  by_cases hg : t.val % 5 = 4
  · have e2 : (t.val + 1) / 5 % 5 = s.val + 1 := by omega
    rw [e2]
    refine ⟨fun h1 => by omega, fun _ _ => ?_⟩
    by_cases hc : h.val / 6 = t.val % 5
    · exact A.carry h hc c' l
    · exact (A.keep h hc c' l).trans (H.1 (by omega))
  · have e2 : (t.val + 1) / 5 % 5 = s.val := by omega
    rw [e2]
    refine ⟨fun h1 => ?_, fun h1 h2 => ?_⟩
    · by_cases hc : h.val / 6 = t.val % 5
      · exact A.carry h hc c' l
      · exact (A.keep h hc c' l).trans (H.1 (by omega))
    · exact (A.keep h (by omega) c' l).trans (H.2 (by omega) h2)

variable {Dt} in
set_option maxHeartbeats 2000000 in
/-- Every point respects them. -/
theorem ok (F : Fits Dt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) : Ok m (RV Dt) (SV Dt) c := by
  intro t Y hY f0 f1 f2 f3 f4 f5 f6 f7 f8 f9 f10 f11 f15 h0 h1 h2 h3 h4 h5 h6 h7 h8 h9 h10 h11 hS
  have ht : t.val < 75 := N_0 ▸ t.isLt
  have e0 : t.castSucc.val = t.val := rfl
  have I := ins_of m c Dt F t f0 f1 f2 f3 f4 f5 f6 f7 f8
    (h0.trans (finds0 m c (RV Dt) (SV Dt) (fun _ _ _ h => h) t (Y 0) (hY 0)))
    (h1.trans (finds1 m c (RV Dt) (SV Dt) (fun _ _ _ h => h) t (Y 1) (hY 1)))
    (h2.trans (finds2 m c (RV Dt) (SV Dt) (fun _ _ _ h => h) t (Y 2) (hY 2)))
    (h3.trans (finds3 m c (RV Dt) (SV Dt) (fun _ _ _ h => h) t (Y 3) (hY 3)))
    (h4.trans (finds4 m c (RV Dt) (SV Dt) (fun _ _ _ h => h) t (Y 4) (hY 4)))
    (h5.trans (finds5 m c (RV Dt) (SV Dt) (fun _ _ _ h => h) t (Y 5) (hY 5)))
    (h6.trans (finds6 m c (RV Dt) (SV Dt) (fun _ _ _ h => h) t (Y 6) (hY 6)))
    (h7.trans (finds7 m c (RV Dt) (SV Dt) (fun _ _ _ h => h) t (Y 7) (hY 7)))
    (h8.trans (finds8 m c (RV Dt) (SV Dt) (fun _ _ _ h => h) t (Y 8) (hY 8)))
  have hb : (grid0.coords t 0).val = t.val / 25 := by rw [c0_val]; omega
  have hs : (grid0.coords t 1).val = t.val / 5 % 5 := c1_val t
  have A := done_of c t (f9, f10, f11, f15) (stAt c t f0 f1 f2 f3 f4 f5 f6 f7 f8 (f9, f10, f11, f15)) (point c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) f0 f1 f2 f3 f4 f5 f6 f7 f8 I (f9, f10, f11, f15) (fun hp k c' l => by
      have H := (hS (grid0.coords t 0) (by rw [e0]; exact hb) (hd (grid0.coords t) k) c' l).2
      rw [e0, ← hs] at H
      exact H (by rw [hd_val]; omega) hp) k0_t1_loop.trips (le_refl _))
  refine ⟨SV_step c Dt t _ hb _ hs _ _ A hS, rfl, rfl, rfl, rfl, rfl, rfl, rfl, rfl, rfl, ?_, ?_, ?_⟩
  · intro b s hb' hs' k h hh j l
    obtain rfl : b = grid0.coords t 0 := Fin.ext (hb'.trans hb.symm)
    obtain rfl : s = grid0.coords t 1 := Fin.ext (hs'.trans hs.symm)
    exact A.out k h hh j l
  · intro b hb' h4 h c' j
    obtain rfl : b = grid0.coords t 0 := Fin.ext (hb'.trans hb.symm)
    exact ⟨fun hh => A.fm (hs.trans h4) h hh c' j, fun hh => (A.keepm h hh c' j).trans (congrFun h10 (ix4 0 h c' j))⟩
  · intro b hb' h4 h c'
    obtain rfl : b = grid0.coords t 0 := Fin.ext (hb'.trans hb.symm)
    exact ⟨fun hh => A.fz (hs.trans h4) h hh c', fun hh => (A.keepz h hh c').trans (congrFun h11 (ix3 0 h c'))⟩

theorem SV_zero (d) : SV Dt 0 d := fun b hb h c' l =>
  ⟨fun h => absurd h (Nat.not_lt_zero _), fun _ h => absurd h (Nat.lt_irrefl _)⟩

end Cert.KernelIdeal.Hand

end
-- ==== Proof.KernelIdeal.Final.lean ====
/-
  What the kernel's three result arrays hold at the end.
-/
module

public import proofs.«01_k».proof.Proof.KernelIdeal.Value

@[expose] public section

noncomputable section

namespace Cert.KernelIdeal.Hand

open Cert.KernelIdeal Cert.KernelIdeal.Gen Idealize.ShloMosaic Idealize.ShloMosaic.TcCoe Cert.Spec
open Idealize.ShloMosaic.Pipeline (RDat Dat)

variable (m : (ℓ : Loc nD τ sig) → Buf (Elt Ideal) ℓ) (c : Dev nD) (Dt : Data)

theorem c2_val' (t : Fin cfg0.N) : (grid0.coords t 2).val = t.val % 5 := c2_val t

/-- The output block at the array's own indices. -/
theorem out_emb (t : Fin cfg0.N) (X : S1x6x96x2048.Idx → EReal) (hX : R9 Dt t X) (y : S1x6x96x2048.Idx) (i : S3x30x96x10240.Idx)
    (h0 : (i 0).val = t.val / 25) (h1 : (i 1).val = t.val % 5 * 6 + (y 1).val) (h2 : (i 2).val = (y 2).val)
    (h3 : (i 3).val = t.val / 5 % 5 * 2048 + (y 3).val) : X y = outV Dt i := by
  have hy : y = ix4 (0 : Fin 1) (y 1) (y 2) (y 3) := by
    funext a
    match a with
    | 0 => exact Subsingleton.elim (α := Fin 1) _ _
    | 1 => rfl
    | 2 => rfl
    | 3 => rfl
  have l3 : (y 3).val < 2048 := (y 3).isLt
  refine (congrArg X hy).trans ((hX (i 0) (segOf (i 3)) h0 (by show (i 3).val / 2048 = _; omega) (y 1) (i 1) h1 (y 2) (y 3)).trans ?_)
  have e2 : y 2 = i 2 := Fin.ext h2.symm
  have e3 : y 3 = locOf (i 3) := Fin.ext (by show _ = (i 3).val % 2048; omega)
  unfold outV
  exact congrArg₂ (fun (j : Fin 96) (l : Fin 2048) => ((Dt.out (i 0) (i 1) (segOf (i 3)) j l : ℝ) : EReal)) e2 e3

/-- The final memory's block at the array's own indices. -/
theorem memV_emb (t : Fin cfg0.N) (X : S1x30x96x96.Idx → EReal) (hX : ∀ b : Fin 3, b.val = t.val / 25 → ∀ h : Fin 30, ∀ c' j, X (ix4 (0 : Fin 1) h c' j) = (((Dt.state b h 5).1 c' j : ℝ) : EReal))
    (y : S1x30x96x96.Idx) (i : S3x30x96x96.Idx) (h0 : (i 0).val = t.val / 25) (h1 : (i 1).val = (y 1).val) (h2 : (i 2).val = (y 2).val) (h3 : (i 3).val = (y 3).val) : X y = memV Dt i := by
  have hy : y = ix4 (0 : Fin 1) (i 1) (i 2) (i 3) := by
    funext a
    match a with
    | 0 => exact Subsingleton.elim (α := Fin 1) _ _
    | 1 => exact Fin.ext h1.symm
    | 2 => exact Fin.ext h2.symm
    | 3 => exact Fin.ext h3.symm
  exact (congrArg X hy).trans (hX (i 0) h0 (i 1) (i 2) (i 3))

/-- The final normaliser's block at the array's own indices. -/
theorem norV_emb (t : Fin cfg0.N) (X : S1x30x96.Idx → EReal) (hX : ∀ b : Fin 3, b.val = t.val / 25 → ∀ h : Fin 30, ∀ c', X (ix3 (0 : Fin 1) h c') = (((Dt.state b h 5).2 c' : ℝ) : EReal))
    (y : S1x30x96.Idx) (i : S3x30x96.Idx) (h0 : (i 0).val = t.val / 25) (h1 : (i 1).val = (y 1).val) (h2 : (i 2).val = (y 2).val) : X y = norV Dt i := by
  have hy : y = ix3 (0 : Fin 1) (i 1) (i 2) := by
    funext a
    match a with
    | 0 => exact Subsingleton.elim (α := Fin 1) _ _
    | 1 => exact Fin.ext h1.symm
    | 2 => exact Fin.ext h2.symm
  exact (congrArg X hy).trans (hX (i 0) h0 (i 1) (i 2))

variable {m c Dt}

/-- The output array. -/
theorem arr9 {r : PUnit × MemSt nD τ sig (Elt Ideal)} (h : RDat.FramePost (cfgs 0) (rdat m (RV Dt) (SV Dt)) (V m) r) :
    r.2.mem ((c.tc : Thread nD τ).loc main_v8_0) = outV Dt := by
  obtain ⟨after, hL, hA⟩ := RDat.FramePost.exists_exact h c
  refine (hA 9).trans (Dat.arrAt_eq_of_covers (cfg := cfg0) ((rdat m (RV Dt) (SV Dt) c).withAfter after) 9 (outV Dt) (by decide +kernel) fun t hf y => ?_)
  obtain ⟨Y, _, hR⟩ := hL 9 t hf
  have hR : R9 Dt t (after 9 t) := hR
  have ht : t.val < 75 := N_0 ▸ t.isLt
  have hc0 := c0_val t
  have hc1 := c1_val t
  have hc2 := c2_val t
  blk_simp
  refine out_emb Dt t _ hR y _ ?_ ?_ ?_ ?_
  · blk_simp [idx9 t]; idx_bounds y; omega
  · blk_simp [idx9 t]; omega
  · blk_simp [idx9 t]
  · blk_simp [idx9 t]; omega

/-- In a batch's last segment, the final memory's block holds the heads of the groups visited so far. -/
theorem leaves10 (n : ℕ) : ∀ (t : Fin cfg0.N), t.val % 5 = n → t.val / 5 % 5 = 4 → ∀ X, (rdat m (RV Dt) (SV Dt) c).Leaves 10 t X → ∀ b : Fin 3, b.val = t.val / 25 →
    ∀ h : Fin 30, h.val / 6 ≤ t.val % 5 → ∀ c' j, (X : S1x30x96x96.Idx → EReal) (ix4 (0 : Fin 1) h c' j) = (((Dt.state b h 5).1 c' j : ℝ) : EReal) := by
  induction n with
  | zero =>
    intro t hn h4 X hX b hb h hh c' j
    obtain ⟨Y, _, hR⟩ := hX
    have hR : R10 Dt t Y X := hR
    exact (hR b hb h4 h c' j).1 (by omega)
  | succ n ih =>
    intro t hn h4 X hX b hb h hh c' j
    obtain ⟨Y, hF, hR⟩ := hX
    have hR : R10 Dt t Y X := hR
    by_cases he : h.val / 6 = t.val % 5
    · exact (hR b hb h4 h c' j).1 he
    · refine ((hR b hb h4 h c' j).2 he).trans ?_
      have hF := (RDat.finds_of_pos (cfg := cfg0) (rdat m (RV Dt) (SV Dt) c) rfl (by omega) Y).1 hF
      refine ih ⟨t.val - 1, _⟩ (by show (t.val - 1) % 5 = n; omega) (by show (t.val - 1) / 5 % 5 = 4; omega) Y (hF.resolve_left fun hfl => ?_) b
        (by show _ = (t.val - 1) / 25; omega) h (by show _ ≤ (t.val - 1) % 5; omega) c' j
      have := (flush0_10 _).1 hfl
      have : (t.val - 1) % 25 = 24 := this
      omega

/-- The final memory. -/
theorem arr10 {r : PUnit × MemSt nD τ sig (Elt Ideal)} (h : RDat.FramePost (cfgs 0) (rdat m (RV Dt) (SV Dt)) (V m) r) :
    r.2.mem ((c.tc : Thread nD τ).loc main_v8_1) = memV Dt := by
  obtain ⟨after, hL, hA⟩ := RDat.FramePost.exists_exact h c
  refine (hA 10).trans (Dat.arrAt_eq_of_covers (cfg := cfg0) ((rdat m (RV Dt) (SV Dt) c).withAfter after) 10 (memV Dt) (by decide +kernel) fun t hf y => ?_)
  have ht : t.val < 75 := N_0 ▸ t.isLt
  have hfl := (flush0_10 t).1 hf
  have hX := leaves10 4 t (by omega) (by omega) _ (hL 10 t hf)
  have hc0 := c0_val t
  blk_simp
  refine memV_emb Dt t (after 10 t) (fun b hb h => hX b hb h (by have := h.isLt; omega)) y _ ?_ ?_ ?_ ?_
  · blk_simp [idx10 t]; idx_bounds y; omega
  · blk_simp [idx10 t]
  · blk_simp [idx10 t]
  · blk_simp [idx10 t]

/-- In a batch's last segment, the final normaliser's block holds the heads of the groups visited so far. -/
theorem leaves11 (n : ℕ) : ∀ (t : Fin cfg0.N), t.val % 5 = n → t.val / 5 % 5 = 4 → ∀ X, (rdat m (RV Dt) (SV Dt) c).Leaves 11 t X → ∀ b : Fin 3, b.val = t.val / 25 →
    ∀ h : Fin 30, h.val / 6 ≤ t.val % 5 → ∀ c', (X : S1x30x96.Idx → EReal) (ix3 (0 : Fin 1) h c') = (((Dt.state b h 5).2 c' : ℝ) : EReal) := by
  induction n with
  | zero =>
    intro t hn h4 X hX b hb h hh c'
    obtain ⟨Y, _, hR⟩ := hX
    have hR : R11 Dt t Y X := hR
    exact (hR b hb h4 h c').1 (by omega)
  | succ n ih =>
    intro t hn h4 X hX b hb h hh c'
    obtain ⟨Y, hF, hR⟩ := hX
    have hR : R11 Dt t Y X := hR
    by_cases he : h.val / 6 = t.val % 5
    · exact (hR b hb h4 h c').1 he
    · refine ((hR b hb h4 h c').2 he).trans ?_
      have hF := (RDat.finds_of_pos (cfg := cfg0) (rdat m (RV Dt) (SV Dt) c) rfl (by omega) Y).1 hF
      refine ih ⟨t.val - 1, _⟩ (by show (t.val - 1) % 5 = n; omega) (by show (t.val - 1) / 5 % 5 = 4; omega) Y (hF.resolve_left fun hfl => ?_) b
        (by show _ = (t.val - 1) / 25; omega) h (by show _ ≤ (t.val - 1) % 5; omega) c'
      have := (flush0_11 _).1 hfl
      have : (t.val - 1) % 25 = 24 := this
      omega

/-- The final normaliser. -/
theorem arr11 {r : PUnit × MemSt nD τ sig (Elt Ideal)} (h : RDat.FramePost (cfgs 0) (rdat m (RV Dt) (SV Dt)) (V m) r) :
    r.2.mem ((c.tc : Thread nD τ).loc main_v8_2) = norV Dt := by
  obtain ⟨after, hL, hA⟩ := RDat.FramePost.exists_exact h c
  refine (hA 11).trans (Dat.arrAt_eq_of_covers (cfg := cfg0) ((rdat m (RV Dt) (SV Dt) c).withAfter after) 11 (norV Dt) (by decide +kernel) fun t hf y => ?_)
  have ht : t.val < 75 := N_0 ▸ t.isLt
  have hfl := (flush0_11 t).1 hf
  have hX := leaves11 4 t (by omega) (by omega) _ (hL 11 t hf)
  have hc0 := c0_val t
  blk_simp
  refine norV_emb Dt t (after 11 t) (fun b hb h => hX b hb h (by have := h.isLt; omega)) y _ ?_ ?_ ?_
  · blk_simp [idx11 t]; idx_bounds y; omega
  · blk_simp [idx11 t]
  · blk_simp [idx11 t]

variable (m Dt)
/-- The kernel's run over data. -/
theorem run_value (ρ : Dev nD → PrngReg) (F : ∀ c : Dev nD, Fits Dt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    θ_run defs (onTc (τ := τ) (main (F := Ideal))) (s₀ m ρ) (fun r => ∀ c : Dev nD,
      r.2.mem ((c.tc : Thread nD τ).loc main_v8_0) = outV Dt ∧ r.2.mem ((c.tc : Thread nD τ).loc main_v8_1) = memV Dt ∧ r.2.mem ((c.tc : Thread nD τ).loc main_v8_2) = norV Dt
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨arr9 h.1, arr10 h.1, arr11 h.1, args_kept h.1 c⟩) (run_main m ρ (RV Dt) (SV Dt) (fun c => ok m c (F c)) (SV_zero Dt))

end Cert.KernelIdeal.Hand
-- ==== Proof.ReferenceIdeal.Idx.lean ====
/-
  Where each layout operation of the reference reads, at an index given by its coordinates.
-/
module

public import proofs.«01_k».proof.Proof.Gen.ReferenceIdeal.Read
public import proofs.«01_k».proof.Proof.Data
public import Idealize.ShloMosaic.Lib.Pointwise

@[expose] public section

noncomputable section

namespace Cert.ReferenceIdeal.Hand

open Cert.ReferenceIdeal Cert.ReferenceIdeal.Gen Cert.ReferenceIdeal.Read Idealize.ShloMosaic Cert.Spec

theorem ix_v4 (v0 : Fin 3) (v1 : Fin 5) (v2 : Fin 2048) (v3 : Fin 30) (v4 : Fin 96) : idx_main_v4 (ix5 v0 v1 v2 v3 v4) = ix4 v0 (pos v1 v2) v3 v4 := funext fun a => match a with
  | ⟨0, _⟩ => Fin.ext (by show ((((v0.val * 5 + v1.val) * 2048 + v2.val) * 30 + v3.val) * 96 + v4.val) / 29491200 = v0.val; omega)
  | ⟨1, _⟩ => Fin.ext (by show ((((v0.val * 5 + v1.val) * 2048 + v2.val) * 30 + v3.val) * 96 + v4.val) / 2880 % 10240 = v1.val * 2048 + v2.val; omega)
  | ⟨2, _⟩ => Fin.ext (by show ((((v0.val * 5 + v1.val) * 2048 + v2.val) * 30 + v3.val) * 96 + v4.val) / 96 % 30 = v3.val; omega)
  | ⟨3, _⟩ => Fin.ext (by show ((((v0.val * 5 + v1.val) * 2048 + v2.val) * 30 + v3.val) * 96 + v4.val) % 96 = v4.val; omega)
theorem ix_v5 (v0 : Fin 3) (v1 : Fin 5) (v2 : Fin 2048) (v3 : Fin 30) (v4 : Fin 96) : idx_main_v5 (ix5 v0 v1 v2 v3 v4) = ix4 v0 (pos v1 v2) v3 v4 := funext fun a => match a with
  | ⟨0, _⟩ => Fin.ext (by show ((((v0.val * 5 + v1.val) * 2048 + v2.val) * 30 + v3.val) * 96 + v4.val) / 29491200 = v0.val; omega)
  | ⟨1, _⟩ => Fin.ext (by show ((((v0.val * 5 + v1.val) * 2048 + v2.val) * 30 + v3.val) * 96 + v4.val) / 2880 % 10240 = v1.val * 2048 + v2.val; omega)
  | ⟨2, _⟩ => Fin.ext (by show ((((v0.val * 5 + v1.val) * 2048 + v2.val) * 30 + v3.val) * 96 + v4.val) / 96 % 30 = v3.val; omega)
  | ⟨3, _⟩ => Fin.ext (by show ((((v0.val * 5 + v1.val) * 2048 + v2.val) * 30 + v3.val) * 96 + v4.val) % 96 = v4.val; omega)
theorem ix_v6 (v0 : Fin 3) (v1 : Fin 5) (v2 : Fin 2048) (v3 : Fin 30) (v4 : Fin 96) : idx_main_v6 (ix5 v0 v1 v2 v3 v4) = ix4 v0 (pos v1 v2) v3 v4 := funext fun a => match a with
  | ⟨0, _⟩ => Fin.ext (by show ((((v0.val * 5 + v1.val) * 2048 + v2.val) * 30 + v3.val) * 96 + v4.val) / 29491200 = v0.val; omega)
  | ⟨1, _⟩ => Fin.ext (by show ((((v0.val * 5 + v1.val) * 2048 + v2.val) * 30 + v3.val) * 96 + v4.val) / 2880 % 10240 = v1.val * 2048 + v2.val; omega)
  | ⟨2, _⟩ => Fin.ext (by show ((((v0.val * 5 + v1.val) * 2048 + v2.val) * 30 + v3.val) * 96 + v4.val) / 96 % 30 = v3.val; omega)
  | ⟨3, _⟩ => Fin.ext (by show ((((v0.val * 5 + v1.val) * 2048 + v2.val) * 30 + v3.val) * 96 + v4.val) % 96 = v4.val; omega)
theorem ix_v7 (v0 : Fin 3) (v1 : Fin 5) (v2 : Fin 2048) (v3 : Fin 30) : idx_main_v7 (ix4 v0 v1 v2 v3) = ix3 v0 (pos v1 v2) v3 := funext fun a => match a with
  | ⟨0, _⟩ => Fin.ext (by show (((v0.val * 5 + v1.val) * 2048 + v2.val) * 30 + v3.val) / 307200 = v0.val; omega)
  | ⟨1, _⟩ => Fin.ext (by show (((v0.val * 5 + v1.val) * 2048 + v2.val) * 30 + v3.val) / 30 % 10240 = v1.val * 2048 + v2.val; omega)
  | ⟨2, _⟩ => Fin.ext (by show (((v0.val * 5 + v1.val) * 2048 + v2.val) * 30 + v3.val) % 30 = v3.val; omega)
theorem ix_v8 (v0 : Fin 3) (v1 : Fin 5) (v2 : Fin 2048) (v3 : Fin 30) : idx_main_v8 (ix4 v0 v1 v2 v3) = ix3 v0 (pos v1 v2) v3 := funext fun a => match a with
  | ⟨0, _⟩ => Fin.ext (by show (((v0.val * 5 + v1.val) * 2048 + v2.val) * 30 + v3.val) / 307200 = v0.val; omega)
  | ⟨1, _⟩ => Fin.ext (by show (((v0.val * 5 + v1.val) * 2048 + v2.val) * 30 + v3.val) / 30 % 10240 = v1.val * 2048 + v2.val; omega)
  | ⟨2, _⟩ => Fin.ext (by show (((v0.val * 5 + v1.val) * 2048 + v2.val) * 30 + v3.val) % 30 = v3.val; omega)
theorem lix_v10 (v0 : Fin 3) (v1 : Fin 5) (v2 : Fin 30) (v3 : Fin 2048) (v4 : Fin 2048) (k : Fin 96) : lidx_main_v10 (ix5 v0 v1 v2 v3 v4) k = ix5 v0 v1 v3 v2 k := funext fun a => by fin_cases a <;> rfl
theorem rix_v10 (v0 : Fin 3) (v1 : Fin 5) (v2 : Fin 30) (v3 : Fin 2048) (v4 : Fin 2048) (k : Fin 96) : ridx_main_v10 (ix5 v0 v1 v2 v3 v4) k = ix5 v0 v1 v4 v2 k := funext fun a => by fin_cases a <;> rfl
theorem ix_v11 (v0 : Fin 3) (v1 : Fin 5) (v2 : Fin 30) : idx_main_v11 (ix3 v0 v1 v2) = ix0 := funext fun a => a.elim0
theorem ix_v13 (v0 : Fin 3) (v1 : Fin 5) (v2 : Fin 30) (v3 : Fin 1) (v4 : Fin 1) : idx_main_v13 (ix5 v0 v1 v2 v3 v4) = ix3 v0 v1 v2 := funext fun a => by fin_cases a <;> rfl
theorem ix_v14 (v0 : Fin 3) (v1 : Fin 5) (v2 : Fin 30) (v3 : Fin 2048) : idx_main_v14 (ix4 v0 v1 v2 v3) = ix4 v0 v1 v3 v2 := funext fun a => by fin_cases a <;> rfl
theorem ix_v15 (v0 : Fin 3) (v1 : Fin 5) (v2 : Fin 30) (v3 : Fin 1) (v4 : Fin 2048) : idx_main_v15 (ix5 v0 v1 v2 v3 v4) = ix4 v0 v1 v2 v4 := funext fun a => by fin_cases a <;> rfl
theorem ix_v16 (v0 : Fin 3) (v1 : Fin 5) (v2 : Fin 30) (v3 : Fin 1) (v4 : Fin 2048) : idx_main_v16 (ix5 v0 v1 v2 v3 v4) = ix5 v0 v1 v2 0 0 := funext fun a => by fin_cases a <;> rfl
theorem ix_v18 (v0 : Fin 1) (v1 : Fin 2048) : idx_main_v18 (ix2 v0 v1) = ix1 v1 := funext fun a => by fin_cases a <;> rfl
theorem ix_v19 (v0 : Fin 2048) (v1 : Fin 1) : idx_main_v19 (ix2 v0 v1) = ix1 v0 := funext fun a => by fin_cases a <;> rfl
theorem ix_v20 (v0 : Fin 2048) (v1 : Fin 2048) : idx_main_v20 (ix2 v0 v1) = ix2 0 v1 := funext fun a => by fin_cases a <;> rfl
theorem ix_v21 (v0 : Fin 2048) (v1 : Fin 2048) : idx_main_v21 (ix2 v0 v1) = ix2 v0 0 := funext fun a => by fin_cases a <;> rfl
theorem ix_v23 (v0 : Fin 3) (v1 : Fin 5) (v2 : Fin 30) (v3 : Fin 2048) (v4 : Fin 2048) : idx_main_v23 (ix5 v0 v1 v2 v3 v4) = ix5 v0 v1 v2 0 v4 := funext fun a => by fin_cases a <;> rfl
theorem ix_call0_v1 (v0 : Fin 3) (v1 : Fin 5) (v2 : Fin 30) (v3 : Fin 2048) (v4 : Fin 2048) : idx_main_call0_v1 (ix5 v0 v1 v2 v3 v4) = ix2 v3 v4 := funext fun a => by fin_cases a <;> rfl
theorem ix_call0_v2 (v0 : Fin 3) (v1 : Fin 5) (v2 : Fin 30) (v3 : Fin 2048) (v4 : Fin 2048) : idx_main_call0_v2 (ix5 v0 v1 v2 v3 v4) = ix0 := funext fun a => a.elim0
theorem ix_v27 (v0 : Fin 3) (v1 : Fin 5) (v2 : Fin 30) (v3 : Fin 2048) : idx_main_v27 (ix4 v0 v1 v2 v3) = ix0 := funext fun a => a.elim0
theorem ix_v29 (v0 : Fin 3) (v1 : Fin 5) (v2 : Fin 30) (v3 : Fin 2048) (v4 : Fin 1) : idx_main_v29 (ix5 v0 v1 v2 v3 v4) = ix4 v0 v1 v2 v3 := funext fun a => by fin_cases a <;> rfl
theorem ix_v30 (v0 : Fin 3) (v1 : Fin 5) (v2 : Fin 30) (v3 : Fin 2048) (v4 : Fin 2048) : idx_main_v30 (ix5 v0 v1 v2 v3 v4) = ix5 v0 v1 v2 v3 0 := funext fun a => by fin_cases a <;> rfl
theorem ix_v33 (v0 : Fin 3) (v1 : Fin 5) (v2 : Fin 30) (v3 : Fin 2048) (k : Fin 2048) : idx_main_v33 (ix4 v0 v1 v2 v3) k = ix5 v0 v1 v2 v3 k := funext fun a => by fin_cases a <;> rfl
theorem ix_v34 (v0 : Fin 3) (v1 : Fin 5) (v2 : Fin 30) (v3 : Fin 2048) (v4 : Fin 1) : idx_main_v34 (ix5 v0 v1 v2 v3 v4) = ix4 v0 v1 v2 v3 := funext fun a => by fin_cases a <;> rfl
theorem ix_v35 (v0 : Fin 3) (v1 : Fin 5) (v2 : Fin 30) (v3 : Fin 2048) (v4 : Fin 2048) : idx_main_v35 (ix5 v0 v1 v2 v3 v4) = ix5 v0 v1 v2 v3 0 := funext fun a => by fin_cases a <;> rfl
theorem ix_v37 (v0 : Fin 3) (v1 : Fin 5) (v2 : Fin 30) (v3 : Fin 2048) : idx_main_v37 (ix4 v0 v1 v2 v3) = ix4 v0 v1 v3 v2 := funext fun a => by fin_cases a <;> rfl
theorem ix_v38 (v0 : Fin 3) (v1 : Fin 5) (v2 : Fin 30) (v3 : Fin 1) (v4 : Fin 2048) : idx_main_v38 (ix5 v0 v1 v2 v3 v4) = ix4 v0 v1 v2 v4 := funext fun a => by fin_cases a <;> rfl
theorem ix_v39 (v0 : Fin 3) (v1 : Fin 5) (v2 : Fin 30) (v3 : Fin 2048) (v4 : Fin 2048) : idx_main_v39 (ix5 v0 v1 v2 v3 v4) = ix5 v0 v1 v2 0 v4 := funext fun a => by fin_cases a <;> rfl
theorem lix_v43 (v0 : Fin 3) (v1 : Fin 5) (v2 : Fin 30) (v3 : Fin 96) (v4 : Fin 2048) (k : Fin 2048) : lidx_main_v43 (ix5 v0 v1 v2 v3 v4) k = ix5 v0 v1 k v2 v3 := funext fun a => by fin_cases a <;> rfl
theorem rix_v43 (v0 : Fin 3) (v1 : Fin 5) (v2 : Fin 30) (v3 : Fin 96) (v4 : Fin 2048) (k : Fin 2048) : ridx_main_v43 (ix5 v0 v1 v2 v3 v4) k = ix5 v0 v1 v2 v4 k := funext fun a => by fin_cases a <;> rfl
theorem ix_v44 (v0 : Fin 3) (v1 : Fin 5) (v2 : Fin 2048) (v3 : Fin 30) (v4 : Fin 96) : idx_main_v44 (ix5 v0 v1 v2 v3 v4) = ix5 v0 v1 v3 v4 v2 := funext fun a => by fin_cases a <;> rfl
theorem ix_v45 (v0 : Fin 3) (v1 : Fin 5) (v2 : Fin 2048) (v3 : Fin 30) (v4 : Fin 1) : idx_main_v45 (ix5 v0 v1 v2 v3 v4) = ix4 v0 v1 v2 v3 := funext fun a => by fin_cases a <;> rfl
theorem ix_v46 (v0 : Fin 3) (v1 : Fin 5) (v2 : Fin 2048) (v3 : Fin 30) (v4 : Fin 96) : idx_main_v46 (ix5 v0 v1 v2 v3 v4) = ix5 v0 v1 v2 v3 0 := funext fun a => by fin_cases a <;> rfl
theorem ix_v48 (v0 : Fin 3) (v1 : Fin 5) (v2 : Fin 2048) (v3 : Fin 30) (v4 : Fin 96) : idx_main_v48 (ix5 v0 v1 v2 v3 v4) = ix0 := funext fun a => a.elim0
theorem ix_v52 (v0 : Fin 3) (v1 : Fin 5) (v2 : Fin 2048) (v3 : Fin 30) (v4 : Fin 96) : idx_main_v52 (ix5 v0 v1 v2 v3 v4) = ix0 := funext fun a => a.elim0
theorem ix_v54 (v0 : Fin 3) (v1 : Fin 5) (v2 : Fin 2048) (v3 : Fin 30) (v4 : Fin 1) : idx_main_v54 (ix5 v0 v1 v2 v3 v4) = ix4 v0 v1 v2 v3 := funext fun a => by fin_cases a <;> rfl
theorem ix_v55 (v0 : Fin 3) (v1 : Fin 5) (v2 : Fin 2048) (v3 : Fin 30) (v4 : Fin 96) : idx_main_v55 (ix5 v0 v1 v2 v3 v4) = ix5 v0 v1 v2 v3 0 := funext fun a => by fin_cases a <;> rfl
theorem ix_v57 (v0 : Fin 3) (v2 : Fin 2048) (v3 : Fin 30) (v4 : Fin 96) : idx_main_v57 (ix5 v0 0 v2 v3 v4) = ix5 v0 0 v2 v3 v4 := funext fun a => by fin_cases a <;> rfl
theorem ix_v58 (v0 : Fin 3) (v1 : Fin 2048) (v2 : Fin 30) (v3 : Fin 96) : idx_main_v58 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem lix_v59 (v0 : Fin 3) (v1 : Fin 30) (v2 : Fin 2048) (k : Fin 96) : lidx_main_v59 (ix3 v0 v1 v2) k = ix3 v0 v1 k := funext fun a => by fin_cases a <;> rfl
theorem rix_v59 (v0 : Fin 3) (v1 : Fin 30) (v2 : Fin 2048) (k : Fin 96) : ridx_main_v59 (ix3 v0 v1 v2) k = ix4 v0 v2 v1 k := funext fun a => by fin_cases a <;> rfl
theorem ix_v60 (v0 : Fin 3) (v1 : Fin 2048) (v2 : Fin 30) : idx_main_v60 (ix3 v0 v1 v2) = ix3 v0 v2 v1 := funext fun a => by fin_cases a <;> rfl
theorem ix_v61 (v0 : Fin 3) (v2 : Fin 2048) (v3 : Fin 30) (v4 : Fin 96) : idx_main_v61 (ix5 v0 0 v2 v3 v4) = ix5 v0 0 v2 v3 v4 := funext fun a => by fin_cases a <;> rfl
theorem ix_v62 (v0 : Fin 3) (v1 : Fin 2048) (v2 : Fin 30) (v3 : Fin 96) : idx_main_v62 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem lix_v63 (v0 : Fin 3) (v1 : Fin 30) (v2 : Fin 96) (v3 : Fin 2048) (k : Fin 96) : lidx_main_v63 (ix4 v0 v1 v2 v3) k = ix4 v0 v1 k v2 := funext fun a => by fin_cases a <;> rfl
theorem rix_v63 (v0 : Fin 3) (v1 : Fin 30) (v2 : Fin 96) (v3 : Fin 2048) (k : Fin 96) : ridx_main_v63 (ix4 v0 v1 v2 v3) k = ix4 v0 v3 v1 k := funext fun a => by fin_cases a <;> rfl
theorem ix_v64 (v0 : Fin 3) (v1 : Fin 2048) (v2 : Fin 30) (v3 : Fin 96) : idx_main_v64 (ix4 v0 v1 v2 v3) = ix4 v0 v2 v3 v1 := funext fun a => by fin_cases a <;> rfl
theorem ix_v65 (v0 : Fin 3) (v1 : Fin 2048) (v2 : Fin 30) (v3 : Fin 1) : idx_main_v65 (ix4 v0 v1 v2 v3) = ix3 v0 v1 v2 := funext fun a => by fin_cases a <;> rfl
theorem ix_v66 (v0 : Fin 3) (v1 : Fin 2048) (v2 : Fin 30) (v3 : Fin 96) : idx_main_v66 (ix4 v0 v1 v2 v3) = ix4 v0 v1 v2 0 := funext fun a => by fin_cases a <;> rfl
theorem ix_v68 (v0 : Fin 3) (v2 : Fin 2048) (v3 : Fin 30) (v4 : Fin 96) : idx_main_v68 (ix5 v0 0 v2 v3 v4) = ix5 v0 0 v2 v3 v4 := funext fun a => by fin_cases a <;> rfl
theorem ix_v69 (v0 : Fin 3) (v1 : Fin 2048) (v2 : Fin 30) (v3 : Fin 96) : idx_main_v69 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem ix_v70 (v0 : Fin 3) (v2 : Fin 2048) (v3 : Fin 30) (v4 : Fin 96) : idx_main_v70 (ix5 v0 0 v2 v3 v4) = ix5 v0 0 v2 v3 v4 := funext fun a => by fin_cases a <;> rfl
theorem ix_v71 (v0 : Fin 3) (v1 : Fin 2048) (v2 : Fin 30) (v3 : Fin 96) : idx_main_v71 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem lix_v73 (v0 : Fin 3) (v1 : Fin 30) (v2 : Fin 96) (v3 : Fin 96) (k : Fin 2048) : lidx_main_v73 (ix4 v0 v1 v2 v3) k = ix4 v0 k v1 v2 := funext fun a => by fin_cases a <;> rfl
theorem rix_v73 (v0 : Fin 3) (v1 : Fin 30) (v2 : Fin 96) (v3 : Fin 96) (k : Fin 2048) : ridx_main_v73 (ix4 v0 v1 v2 v3) k = ix4 v0 k v1 v3 := funext fun a => by fin_cases a <;> rfl
theorem ix_v75 (v0 : Fin 3) (v2 : Fin 2048) (v3 : Fin 30) (v4 : Fin 96) : idx_main_v75 (ix5 v0 0 v2 v3 v4) = ix5 v0 0 v2 v3 v4 := funext fun a => by fin_cases a <;> rfl
theorem ix_v76 (v0 : Fin 3) (v1 : Fin 2048) (v2 : Fin 30) (v3 : Fin 96) : idx_main_v76 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem ix_v77 (v0 : Fin 3) (v1 : Fin 30) (v2 : Fin 96) (k : Fin 2048) : idx_main_v77 (ix3 v0 v1 v2) k = ix4 v0 k v1 v2 := funext fun a => by fin_cases a <;> rfl
theorem ix_v79 (v0 : Fin 3) (v2 : Fin 2048) (v3 : Fin 30) (v4 : Fin 96) : idx_main_v79 (ix5 v0 0 v2 v3 v4) = ix5 v0 1 v2 v3 v4 := funext fun a => by fin_cases a <;> rfl
theorem ix_v80 (v0 : Fin 3) (v1 : Fin 2048) (v2 : Fin 30) (v3 : Fin 96) : idx_main_v80 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem lix_v81 (v0 : Fin 3) (v1 : Fin 30) (v2 : Fin 2048) (k : Fin 96) : lidx_main_v81 (ix3 v0 v1 v2) k = ix3 v0 v1 k := funext fun a => by fin_cases a <;> rfl
theorem rix_v81 (v0 : Fin 3) (v1 : Fin 30) (v2 : Fin 2048) (k : Fin 96) : ridx_main_v81 (ix3 v0 v1 v2) k = ix4 v0 v2 v1 k := funext fun a => by fin_cases a <;> rfl
theorem ix_v82 (v0 : Fin 3) (v1 : Fin 2048) (v2 : Fin 30) : idx_main_v82 (ix3 v0 v1 v2) = ix3 v0 v2 v1 := funext fun a => by fin_cases a <;> rfl
theorem ix_v83 (v0 : Fin 3) (v2 : Fin 2048) (v3 : Fin 30) (v4 : Fin 96) : idx_main_v83 (ix5 v0 0 v2 v3 v4) = ix5 v0 1 v2 v3 v4 := funext fun a => by fin_cases a <;> rfl
theorem ix_v84 (v0 : Fin 3) (v1 : Fin 2048) (v2 : Fin 30) (v3 : Fin 96) : idx_main_v84 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem lix_v85 (v0 : Fin 3) (v1 : Fin 30) (v2 : Fin 96) (v3 : Fin 2048) (k : Fin 96) : lidx_main_v85 (ix4 v0 v1 v2 v3) k = ix4 v0 v1 k v2 := funext fun a => by fin_cases a <;> rfl
theorem rix_v85 (v0 : Fin 3) (v1 : Fin 30) (v2 : Fin 96) (v3 : Fin 2048) (k : Fin 96) : ridx_main_v85 (ix4 v0 v1 v2 v3) k = ix4 v0 v3 v1 k := funext fun a => by fin_cases a <;> rfl
theorem ix_v86 (v0 : Fin 3) (v1 : Fin 2048) (v2 : Fin 30) (v3 : Fin 96) : idx_main_v86 (ix4 v0 v1 v2 v3) = ix4 v0 v2 v3 v1 := funext fun a => by fin_cases a <;> rfl
theorem ix_v87 (v0 : Fin 3) (v1 : Fin 2048) (v2 : Fin 30) (v3 : Fin 1) : idx_main_v87 (ix4 v0 v1 v2 v3) = ix3 v0 v1 v2 := funext fun a => by fin_cases a <;> rfl
theorem ix_v88 (v0 : Fin 3) (v1 : Fin 2048) (v2 : Fin 30) (v3 : Fin 96) : idx_main_v88 (ix4 v0 v1 v2 v3) = ix4 v0 v1 v2 0 := funext fun a => by fin_cases a <;> rfl
theorem ix_v90 (v0 : Fin 3) (v2 : Fin 2048) (v3 : Fin 30) (v4 : Fin 96) : idx_main_v90 (ix5 v0 0 v2 v3 v4) = ix5 v0 1 v2 v3 v4 := funext fun a => by fin_cases a <;> rfl
theorem ix_v91 (v0 : Fin 3) (v1 : Fin 2048) (v2 : Fin 30) (v3 : Fin 96) : idx_main_v91 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem ix_v92 (v0 : Fin 3) (v2 : Fin 2048) (v3 : Fin 30) (v4 : Fin 96) : idx_main_v92 (ix5 v0 0 v2 v3 v4) = ix5 v0 1 v2 v3 v4 := funext fun a => by fin_cases a <;> rfl
theorem ix_v93 (v0 : Fin 3) (v1 : Fin 2048) (v2 : Fin 30) (v3 : Fin 96) : idx_main_v93 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem lix_v95 (v0 : Fin 3) (v1 : Fin 30) (v2 : Fin 96) (v3 : Fin 96) (k : Fin 2048) : lidx_main_v95 (ix4 v0 v1 v2 v3) k = ix4 v0 k v1 v2 := funext fun a => by fin_cases a <;> rfl
theorem rix_v95 (v0 : Fin 3) (v1 : Fin 30) (v2 : Fin 96) (v3 : Fin 96) (k : Fin 2048) : ridx_main_v95 (ix4 v0 v1 v2 v3) k = ix4 v0 k v1 v3 := funext fun a => by fin_cases a <;> rfl
theorem ix_v97 (v0 : Fin 3) (v2 : Fin 2048) (v3 : Fin 30) (v4 : Fin 96) : idx_main_v97 (ix5 v0 0 v2 v3 v4) = ix5 v0 1 v2 v3 v4 := funext fun a => by fin_cases a <;> rfl
theorem ix_v98 (v0 : Fin 3) (v1 : Fin 2048) (v2 : Fin 30) (v3 : Fin 96) : idx_main_v98 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem ix_v99 (v0 : Fin 3) (v1 : Fin 30) (v2 : Fin 96) (k : Fin 2048) : idx_main_v99 (ix3 v0 v1 v2) k = ix4 v0 k v1 v2 := funext fun a => by fin_cases a <;> rfl
theorem ix_v101 (v0 : Fin 3) (v2 : Fin 2048) (v3 : Fin 30) (v4 : Fin 96) : idx_main_v101 (ix5 v0 0 v2 v3 v4) = ix5 v0 2 v2 v3 v4 := funext fun a => by fin_cases a <;> rfl
theorem ix_v102 (v0 : Fin 3) (v1 : Fin 2048) (v2 : Fin 30) (v3 : Fin 96) : idx_main_v102 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem lix_v103 (v0 : Fin 3) (v1 : Fin 30) (v2 : Fin 2048) (k : Fin 96) : lidx_main_v103 (ix3 v0 v1 v2) k = ix3 v0 v1 k := funext fun a => by fin_cases a <;> rfl
theorem rix_v103 (v0 : Fin 3) (v1 : Fin 30) (v2 : Fin 2048) (k : Fin 96) : ridx_main_v103 (ix3 v0 v1 v2) k = ix4 v0 v2 v1 k := funext fun a => by fin_cases a <;> rfl
theorem ix_v104 (v0 : Fin 3) (v1 : Fin 2048) (v2 : Fin 30) : idx_main_v104 (ix3 v0 v1 v2) = ix3 v0 v2 v1 := funext fun a => by fin_cases a <;> rfl
theorem ix_v105 (v0 : Fin 3) (v2 : Fin 2048) (v3 : Fin 30) (v4 : Fin 96) : idx_main_v105 (ix5 v0 0 v2 v3 v4) = ix5 v0 2 v2 v3 v4 := funext fun a => by fin_cases a <;> rfl
theorem ix_v106 (v0 : Fin 3) (v1 : Fin 2048) (v2 : Fin 30) (v3 : Fin 96) : idx_main_v106 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem lix_v107 (v0 : Fin 3) (v1 : Fin 30) (v2 : Fin 96) (v3 : Fin 2048) (k : Fin 96) : lidx_main_v107 (ix4 v0 v1 v2 v3) k = ix4 v0 v1 k v2 := funext fun a => by fin_cases a <;> rfl
theorem rix_v107 (v0 : Fin 3) (v1 : Fin 30) (v2 : Fin 96) (v3 : Fin 2048) (k : Fin 96) : ridx_main_v107 (ix4 v0 v1 v2 v3) k = ix4 v0 v3 v1 k := funext fun a => by fin_cases a <;> rfl
theorem ix_v108 (v0 : Fin 3) (v1 : Fin 2048) (v2 : Fin 30) (v3 : Fin 96) : idx_main_v108 (ix4 v0 v1 v2 v3) = ix4 v0 v2 v3 v1 := funext fun a => by fin_cases a <;> rfl
theorem ix_v109 (v0 : Fin 3) (v1 : Fin 2048) (v2 : Fin 30) (v3 : Fin 1) : idx_main_v109 (ix4 v0 v1 v2 v3) = ix3 v0 v1 v2 := funext fun a => by fin_cases a <;> rfl
theorem ix_v110 (v0 : Fin 3) (v1 : Fin 2048) (v2 : Fin 30) (v3 : Fin 96) : idx_main_v110 (ix4 v0 v1 v2 v3) = ix4 v0 v1 v2 0 := funext fun a => by fin_cases a <;> rfl
theorem ix_v112 (v0 : Fin 3) (v2 : Fin 2048) (v3 : Fin 30) (v4 : Fin 96) : idx_main_v112 (ix5 v0 0 v2 v3 v4) = ix5 v0 2 v2 v3 v4 := funext fun a => by fin_cases a <;> rfl
theorem ix_v113 (v0 : Fin 3) (v1 : Fin 2048) (v2 : Fin 30) (v3 : Fin 96) : idx_main_v113 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem ix_v114 (v0 : Fin 3) (v2 : Fin 2048) (v3 : Fin 30) (v4 : Fin 96) : idx_main_v114 (ix5 v0 0 v2 v3 v4) = ix5 v0 2 v2 v3 v4 := funext fun a => by fin_cases a <;> rfl
theorem ix_v115 (v0 : Fin 3) (v1 : Fin 2048) (v2 : Fin 30) (v3 : Fin 96) : idx_main_v115 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem lix_v117 (v0 : Fin 3) (v1 : Fin 30) (v2 : Fin 96) (v3 : Fin 96) (k : Fin 2048) : lidx_main_v117 (ix4 v0 v1 v2 v3) k = ix4 v0 k v1 v2 := funext fun a => by fin_cases a <;> rfl
theorem rix_v117 (v0 : Fin 3) (v1 : Fin 30) (v2 : Fin 96) (v3 : Fin 96) (k : Fin 2048) : ridx_main_v117 (ix4 v0 v1 v2 v3) k = ix4 v0 k v1 v3 := funext fun a => by fin_cases a <;> rfl
theorem ix_v119 (v0 : Fin 3) (v2 : Fin 2048) (v3 : Fin 30) (v4 : Fin 96) : idx_main_v119 (ix5 v0 0 v2 v3 v4) = ix5 v0 2 v2 v3 v4 := funext fun a => by fin_cases a <;> rfl
theorem ix_v120 (v0 : Fin 3) (v1 : Fin 2048) (v2 : Fin 30) (v3 : Fin 96) : idx_main_v120 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem ix_v121 (v0 : Fin 3) (v1 : Fin 30) (v2 : Fin 96) (k : Fin 2048) : idx_main_v121 (ix3 v0 v1 v2) k = ix4 v0 k v1 v2 := funext fun a => by fin_cases a <;> rfl
theorem ix_v123 (v0 : Fin 3) (v2 : Fin 2048) (v3 : Fin 30) (v4 : Fin 96) : idx_main_v123 (ix5 v0 0 v2 v3 v4) = ix5 v0 3 v2 v3 v4 := funext fun a => by fin_cases a <;> rfl
theorem ix_v124 (v0 : Fin 3) (v1 : Fin 2048) (v2 : Fin 30) (v3 : Fin 96) : idx_main_v124 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem lix_v125 (v0 : Fin 3) (v1 : Fin 30) (v2 : Fin 2048) (k : Fin 96) : lidx_main_v125 (ix3 v0 v1 v2) k = ix3 v0 v1 k := funext fun a => by fin_cases a <;> rfl
theorem rix_v125 (v0 : Fin 3) (v1 : Fin 30) (v2 : Fin 2048) (k : Fin 96) : ridx_main_v125 (ix3 v0 v1 v2) k = ix4 v0 v2 v1 k := funext fun a => by fin_cases a <;> rfl
theorem ix_v126 (v0 : Fin 3) (v1 : Fin 2048) (v2 : Fin 30) : idx_main_v126 (ix3 v0 v1 v2) = ix3 v0 v2 v1 := funext fun a => by fin_cases a <;> rfl
theorem ix_v127 (v0 : Fin 3) (v2 : Fin 2048) (v3 : Fin 30) (v4 : Fin 96) : idx_main_v127 (ix5 v0 0 v2 v3 v4) = ix5 v0 3 v2 v3 v4 := funext fun a => by fin_cases a <;> rfl
theorem ix_v128 (v0 : Fin 3) (v1 : Fin 2048) (v2 : Fin 30) (v3 : Fin 96) : idx_main_v128 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem lix_v129 (v0 : Fin 3) (v1 : Fin 30) (v2 : Fin 96) (v3 : Fin 2048) (k : Fin 96) : lidx_main_v129 (ix4 v0 v1 v2 v3) k = ix4 v0 v1 k v2 := funext fun a => by fin_cases a <;> rfl
theorem rix_v129 (v0 : Fin 3) (v1 : Fin 30) (v2 : Fin 96) (v3 : Fin 2048) (k : Fin 96) : ridx_main_v129 (ix4 v0 v1 v2 v3) k = ix4 v0 v3 v1 k := funext fun a => by fin_cases a <;> rfl
theorem ix_v130 (v0 : Fin 3) (v1 : Fin 2048) (v2 : Fin 30) (v3 : Fin 96) : idx_main_v130 (ix4 v0 v1 v2 v3) = ix4 v0 v2 v3 v1 := funext fun a => by fin_cases a <;> rfl
theorem ix_v131 (v0 : Fin 3) (v1 : Fin 2048) (v2 : Fin 30) (v3 : Fin 1) : idx_main_v131 (ix4 v0 v1 v2 v3) = ix3 v0 v1 v2 := funext fun a => by fin_cases a <;> rfl
theorem ix_v132 (v0 : Fin 3) (v1 : Fin 2048) (v2 : Fin 30) (v3 : Fin 96) : idx_main_v132 (ix4 v0 v1 v2 v3) = ix4 v0 v1 v2 0 := funext fun a => by fin_cases a <;> rfl
theorem ix_v134 (v0 : Fin 3) (v2 : Fin 2048) (v3 : Fin 30) (v4 : Fin 96) : idx_main_v134 (ix5 v0 0 v2 v3 v4) = ix5 v0 3 v2 v3 v4 := funext fun a => by fin_cases a <;> rfl
theorem ix_v135 (v0 : Fin 3) (v1 : Fin 2048) (v2 : Fin 30) (v3 : Fin 96) : idx_main_v135 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem ix_v136 (v0 : Fin 3) (v2 : Fin 2048) (v3 : Fin 30) (v4 : Fin 96) : idx_main_v136 (ix5 v0 0 v2 v3 v4) = ix5 v0 3 v2 v3 v4 := funext fun a => by fin_cases a <;> rfl
theorem ix_v137 (v0 : Fin 3) (v1 : Fin 2048) (v2 : Fin 30) (v3 : Fin 96) : idx_main_v137 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem lix_v139 (v0 : Fin 3) (v1 : Fin 30) (v2 : Fin 96) (v3 : Fin 96) (k : Fin 2048) : lidx_main_v139 (ix4 v0 v1 v2 v3) k = ix4 v0 k v1 v2 := funext fun a => by fin_cases a <;> rfl
theorem rix_v139 (v0 : Fin 3) (v1 : Fin 30) (v2 : Fin 96) (v3 : Fin 96) (k : Fin 2048) : ridx_main_v139 (ix4 v0 v1 v2 v3) k = ix4 v0 k v1 v3 := funext fun a => by fin_cases a <;> rfl
theorem ix_v141 (v0 : Fin 3) (v2 : Fin 2048) (v3 : Fin 30) (v4 : Fin 96) : idx_main_v141 (ix5 v0 0 v2 v3 v4) = ix5 v0 3 v2 v3 v4 := funext fun a => by fin_cases a <;> rfl
theorem ix_v142 (v0 : Fin 3) (v1 : Fin 2048) (v2 : Fin 30) (v3 : Fin 96) : idx_main_v142 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem ix_v143 (v0 : Fin 3) (v1 : Fin 30) (v2 : Fin 96) (k : Fin 2048) : idx_main_v143 (ix3 v0 v1 v2) k = ix4 v0 k v1 v2 := funext fun a => by fin_cases a <;> rfl
theorem ix_v145 (v0 : Fin 3) (v2 : Fin 2048) (v3 : Fin 30) (v4 : Fin 96) : idx_main_v145 (ix5 v0 0 v2 v3 v4) = ix5 v0 4 v2 v3 v4 := funext fun a => by fin_cases a <;> rfl
theorem ix_v146 (v0 : Fin 3) (v1 : Fin 2048) (v2 : Fin 30) (v3 : Fin 96) : idx_main_v146 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem lix_v147 (v0 : Fin 3) (v1 : Fin 30) (v2 : Fin 2048) (k : Fin 96) : lidx_main_v147 (ix3 v0 v1 v2) k = ix3 v0 v1 k := funext fun a => by fin_cases a <;> rfl
theorem rix_v147 (v0 : Fin 3) (v1 : Fin 30) (v2 : Fin 2048) (k : Fin 96) : ridx_main_v147 (ix3 v0 v1 v2) k = ix4 v0 v2 v1 k := funext fun a => by fin_cases a <;> rfl
theorem ix_v148 (v0 : Fin 3) (v1 : Fin 2048) (v2 : Fin 30) : idx_main_v148 (ix3 v0 v1 v2) = ix3 v0 v2 v1 := funext fun a => by fin_cases a <;> rfl
theorem ix_v149 (v0 : Fin 3) (v2 : Fin 2048) (v3 : Fin 30) (v4 : Fin 96) : idx_main_v149 (ix5 v0 0 v2 v3 v4) = ix5 v0 4 v2 v3 v4 := funext fun a => by fin_cases a <;> rfl
theorem ix_v150 (v0 : Fin 3) (v1 : Fin 2048) (v2 : Fin 30) (v3 : Fin 96) : idx_main_v150 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem lix_v151 (v0 : Fin 3) (v1 : Fin 30) (v2 : Fin 96) (v3 : Fin 2048) (k : Fin 96) : lidx_main_v151 (ix4 v0 v1 v2 v3) k = ix4 v0 v1 k v2 := funext fun a => by fin_cases a <;> rfl
theorem rix_v151 (v0 : Fin 3) (v1 : Fin 30) (v2 : Fin 96) (v3 : Fin 2048) (k : Fin 96) : ridx_main_v151 (ix4 v0 v1 v2 v3) k = ix4 v0 v3 v1 k := funext fun a => by fin_cases a <;> rfl
theorem ix_v152 (v0 : Fin 3) (v1 : Fin 2048) (v2 : Fin 30) (v3 : Fin 96) : idx_main_v152 (ix4 v0 v1 v2 v3) = ix4 v0 v2 v3 v1 := funext fun a => by fin_cases a <;> rfl
theorem ix_v153 (v0 : Fin 3) (v1 : Fin 2048) (v2 : Fin 30) (v3 : Fin 1) : idx_main_v153 (ix4 v0 v1 v2 v3) = ix3 v0 v1 v2 := funext fun a => by fin_cases a <;> rfl
theorem ix_v154 (v0 : Fin 3) (v1 : Fin 2048) (v2 : Fin 30) (v3 : Fin 96) : idx_main_v154 (ix4 v0 v1 v2 v3) = ix4 v0 v1 v2 0 := funext fun a => by fin_cases a <;> rfl
theorem ix_v156 (v0 : Fin 3) (v2 : Fin 2048) (v3 : Fin 30) (v4 : Fin 96) : idx_main_v156 (ix5 v0 0 v2 v3 v4) = ix5 v0 4 v2 v3 v4 := funext fun a => by fin_cases a <;> rfl
theorem ix_v157 (v0 : Fin 3) (v1 : Fin 2048) (v2 : Fin 30) (v3 : Fin 96) : idx_main_v157 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem ix_v158 (v0 : Fin 3) (v2 : Fin 2048) (v3 : Fin 30) (v4 : Fin 96) : idx_main_v158 (ix5 v0 0 v2 v3 v4) = ix5 v0 4 v2 v3 v4 := funext fun a => by fin_cases a <;> rfl
theorem ix_v159 (v0 : Fin 3) (v1 : Fin 2048) (v2 : Fin 30) (v3 : Fin 96) : idx_main_v159 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem lix_v161 (v0 : Fin 3) (v1 : Fin 30) (v2 : Fin 96) (v3 : Fin 96) (k : Fin 2048) : lidx_main_v161 (ix4 v0 v1 v2 v3) k = ix4 v0 k v1 v2 := funext fun a => by fin_cases a <;> rfl
theorem rix_v161 (v0 : Fin 3) (v1 : Fin 30) (v2 : Fin 96) (v3 : Fin 96) (k : Fin 2048) : ridx_main_v161 (ix4 v0 v1 v2 v3) k = ix4 v0 k v1 v3 := funext fun a => by fin_cases a <;> rfl
theorem ix_v163 (v0 : Fin 3) (v2 : Fin 2048) (v3 : Fin 30) (v4 : Fin 96) : idx_main_v163 (ix5 v0 0 v2 v3 v4) = ix5 v0 4 v2 v3 v4 := funext fun a => by fin_cases a <;> rfl
theorem ix_v164 (v0 : Fin 3) (v1 : Fin 2048) (v2 : Fin 30) (v3 : Fin 96) : idx_main_v164 (ix4 v0 v1 v2 v3) = ix5 v0 0 v1 v2 v3 := funext fun a => match a with
  | ⟨0, _⟩ => Fin.ext (by show (((v0.val * 2048 + v1.val) * 30 + v2.val) * 96 + v3.val) / 5898240 = v0.val; omega)
  | ⟨1, _⟩ => rfl
  | ⟨2, _⟩ => Fin.ext (by show (((v0.val * 2048 + v1.val) * 30 + v2.val) * 96 + v3.val) / 2880 % 2048 = v1.val; omega)
  | ⟨3, _⟩ => Fin.ext (by show (((v0.val * 2048 + v1.val) * 30 + v2.val) * 96 + v3.val) / 96 % 30 = v2.val; omega)
  | ⟨4, _⟩ => Fin.ext (by show (((v0.val * 2048 + v1.val) * 30 + v2.val) * 96 + v3.val) % 96 = v3.val; omega)
theorem ix_v165 (v0 : Fin 3) (v1 : Fin 30) (v2 : Fin 96) (k : Fin 2048) : idx_main_v165 (ix3 v0 v1 v2) k = ix4 v0 k v1 v2 := funext fun a => by fin_cases a <;> rfl
theorem ix_v167 (v0 : Fin 3) (v1 : Fin 5) (v2 : Fin 1) (v3 : Fin 30) (v4 : Fin 1) : idx_main_v167 (ix5 v0 v1 v2 v3 v4) = ix3 v0 v1 v3 := funext fun a => by fin_cases a <;> rfl
theorem ix_v168 (v0 : Fin 3) (v1 : Fin 5) (v2 : Fin 2048) (v3 : Fin 30) (v4 : Fin 96) : idx_main_v168 (ix5 v0 v1 v2 v3 v4) = ix5 v0 v1 0 v3 0 := funext fun a => by fin_cases a <;> rfl
theorem ix_v170 (v0 : Fin 3) (v1 : Fin 5) (v2 : Fin 2048) (v3 : Fin 30) (v4 : Fin 96) : idx_main_v170 (ix5 v0 v1 v2 v3 v4) = ix0 := funext fun a => a.elim0
theorem ix_v174 (v0 : Fin 3) (v1 : Fin 5) (v2 : Fin 2048) (v3 : Fin 30) (v4 : Fin 96) : idx_main_v174 (ix5 v0 v1 v2 v3 v4) = ix0 := funext fun a => a.elim0
theorem ix_v176 (v0 : Fin 1) (v1 : Fin 3) (v2 : Fin 30) (v3 : Fin 96) (v4 : Fin 96) : idx_main_v176 (ix5 v0 v1 v2 v3 v4) = ix4 v1 v2 v3 v4 := funext fun a => by fin_cases a <;> rfl
theorem ix_v177 (v0 : Fin 1) (v1 : Fin 3) (v2 : Fin 30) (v3 : Fin 96) (v4 : Fin 96) : idx_main_v177 (ix5 v0 v1 v2 v3 v4) = ix4 v1 v2 v3 v4 := funext fun a => by fin_cases a <;> rfl
theorem ix_v178 (v0 : Fin 1) (v1 : Fin 3) (v2 : Fin 30) (v3 : Fin 96) (v4 : Fin 96) : idx_main_v178 (ix5 v0 v1 v2 v3 v4) = ix4 v1 v2 v3 v4 := funext fun a => by fin_cases a <;> rfl
theorem ix_v179 (v0 : Fin 1) (v1 : Fin 3) (v2 : Fin 30) (v3 : Fin 96) (v4 : Fin 96) : idx_main_v179 (ix5 v0 v1 v2 v3 v4) = ix4 v1 v2 v3 v4 := funext fun a => by fin_cases a <;> rfl
theorem ix_v180 (v0 : Fin 1) (v1 : Fin 3) (v2 : Fin 30) (v3 : Fin 96) (v4 : Fin 96) : idx_main_v180 (ix5 v0 v1 v2 v3 v4) = ix4 v1 v2 v3 v4 := funext fun a => by fin_cases a <;> rfl
theorem lix_v182 (v0 : Fin 3) (v1 : Fin 5) (v2 : Fin 30) (v3 : Fin 96) (v4 : Fin 2048) (k : Fin 96) : lidx_main_v182 (ix5 v0 v1 v2 v3 v4) k = ix5 v1 v0 v2 k v3 := funext fun a => by fin_cases a <;> rfl
theorem rix_v182 (v0 : Fin 3) (v1 : Fin 5) (v2 : Fin 30) (v3 : Fin 96) (v4 : Fin 2048) (k : Fin 96) : ridx_main_v182 (ix5 v0 v1 v2 v3 v4) k = ix5 v0 v1 v4 v2 k := funext fun a => by fin_cases a <;> rfl
theorem ix_v183 (v0 : Fin 3) (v1 : Fin 5) (v2 : Fin 2048) (v3 : Fin 30) (v4 : Fin 96) : idx_main_v183 (ix5 v0 v1 v2 v3 v4) = ix5 v0 v1 v3 v4 v2 := funext fun a => by fin_cases a <;> rfl
theorem ix_v184 (v0 : Fin 1) (v1 : Fin 3) (v2 : Fin 30) (v3 : Fin 96) : idx_main_v184 (ix4 v0 v1 v2 v3) = ix3 v1 v2 v3 := funext fun a => by fin_cases a <;> rfl
theorem ix_v185 (v0 : Fin 1) (v1 : Fin 3) (v2 : Fin 30) (v3 : Fin 96) : idx_main_v185 (ix4 v0 v1 v2 v3) = ix3 v1 v2 v3 := funext fun a => by fin_cases a <;> rfl
theorem ix_v186 (v0 : Fin 1) (v1 : Fin 3) (v2 : Fin 30) (v3 : Fin 96) : idx_main_v186 (ix4 v0 v1 v2 v3) = ix3 v1 v2 v3 := funext fun a => by fin_cases a <;> rfl
theorem ix_v187 (v0 : Fin 1) (v1 : Fin 3) (v2 : Fin 30) (v3 : Fin 96) : idx_main_v187 (ix4 v0 v1 v2 v3) = ix3 v1 v2 v3 := funext fun a => by fin_cases a <;> rfl
theorem ix_v188 (v0 : Fin 1) (v1 : Fin 3) (v2 : Fin 30) (v3 : Fin 96) : idx_main_v188 (ix4 v0 v1 v2 v3) = ix3 v1 v2 v3 := funext fun a => by fin_cases a <;> rfl
theorem lix_v190 (v0 : Fin 3) (v1 : Fin 5) (v2 : Fin 30) (v3 : Fin 2048) (k : Fin 96) : lidx_main_v190 (ix4 v0 v1 v2 v3) k = ix4 v1 v0 v2 k := funext fun a => by fin_cases a <;> rfl
theorem rix_v190 (v0 : Fin 3) (v1 : Fin 5) (v2 : Fin 30) (v3 : Fin 2048) (k : Fin 96) : ridx_main_v190 (ix4 v0 v1 v2 v3) k = ix5 v0 v1 v3 v2 k := funext fun a => by fin_cases a <;> rfl
theorem ix_v191 (v0 : Fin 3) (v1 : Fin 5) (v2 : Fin 2048) (v3 : Fin 30) : idx_main_v191 (ix4 v0 v1 v2 v3) = ix4 v0 v1 v3 v2 := funext fun a => by fin_cases a <;> rfl
theorem ix_v192 (v0 : Fin 3) (v1 : Fin 5) (v2 : Fin 2048) (v3 : Fin 30) (v4 : Fin 1) : idx_main_v192 (ix5 v0 v1 v2 v3 v4) = ix4 v0 v1 v2 v3 := funext fun a => by fin_cases a <;> rfl
theorem ix_v193 (v0 : Fin 3) (v1 : Fin 5) (v2 : Fin 2048) (v3 : Fin 30) (v4 : Fin 96) : idx_main_v193 (ix5 v0 v1 v2 v3 v4) = ix5 v0 v1 v2 v3 0 := funext fun a => by fin_cases a <;> rfl
theorem ix_v197 (v0 : Fin 30) : idx_main_v197 (ix1 v0) = ix0 := funext fun a => a.elim0
theorem ix_v199 (v0 : Fin 30) : idx_main_v199 (ix1 v0) = ix0 := funext fun a => a.elim0
theorem ix_v201 (v0 : Fin 30) (v1 : Fin 1) : idx_main_v201 (ix2 v0 v1) = ix1 v0 := funext fun a => by fin_cases a <;> rfl
theorem ix_v202 (v0 : Fin 1) (v1 : Fin 1) (v2 : Fin 1) (v3 : Fin 30) (v4 : Fin 1) : idx_main_v202 (ix5 v0 v1 v2 v3 v4) = ix2 v3 0 := funext fun a => by fin_cases a <;> rfl
theorem ix_v203 (v0 : Fin 3) (v1 : Fin 5) (v2 : Fin 2048) (v3 : Fin 30) (v4 : Fin 96) : idx_main_v203 (ix5 v0 v1 v2 v3 v4) = ix5 0 0 0 v3 0 := funext fun a => by fin_cases a <;> rfl
theorem ix_v205 (v0 : Fin 30) (v1 : Fin 1) : idx_main_v205 (ix2 v0 v1) = ix0 := funext fun a => a.elim0
theorem ix_v207 (v0 : Fin 1) (v1 : Fin 1) (v2 : Fin 1) (v3 : Fin 30) (v4 : Fin 1) : idx_main_v207 (ix5 v0 v1 v2 v3 v4) = ix2 v3 0 := funext fun a => by fin_cases a <;> rfl
theorem ix_v208 (v0 : Fin 3) (v1 : Fin 5) (v2 : Fin 2048) (v3 : Fin 30) (v4 : Fin 96) : idx_main_v208 (ix5 v0 v1 v2 v3 v4) = ix5 0 0 0 v3 0 := funext fun a => by fin_cases a <;> rfl
theorem ix_v211 (v0 : Fin 3) (s : Fin 5) (l : Fin 2048) (v2 : Fin 30) (v3 : Fin 96) : idx_main_v211 (ix4 v0 (pos s l) v2 v3) = ix5 v0 s l v2 v3 := funext fun a => match a with
  | ⟨0, _⟩ => Fin.ext (by show (((v0.val * 10240 + (s.val * 2048 + l.val)) * 30 + v2.val) * 96 + v3.val) / 29491200 = v0.val; omega)
  | ⟨1, _⟩ => Fin.ext (by show (((v0.val * 10240 + (s.val * 2048 + l.val)) * 30 + v2.val) * 96 + v3.val) / 5898240 % 5 = s.val; omega)
  | ⟨2, _⟩ => Fin.ext (by show (((v0.val * 10240 + (s.val * 2048 + l.val)) * 30 + v2.val) * 96 + v3.val) / 2880 % 2048 = l.val; omega)
  | ⟨3, _⟩ => Fin.ext (by show (((v0.val * 10240 + (s.val * 2048 + l.val)) * 30 + v2.val) * 96 + v3.val) / 96 % 30 = v2.val; omega)
  | ⟨4, _⟩ => Fin.ext (by show (((v0.val * 10240 + (s.val * 2048 + l.val)) * 30 + v2.val) * 96 + v3.val) % 96 = v3.val; omega)
theorem ix_v212 (v0 : Fin 3) (v1 : Fin 30) (v2 : Fin 96) (v3 : Fin 10240) : idx_main_v212 (ix4 v0 v1 v2 v3) = ix4 v0 v3 v1 v2 := funext fun a => by fin_cases a <;> rfl

end Cert.ReferenceIdeal.Hand

end
-- ==== Proof.ReferenceIdeal.Value.lean ====
/-
  The reference read as real arithmetic: at every index each of its stages is the value the specification names.
-/
module

public import proofs.«01_k».proof.Proof.ReferenceIdeal.Idx
public import proofs.«01_k».proof.Proof.KernelIdeal.PayO

@[expose] public section

noncomputable section

namespace Cert.ReferenceIdeal.Hand

open Cert.ReferenceIdeal Cert.ReferenceIdeal.Gen Cert.ReferenceIdeal.Read Idealize.ShloMosaic Cert.Spec

variable {D : Data} {x3 : (⟨S3x5x30, .f32⟩ : BufTy).Contents (Elt Ideal)} {x4 x5 : (⟨S3x10240x30, .f32⟩ : BufTy).Contents (Elt Ideal)}
  {x6 : (⟨S3x30x96x96, .f32⟩ : BufTy).Contents (Elt Ideal)} {x7 : (⟨S3x30x96, .f32⟩ : BufTy).Contents (Elt Ideal)}
  {x8 : (⟨S30, .f32⟩ : BufTy).Contents (Elt Ideal)} {r0 r1 r2 : (⟨S3x10240x30x96, .f32⟩ : BufTy).Contents (Elt Ideal)}

/-- The arguments and the decoded codes hold the real data `D`. -/
structure Holds (D : Data) (x3 : (⟨S3x5x30, .f32⟩ : BufTy).Contents (Elt Ideal)) (x4 x5 : (⟨S3x10240x30, .f32⟩ : BufTy).Contents (Elt Ideal))
    (x6 : (⟨S3x30x96x96, .f32⟩ : BufTy).Contents (Elt Ideal)) (x7 : (⟨S3x30x96, .f32⟩ : BufTy).Contents (Elt Ideal))
    (x8 : (⟨S30, .f32⟩ : BufTy).Contents (Elt Ideal)) (r0 r1 r2 : (⟨S3x10240x30x96, .f32⟩ : BufTy).Contents (Elt Ideal)) : Prop where
  hq : ∀ b h c p, r0 (ix4 b p h c) = ((D.q b h c p : ℝ) : EReal)
  hk : ∀ b h c p, r1 (ix4 b p h c) = ((D.k b h c p : ℝ) : EReal)
  hv : ∀ b h c p, r2 (ix4 b p h c) = ((D.v b h c p : ℝ) : EReal)
  hqs : ∀ b s h, x3 (ix3 b s h) = ((D.qs b s h : ℝ) : EReal)
  hks : ∀ b h p, x4 (ix3 b p h) = ((D.ks b h p : ℝ) : EReal)
  hvs : ∀ b h p, x5 (ix3 b p h) = ((D.vs b h p : ℝ) : EReal)
  hm0 : ∀ b h c j, x6 (ix4 b h c j) = ((D.m0 b h c j : ℝ) : EReal)
  hz0 : ∀ b h c, x7 (ix3 b h c) = ((D.z0 b h c : ℝ) : EReal)
  hg : ∀ h, (Ideal.logistic (x8 (ix1 h))).toReal = D.g h
  hpos : ∀ b h c, 0 < D.z0 b h c

/-- Bits of one, of zero. -/
theorem one_bits : FloatOps.ofBits (F := Ideal) .f32 0x3F800000#32 = ((1 : ℝ) : EReal) := by
  show Ideal.ofBits .f32 _ = _
  simp [Ideal.ofBits, Ideal.ieee]
  rw [← EReal.coe_mul, ← EReal.coe_one]
  norm_num

theorem zero_bits : FloatOps.ofBits (F := Ideal) .f32 0x00000000#32 = ((0 : ℝ) : EReal) := by
  show Ideal.ofBits .f32 _ = _
  simp [Ideal.ofBits, Ideal.ieee]

theorem neg_bits : FloatOps.ofBits (F := Ideal) .f32 0xFF800000#32 = (⊥ : EReal) := by
  show Ideal.ofBits .f32 _ = _
  simp [Ideal.ofBits, Ideal.ieee]

/-- The feature map as the reference writes it. -/
theorem σ_ref (x : ℝ) : FloatOps.addf (F := Ideal) (φ := .f32) (Scalar.select (FloatOps.cmpf (F := Ideal) (φ := .f32) .ogt (x : EReal) ((0 : ℝ) : EReal)) (x : EReal)
    (FloatOps.hostUnary (F := Ideal) (φ := .f32) .expm1 (x : EReal))) ((1 : ℝ) : EReal) = ((σ x : ℝ) : EReal) := by
  have h1 : Scalar.select (FloatOps.cmpf (F := Ideal) (φ := .f32) .ogt (x : EReal) ((0 : ℝ) : EReal)) (x : EReal)
    (FloatOps.hostUnary (F := Ideal) (φ := .f32) .expm1 (x : EReal)) = if (0 : EReal) < (x : EReal) then (x : EReal) else Ideal.exp (x : EReal) - 1 := by
    by_cases h : (0 : EReal) < (x : EReal)
    · rw [if_pos h]
      simp [Scalar.select, FloatOps.cmpf, Ideal.cmp, h]
    · rw [if_neg h]
      simp [Scalar.select, FloatOps.cmpf, Ideal.cmp, h]
  rw [h1, sel_pos]
  unfold σ
  show (_ : EReal) + _ = _
  split
  · rw [← EReal.coe_add]
  · have : Ideal.exp (x : EReal) = ((Real.exp x : ℝ) : EReal) := rfl
    rw [this]
    show ((Real.exp x : ℝ) : EReal) - ((1 : ℝ) : EReal) + _ = _
    rw [← EReal.coe_sub, ← EReal.coe_add]
    congr 1
    ring

theorem sk_at (H : Holds D x3 x4 x5 x6 x7 x8 r0 r1 r2) (b s l h c) : val_main_v53 (F := Ideal) x4 r1 (ix5 b s l h c) = (((D.cell b h s).sk c l : ℝ) : EReal) := by
  simp only [val_main_v53_apply, val_main_v51_apply, val_main_v49_apply, val_main_v47_apply, val_main_v5_apply, ix_v5, val_main_v46_apply, ix_v46, val_main_v45_apply, ix_v45, val_main_v7_apply, ix_v7, val_main_v48_apply, ix_v48, val_main_cst_4_apply, val_main_v50_apply, val_main_v52_apply, ix_v52, val_main_cst_5_apply, H.hk, H.hks, Ideal.mulf_def, one_bits, zero_bits, ← EReal.coe_mul]
  exact σ_ref _

theorem sq_at (H : Holds D x3 x4 x5 x6 x7 x8 r0 r1 r2) (b s l h c) : val_main_v175 (F := Ideal) x3 r0 (ix5 b s l h c) = (((D.cell b h s).sq c l : ℝ) : EReal) := by
  simp only [val_main_v175_apply, val_main_v173_apply, val_main_v171_apply, val_main_v169_apply, val_main_v4_apply, ix_v4, val_main_v168_apply, ix_v168, val_main_v167_apply, ix_v167, val_main_v170_apply, ix_v170, val_main_cst_11_apply, val_main_v172_apply, val_main_v174_apply, ix_v174, val_main_cst_12_apply, H.hq, H.hqs, Ideal.mulf_def, one_bits, zero_bits, ← EReal.coe_mul]
  exact σ_ref _

theorem vv_at (H : Holds D x3 x4 x5 x6 x7 x8 r0 r1 r2) (b s l h j) : val_main_v56 (F := Ideal) x5 r2 (ix5 b s l h j) = (((D.cell b h s).vv j l : ℝ) : EReal) := by
  simp only [val_main_v56_apply, val_main_v6_apply, ix_v6, val_main_v55_apply, ix_v55, val_main_v54_apply, ix_v54, val_main_v8_apply, ix_v8, H.hv, H.hvs, Ideal.mulf_def, one_bits, zero_bits, ← EReal.coe_mul]
  rfl

theorem seg_0 : seg 0 = 0 := rfl
theorem seg_1 : seg 1 = 1 := rfl
theorem seg_2 : seg 2 = 2 := rfl
theorem seg_3 : seg 3 = 3 := rfl
theorem seg_4 : seg 4 = 4 := rfl

theorem m_0 (H : Holds D x3 x4 x5 x6 x7 x8 r0 r1 r2) (b h c j) : x6 (ix4 b h c j) = (((D.state b h 0).1 c j : ℝ) : EReal) := H.hm0 b h c j
theorem z_0 (H : Holds D x3 x4 x5 x6 x7 x8 r0 r1 r2) (b h c) : x7 (ix3 b h c) = (((D.state b h 0).2 c : ℝ) : EReal) := H.hz0 b h c

theorem den_0 (H : Holds D x3 x4 x5 x6 x7 x8 r0 r1 r2) (b h l) : val_main_v59 (F := Ideal) x4 x7 r1 (ix3 b h l) = (((D.cell b h 0).denK (D.state b h 0).2 l : ℝ) : EReal) := by
  simp only [val_main_v59_apply, lix_v59, rix_v59, val_main_v58_apply, ix_v58, val_main_v57_apply, ix_v57, sk_at H, vv_at H, (m_0 H), (z_0 H), Ideal.mulf_def, one_bits, zero_bits, ← EReal.coe_mul]
  rw [coe_sum]
  exact congrArg _ (Finset.sum_congr rfl fun c _ => mul_comm _ _)

theorem ret_0 (H : Holds D x3 x4 x5 x6 x7 x8 r0 r1 r2) (b h j l) : val_main_v63 (F := Ideal) x4 x6 r1 (ix4 b h j l) = ((∑ c, (D.cell b h 0).sk c l * (D.state b h 0).1 c j : ℝ) : EReal) := by
  simp only [val_main_v63_apply, lix_v63, rix_v63, val_main_v62_apply, ix_v62, val_main_v61_apply, ix_v61, sk_at H, vv_at H, (m_0 H), (z_0 H), Ideal.mulf_def, one_bits, zero_bits, ← EReal.coe_mul]
  rw [coe_sum]
  exact congrArg _ (Finset.sum_congr rfl fun c _ => mul_comm _ _)

theorem quo_0 (H : Holds D x3 x4 x5 x6 x7 x8 r0 r1 r2) (b l h j) : val_main_v67 (F := Ideal) x4 x6 x7 r1 (ix4 b l h j) = (((∑ c, (D.cell b h 0).sk c l * (D.state b h 0).1 c j) / (D.cell b h 0).denK (D.state b h 0).2 l : ℝ) : EReal) := by
  simp only [val_main_v67_apply, val_main_v64_apply, ix_v64, val_main_v66_apply, ix_v66, val_main_v65_apply, ix_v65, val_main_v60_apply, ix_v60, den_0 H, ret_0 H]
  exact div_coe' _ _ (ne_of_gt (Cell.denK_pos _ (fun c => D.state_pos H.hpos b h 0 c) l))

theorem m_1 (H : Holds D x3 x4 x5 x6 x7 x8 r0 r1 r2) (b h c j) : val_main_v74 (F := Ideal) x4 x5 x6 x7 r1 r2 (ix4 b h c j) = (((D.state b h 1).1 c j : ℝ) : EReal) := by
  simp only [val_main_v74_apply, val_main_v73_apply, lix_v73, rix_v73, val_main_v69_apply, ix_v69, val_main_v68_apply, ix_v68, val_main_v72_apply, val_main_v71_apply, ix_v71, val_main_v70_apply, ix_v70, sk_at H, vv_at H, (m_0 H), quo_0 H, Ideal.addf_def, Ideal.subf_def, ← EReal.coe_sub, ← EReal.coe_mul, coe_sum, ← EReal.coe_add]
  rw [show D.state b h 1 = _ from D.state_succ b h 0, seg_0]
  rfl

theorem z_1 (H : Holds D x3 x4 x5 x6 x7 x8 r0 r1 r2) (b h c) : val_main_v78 (F := Ideal) x4 x7 r1 (ix3 b h c) = (((D.state b h 1).2 c : ℝ) : EReal) := by
  simp only [val_main_v78_apply, val_main_v77_apply, ix_v77, val_main_v76_apply, ix_v76, val_main_v75_apply, ix_v75, val_main_cst_6_apply, sk_at H, (z_0 H), Ideal.addf_def, zero_bits, EReal.coe_zero, zero_add, coe_sum, ← EReal.coe_add]
  rw [show D.state b h 1 = _ from D.state_succ b h 0, seg_0]
  rfl

theorem den_1 (H : Holds D x3 x4 x5 x6 x7 x8 r0 r1 r2) (b h l) : val_main_v81 (F := Ideal) x4 x7 r1 (ix3 b h l) = (((D.cell b h 1).denK (D.state b h 1).2 l : ℝ) : EReal) := by
  simp only [val_main_v81_apply, lix_v81, rix_v81, val_main_v80_apply, ix_v80, val_main_v79_apply, ix_v79, sk_at H, vv_at H, (m_1 H), (z_1 H), Ideal.mulf_def, one_bits, zero_bits, ← EReal.coe_mul]
  rw [coe_sum]
  exact congrArg _ (Finset.sum_congr rfl fun c _ => mul_comm _ _)

theorem ret_1 (H : Holds D x3 x4 x5 x6 x7 x8 r0 r1 r2) (b h j l) : val_main_v85 (F := Ideal) x4 x5 x6 x7 r1 r2 (ix4 b h j l) = ((∑ c, (D.cell b h 1).sk c l * (D.state b h 1).1 c j : ℝ) : EReal) := by
  simp only [val_main_v85_apply, lix_v85, rix_v85, val_main_v84_apply, ix_v84, val_main_v83_apply, ix_v83, sk_at H, vv_at H, (m_1 H), (z_1 H), Ideal.mulf_def, one_bits, zero_bits, ← EReal.coe_mul]
  rw [coe_sum]
  exact congrArg _ (Finset.sum_congr rfl fun c _ => mul_comm _ _)

theorem quo_1 (H : Holds D x3 x4 x5 x6 x7 x8 r0 r1 r2) (b l h j) : val_main_v89 (F := Ideal) x4 x5 x6 x7 r1 r2 (ix4 b l h j) = (((∑ c, (D.cell b h 1).sk c l * (D.state b h 1).1 c j) / (D.cell b h 1).denK (D.state b h 1).2 l : ℝ) : EReal) := by
  simp only [val_main_v89_apply, val_main_v86_apply, ix_v86, val_main_v88_apply, ix_v88, val_main_v87_apply, ix_v87, val_main_v82_apply, ix_v82, den_1 H, ret_1 H]
  exact div_coe' _ _ (ne_of_gt (Cell.denK_pos _ (fun c => D.state_pos H.hpos b h 1 c) l))

theorem m_2 (H : Holds D x3 x4 x5 x6 x7 x8 r0 r1 r2) (b h c j) : val_main_v96 (F := Ideal) x4 x5 x6 x7 r1 r2 (ix4 b h c j) = (((D.state b h 2).1 c j : ℝ) : EReal) := by
  simp only [val_main_v96_apply, val_main_v95_apply, lix_v95, rix_v95, val_main_v91_apply, ix_v91, val_main_v90_apply, ix_v90, val_main_v94_apply, val_main_v93_apply, ix_v93, val_main_v92_apply, ix_v92, sk_at H, vv_at H, (m_1 H), quo_1 H, Ideal.addf_def, Ideal.subf_def, ← EReal.coe_sub, ← EReal.coe_mul, coe_sum, ← EReal.coe_add]
  rw [show D.state b h 2 = _ from D.state_succ b h 1, seg_1]
  rfl

theorem z_2 (H : Holds D x3 x4 x5 x6 x7 x8 r0 r1 r2) (b h c) : val_main_v100 (F := Ideal) x4 x7 r1 (ix3 b h c) = (((D.state b h 2).2 c : ℝ) : EReal) := by
  simp only [val_main_v100_apply, val_main_v99_apply, ix_v99, val_main_v98_apply, ix_v98, val_main_v97_apply, ix_v97, val_main_cst_7_apply, sk_at H, (z_1 H), Ideal.addf_def, zero_bits, EReal.coe_zero, zero_add, coe_sum, ← EReal.coe_add]
  rw [show D.state b h 2 = _ from D.state_succ b h 1, seg_1]
  rfl

theorem den_2 (H : Holds D x3 x4 x5 x6 x7 x8 r0 r1 r2) (b h l) : val_main_v103 (F := Ideal) x4 x7 r1 (ix3 b h l) = (((D.cell b h 2).denK (D.state b h 2).2 l : ℝ) : EReal) := by
  simp only [val_main_v103_apply, lix_v103, rix_v103, val_main_v102_apply, ix_v102, val_main_v101_apply, ix_v101, sk_at H, vv_at H, (m_2 H), (z_2 H), Ideal.mulf_def, one_bits, zero_bits, ← EReal.coe_mul]
  rw [coe_sum]
  exact congrArg _ (Finset.sum_congr rfl fun c _ => mul_comm _ _)

theorem ret_2 (H : Holds D x3 x4 x5 x6 x7 x8 r0 r1 r2) (b h j l) : val_main_v107 (F := Ideal) x4 x5 x6 x7 r1 r2 (ix4 b h j l) = ((∑ c, (D.cell b h 2).sk c l * (D.state b h 2).1 c j : ℝ) : EReal) := by
  simp only [val_main_v107_apply, lix_v107, rix_v107, val_main_v106_apply, ix_v106, val_main_v105_apply, ix_v105, sk_at H, vv_at H, (m_2 H), (z_2 H), Ideal.mulf_def, one_bits, zero_bits, ← EReal.coe_mul]
  rw [coe_sum]
  exact congrArg _ (Finset.sum_congr rfl fun c _ => mul_comm _ _)

theorem quo_2 (H : Holds D x3 x4 x5 x6 x7 x8 r0 r1 r2) (b l h j) : val_main_v111 (F := Ideal) x4 x5 x6 x7 r1 r2 (ix4 b l h j) = (((∑ c, (D.cell b h 2).sk c l * (D.state b h 2).1 c j) / (D.cell b h 2).denK (D.state b h 2).2 l : ℝ) : EReal) := by
  simp only [val_main_v111_apply, val_main_v108_apply, ix_v108, val_main_v110_apply, ix_v110, val_main_v109_apply, ix_v109, val_main_v104_apply, ix_v104, den_2 H, ret_2 H]
  exact div_coe' _ _ (ne_of_gt (Cell.denK_pos _ (fun c => D.state_pos H.hpos b h 2 c) l))

theorem m_3 (H : Holds D x3 x4 x5 x6 x7 x8 r0 r1 r2) (b h c j) : val_main_v118 (F := Ideal) x4 x5 x6 x7 r1 r2 (ix4 b h c j) = (((D.state b h 3).1 c j : ℝ) : EReal) := by
  simp only [val_main_v118_apply, val_main_v117_apply, lix_v117, rix_v117, val_main_v113_apply, ix_v113, val_main_v112_apply, ix_v112, val_main_v116_apply, val_main_v115_apply, ix_v115, val_main_v114_apply, ix_v114, sk_at H, vv_at H, (m_2 H), quo_2 H, Ideal.addf_def, Ideal.subf_def, ← EReal.coe_sub, ← EReal.coe_mul, coe_sum, ← EReal.coe_add]
  rw [show D.state b h 3 = _ from D.state_succ b h 2, seg_2]
  rfl

theorem z_3 (H : Holds D x3 x4 x5 x6 x7 x8 r0 r1 r2) (b h c) : val_main_v122 (F := Ideal) x4 x7 r1 (ix3 b h c) = (((D.state b h 3).2 c : ℝ) : EReal) := by
  simp only [val_main_v122_apply, val_main_v121_apply, ix_v121, val_main_v120_apply, ix_v120, val_main_v119_apply, ix_v119, val_main_cst_8_apply, sk_at H, (z_2 H), Ideal.addf_def, zero_bits, EReal.coe_zero, zero_add, coe_sum, ← EReal.coe_add]
  rw [show D.state b h 3 = _ from D.state_succ b h 2, seg_2]
  rfl

theorem den_3 (H : Holds D x3 x4 x5 x6 x7 x8 r0 r1 r2) (b h l) : val_main_v125 (F := Ideal) x4 x7 r1 (ix3 b h l) = (((D.cell b h 3).denK (D.state b h 3).2 l : ℝ) : EReal) := by
  simp only [val_main_v125_apply, lix_v125, rix_v125, val_main_v124_apply, ix_v124, val_main_v123_apply, ix_v123, sk_at H, vv_at H, (m_3 H), (z_3 H), Ideal.mulf_def, one_bits, zero_bits, ← EReal.coe_mul]
  rw [coe_sum]
  exact congrArg _ (Finset.sum_congr rfl fun c _ => mul_comm _ _)

theorem ret_3 (H : Holds D x3 x4 x5 x6 x7 x8 r0 r1 r2) (b h j l) : val_main_v129 (F := Ideal) x4 x5 x6 x7 r1 r2 (ix4 b h j l) = ((∑ c, (D.cell b h 3).sk c l * (D.state b h 3).1 c j : ℝ) : EReal) := by
  simp only [val_main_v129_apply, lix_v129, rix_v129, val_main_v128_apply, ix_v128, val_main_v127_apply, ix_v127, sk_at H, vv_at H, (m_3 H), (z_3 H), Ideal.mulf_def, one_bits, zero_bits, ← EReal.coe_mul]
  rw [coe_sum]
  exact congrArg _ (Finset.sum_congr rfl fun c _ => mul_comm _ _)

theorem quo_3 (H : Holds D x3 x4 x5 x6 x7 x8 r0 r1 r2) (b l h j) : val_main_v133 (F := Ideal) x4 x5 x6 x7 r1 r2 (ix4 b l h j) = (((∑ c, (D.cell b h 3).sk c l * (D.state b h 3).1 c j) / (D.cell b h 3).denK (D.state b h 3).2 l : ℝ) : EReal) := by
  simp only [val_main_v133_apply, val_main_v130_apply, ix_v130, val_main_v132_apply, ix_v132, val_main_v131_apply, ix_v131, val_main_v126_apply, ix_v126, den_3 H, ret_3 H]
  exact div_coe' _ _ (ne_of_gt (Cell.denK_pos _ (fun c => D.state_pos H.hpos b h 3 c) l))

theorem m_4 (H : Holds D x3 x4 x5 x6 x7 x8 r0 r1 r2) (b h c j) : val_main_v140 (F := Ideal) x4 x5 x6 x7 r1 r2 (ix4 b h c j) = (((D.state b h 4).1 c j : ℝ) : EReal) := by
  simp only [val_main_v140_apply, val_main_v139_apply, lix_v139, rix_v139, val_main_v135_apply, ix_v135, val_main_v134_apply, ix_v134, val_main_v138_apply, val_main_v137_apply, ix_v137, val_main_v136_apply, ix_v136, sk_at H, vv_at H, (m_3 H), quo_3 H, Ideal.addf_def, Ideal.subf_def, ← EReal.coe_sub, ← EReal.coe_mul, coe_sum, ← EReal.coe_add]
  rw [show D.state b h 4 = _ from D.state_succ b h 3, seg_3]
  rfl

theorem z_4 (H : Holds D x3 x4 x5 x6 x7 x8 r0 r1 r2) (b h c) : val_main_v144 (F := Ideal) x4 x7 r1 (ix3 b h c) = (((D.state b h 4).2 c : ℝ) : EReal) := by
  simp only [val_main_v144_apply, val_main_v143_apply, ix_v143, val_main_v142_apply, ix_v142, val_main_v141_apply, ix_v141, val_main_cst_9_apply, sk_at H, (z_3 H), Ideal.addf_def, zero_bits, EReal.coe_zero, zero_add, coe_sum, ← EReal.coe_add]
  rw [show D.state b h 4 = _ from D.state_succ b h 3, seg_3]
  rfl

theorem den_4 (H : Holds D x3 x4 x5 x6 x7 x8 r0 r1 r2) (b h l) : val_main_v147 (F := Ideal) x4 x7 r1 (ix3 b h l) = (((D.cell b h 4).denK (D.state b h 4).2 l : ℝ) : EReal) := by
  simp only [val_main_v147_apply, lix_v147, rix_v147, val_main_v146_apply, ix_v146, val_main_v145_apply, ix_v145, sk_at H, vv_at H, (m_4 H), (z_4 H), Ideal.mulf_def, one_bits, zero_bits, ← EReal.coe_mul]
  rw [coe_sum]
  exact congrArg _ (Finset.sum_congr rfl fun c _ => mul_comm _ _)

theorem ret_4 (H : Holds D x3 x4 x5 x6 x7 x8 r0 r1 r2) (b h j l) : val_main_v151 (F := Ideal) x4 x5 x6 x7 r1 r2 (ix4 b h j l) = ((∑ c, (D.cell b h 4).sk c l * (D.state b h 4).1 c j : ℝ) : EReal) := by
  simp only [val_main_v151_apply, lix_v151, rix_v151, val_main_v150_apply, ix_v150, val_main_v149_apply, ix_v149, sk_at H, vv_at H, (m_4 H), (z_4 H), Ideal.mulf_def, one_bits, zero_bits, ← EReal.coe_mul]
  rw [coe_sum]
  exact congrArg _ (Finset.sum_congr rfl fun c _ => mul_comm _ _)

theorem quo_4 (H : Holds D x3 x4 x5 x6 x7 x8 r0 r1 r2) (b l h j) : val_main_v155 (F := Ideal) x4 x5 x6 x7 r1 r2 (ix4 b l h j) = (((∑ c, (D.cell b h 4).sk c l * (D.state b h 4).1 c j) / (D.cell b h 4).denK (D.state b h 4).2 l : ℝ) : EReal) := by
  simp only [val_main_v155_apply, val_main_v152_apply, ix_v152, val_main_v154_apply, ix_v154, val_main_v153_apply, ix_v153, val_main_v148_apply, ix_v148, den_4 H, ret_4 H]
  exact div_coe' _ _ (ne_of_gt (Cell.denK_pos _ (fun c => D.state_pos H.hpos b h 4 c) l))

theorem m_5 (H : Holds D x3 x4 x5 x6 x7 x8 r0 r1 r2) (b h c j) : val_main_v162 (F := Ideal) x4 x5 x6 x7 r1 r2 (ix4 b h c j) = (((D.state b h 5).1 c j : ℝ) : EReal) := by
  simp only [val_main_v162_apply, val_main_v161_apply, lix_v161, rix_v161, val_main_v157_apply, ix_v157, val_main_v156_apply, ix_v156, val_main_v160_apply, val_main_v159_apply, ix_v159, val_main_v158_apply, ix_v158, sk_at H, vv_at H, (m_4 H), quo_4 H, Ideal.addf_def, Ideal.subf_def, ← EReal.coe_sub, ← EReal.coe_mul, coe_sum, ← EReal.coe_add]
  rw [show D.state b h 5 = _ from D.state_succ b h 4, seg_4]
  rfl

theorem z_5 (H : Holds D x3 x4 x5 x6 x7 x8 r0 r1 r2) (b h c) : val_main_v166 (F := Ideal) x4 x7 r1 (ix3 b h c) = (((D.state b h 5).2 c : ℝ) : EReal) := by
  simp only [val_main_v166_apply, val_main_v165_apply, ix_v165, val_main_v164_apply, ix_v164, val_main_v163_apply, ix_v163, val_main_cst_10_apply, sk_at H, (z_4 H), Ideal.addf_def, zero_bits, EReal.coe_zero, zero_add, coe_sum, ← EReal.coe_add]
  rw [show D.state b h 5 = _ from D.state_succ b h 4, seg_4]
  rfl

theorem mstack (H : Holds D x3 x4 x5 x6 x7 x8 r0 r1 r2) (s : Fin 5) (b h c j) : val_main_v181 (F := Ideal) x4 x5 x6 x7 r1 r2 (ix5 s b h c j) = (((D.state b h s.val).1 c j : ℝ) : EReal) := by
  have e0 : val_main_v176 (F := Ideal) x6 (ix5 0 b h c j) = (((D.state b h 0).1 c j : ℝ) : EReal) := by
    simp only [val_main_v176_apply, ix_v176, m_0 H]
  have e1 : val_main_v177 (F := Ideal) x4 x5 x6 x7 r1 r2 (ix5 0 b h c j) = (((D.state b h 1).1 c j : ℝ) : EReal) := by
    simp only [val_main_v177_apply, ix_v177, m_1 H]
  have e2 : val_main_v178 (F := Ideal) x4 x5 x6 x7 r1 r2 (ix5 0 b h c j) = (((D.state b h 2).1 c j : ℝ) : EReal) := by
    simp only [val_main_v178_apply, ix_v178, m_2 H]
  have e3 : val_main_v179 (F := Ideal) x4 x5 x6 x7 r1 r2 (ix5 0 b h c j) = (((D.state b h 3).1 c j : ℝ) : EReal) := by
    simp only [val_main_v179_apply, ix_v179, m_3 H]
  have e4 : val_main_v180 (F := Ideal) x4 x5 x6 x7 r1 r2 (ix5 0 b h c j) = (((D.state b h 4).1 c j : ℝ) : EReal) := by
    simp only [val_main_v180_apply, ix_v180, m_4 H]
  unfold val_main_v181
  generalize val_main_v176 (F := Ideal) x6 = y0 at e0 ⊢
  generalize val_main_v177 (F := Ideal) x4 x5 x6 x7 r1 r2 = y1 at e1 ⊢
  generalize val_main_v178 (F := Ideal) x4 x5 x6 x7 r1 r2 = y2 at e2 ⊢
  generalize val_main_v179 (F := Ideal) x4 x5 x6 x7 r1 r2 = y3 at e3 ⊢
  generalize val_main_v180 (F := Ideal) x4 x5 x6 x7 r1 r2 = y4 at e4 ⊢
  fin_cases s
  · refine Eq.trans ?_ e0
    pointwise
  · refine Eq.trans ?_ e1
    pointwise
  · refine Eq.trans ?_ e2
    pointwise
  · refine Eq.trans ?_ e3
    pointwise
  · refine Eq.trans ?_ e4
    pointwise

theorem zstack (H : Holds D x3 x4 x5 x6 x7 x8 r0 r1 r2) (s : Fin 5) (b h c) : val_main_v189 (F := Ideal) x4 x7 r1 (ix4 s b h c) = (((D.state b h s.val).2 c : ℝ) : EReal) := by
  have e0 : val_main_v184 (F := Ideal) x7 (ix4 0 b h c) = (((D.state b h 0).2 c : ℝ) : EReal) := by
    simp only [val_main_v184_apply, ix_v184, z_0 H]
  have e1 : val_main_v185 (F := Ideal) x4 x7 r1 (ix4 0 b h c) = (((D.state b h 1).2 c : ℝ) : EReal) := by
    simp only [val_main_v185_apply, ix_v185, z_1 H]
  have e2 : val_main_v186 (F := Ideal) x4 x7 r1 (ix4 0 b h c) = (((D.state b h 2).2 c : ℝ) : EReal) := by
    simp only [val_main_v186_apply, ix_v186, z_2 H]
  have e3 : val_main_v187 (F := Ideal) x4 x7 r1 (ix4 0 b h c) = (((D.state b h 3).2 c : ℝ) : EReal) := by
    simp only [val_main_v187_apply, ix_v187, z_3 H]
  have e4 : val_main_v188 (F := Ideal) x4 x7 r1 (ix4 0 b h c) = (((D.state b h 4).2 c : ℝ) : EReal) := by
    simp only [val_main_v188_apply, ix_v188, z_4 H]
  unfold val_main_v189
  generalize val_main_v184 (F := Ideal) x7 = y0 at e0 ⊢
  generalize val_main_v185 (F := Ideal) x4 x7 r1 = y1 at e1 ⊢
  generalize val_main_v186 (F := Ideal) x4 x7 r1 = y2 at e2 ⊢
  generalize val_main_v187 (F := Ideal) x4 x7 r1 = y3 at e3 ⊢
  generalize val_main_v188 (F := Ideal) x4 x7 r1 = y4 at e4 ⊢
  fin_cases s
  · refine Eq.trans ?_ e0
    pointwise
  · refine Eq.trans ?_ e1
    pointwise
  · refine Eq.trans ?_ e2
    pointwise
  · refine Eq.trans ?_ e3
    pointwise
  · refine Eq.trans ?_ e4
    pointwise

theorem num_at (H : Holds D x3 x4 x5 x6 x7 x8 r0 r1 r2) (b s h j l) : val_main_v182 (F := Ideal) x3 x4 x5 x6 x7 r0 r1 r2 (ix5 b s h j l) = ((∑ c, (D.cell b h s).sq c l * (D.state b h s.val).1 c j : ℝ) : EReal) := by
  simp only [val_main_v182_apply, lix_v182, rix_v182, sq_at H, mstack H, ← EReal.coe_mul, coe_sum]
  exact congrArg _ (Finset.sum_congr rfl fun c _ => mul_comm _ _)

theorem denq_at (H : Holds D x3 x4 x5 x6 x7 x8 r0 r1 r2) (b s h l) : val_main_v190 (F := Ideal) x3 x4 x7 r0 r1 (ix4 b s h l) = ((∑ c, (D.cell b h s).sq c l * (D.state b h s.val).2 c : ℝ) : EReal) := by
  simp only [val_main_v190_apply, lix_v190, rix_v190, sq_at H, zstack H, ← EReal.coe_mul, coe_sum]
  exact congrArg _ (Finset.sum_congr rfl fun c _ => mul_comm _ _)

theorem mem_at (H : Holds D x3 x4 x5 x6 x7 x8 r0 r1 r2) (b s l h j) : val_main_v194 (F := Ideal) x3 x4 x5 x6 x7 r0 r1 r2 (ix5 b s l h j) = (((D.cell b h s).mem (D.state b h s.val).1 (D.state b h s.val).2 j l : ℝ) : EReal) := by
  simp only [val_main_v194_apply, val_main_v183_apply, ix_v183, val_main_v193_apply, ix_v193, val_main_v192_apply, ix_v192, val_main_v191_apply, ix_v191, num_at H, denq_at H]
  exact div_coe' _ _ (ne_of_gt (Cell.denQ_pos _ (fun c => D.state_pos H.hpos b h s.val c) l))

theorem logit_at (H : Holds D x3 x4 x5 x6 x7 x8 r0 r1 r2) (b s h q k) : val_main_v25 (F := Ideal) x3 x4 r0 r1 (ix5 b s h q k) = if k ≤ q then (((D.cell b h s).sc k q : ℝ) : EReal) else ⊥ := by
  simp only [val_main_v25_apply, val_main_call0_v1_apply, ix_call0_v1, val_main_v22_apply, val_main_v20_apply, ix_v20, val_main_v18_apply, ix_v18, val_main_v9_apply, val_main_v21_apply, ix_v21, val_main_v19_apply, ix_v19, val_main_v24_apply, val_main_v10_apply, lix_v10, rix_v10, val_main_v4_apply, ix_v4, val_main_v5_apply, ix_v5, val_main_v23_apply, ix_v23, val_main_v17_apply, val_main_v16_apply, ix_v16, val_main_v13_apply, ix_v13, val_main_v12_apply, val_main_v11_apply, ix_v11, val_main_cst_apply, val_main_v15_apply, ix_v15, val_main_v14_apply, ix_v14, val_main_v7_apply, ix_v7, val_main_call0_v2_apply, ix_call0_v2, val_main_call0_v0_apply, val_main_cst_0_apply, H.hq, H.hk, H.hqs, H.hks, Ideal.mulf_def, neg_bits, Ideal.ofBits_def, ofBits_rsqrt96, ← EReal.coe_mul, coe_sum]
  refine (Cert.KernelIdeal.Hand.sle256 k.val q.val k.isLt q.isLt _ _).trans ?_
  by_cases h : k ≤ q
  · rw [if_pos h, if_pos (show k.val ≤ q.val from h)]
    refine congrArg _ ?_
    exact congrArg (· * _) (Finset.sum_congr rfl fun c _ => mul_comm _ _)
  · rw [if_neg h, if_neg (show ¬ k.val ≤ q.val from h)]
    exact neg_bits

theorem red_v26 : S3x5x30x2048x2048.Reduces [4] S3x5x30x2048 := by decide

set_option maxHeartbeats 2000000 in
theorem max_at (H : Holds D x3 x4 x5 x6 x7 x8 r0 r1 r2) (b s h q) : ∃ m : ℝ, val_main_v26 (F := Ideal) x3 x4 r0 r1 (ix4 b s h q) = ((m : ℝ) : EReal) := by
  obtain ⟨m, hm⟩ := Cert.KernelIdeal.Hand.fold_max_real (fun k : Fin 2048 => val_main_v25 (F := Ideal) x3 x4 r0 r1 (ix5 b s h q k))
    (fun k => by rw [logit_at H]; split; exacts [EReal.coe_ne_top _, bot_ne_top])
    ⟨q, by rw [logit_at H, if_pos le_rfl]; exact EReal.coe_ne_bot _⟩
  refine ⟨m, Eq.trans ?_ hm⟩
  unfold val_main_v26
  generalize val_main_v25 (F := Ideal) x3 x4 r0 r1 = y at hm ⊢
  rw [Host.reduce_eq_fold_single _ _ _ _ red_v26]
  have e : (y ∘ red_v26.lift (ix4 b s h q)) = fun k => y (ix5 b s h q k) := funext fun k => congrArg y (by funext a; fin_cases a <;> rfl)
  rw [e]
  refine congrArg (fun z : EReal => Finset.fold max z (fun k : Fin 2048 => y (ix5 b s h q k)) Finset.univ) neg_bits

end Cert.ReferenceIdeal.Hand
-- ==== Proof.ReferenceIdeal.Output.lean ====
/-
  The reference's softmax and output: at every index the value the specification names.
-/
module

public import proofs.«01_k».proof.Proof.ReferenceIdeal.Value

@[expose] public section

noncomputable section

namespace Cert.ReferenceIdeal.Hand

open Cert.ReferenceIdeal Cert.ReferenceIdeal.Gen Cert.ReferenceIdeal.Read Idealize.ShloMosaic Cert.Spec

variable {D : Data} {x3 : (⟨S3x5x30, .f32⟩ : BufTy).Contents (Elt Ideal)} {x4 x5 : (⟨S3x10240x30, .f32⟩ : BufTy).Contents (Elt Ideal)}
  {x6 : (⟨S3x30x96x96, .f32⟩ : BufTy).Contents (Elt Ideal)} {x7 : (⟨S3x30x96, .f32⟩ : BufTy).Contents (Elt Ideal)}
  {x8 : (⟨S30, .f32⟩ : BufTy).Contents (Elt Ideal)} {r0 r1 r2 : (⟨S3x10240x30x96, .f32⟩ : BufTy).Contents (Elt Ideal)}

theorem exp_coe (x y : ℝ) : FloatOps.hostUnary (F := Ideal) (φ := .f32) .exp (FloatOps.subf (F := Ideal) (φ := .f32) (x : EReal) (y : EReal))
    = ((Real.exp x * Real.exp (-y) : ℝ) : EReal) := by
  rw [← Real.exp_add, ← sub_eq_add_neg]
  show Ideal.exp ((x : EReal) - (y : EReal)) = _
  rw [← EReal.coe_sub]
  rfl

/-- The exponential of a masked score. -/
theorem exp_bot (y : ℝ) : FloatOps.hostUnary (F := Ideal) (φ := .f32) .exp (FloatOps.subf (F := Ideal) (φ := .f32) (⊥ : EReal) (y : EReal)) = 0 := by
  show Ideal.exp ((⊥ : EReal) - (y : EReal)) = _
  rw [EReal.bot_sub]
  rfl

/-- A maximum with the value of the pattern of minus infinity. -/
theorem max_neg (y : EReal) : FloatOps.maximumf (F := Ideal) (φ := .f32) (FloatOps.ofBits (F := Ideal) .f32 0xFF800000#32) y = y := by
  show max (FloatOps.ofBits (F := Ideal) .f32 0xFF800000#32 : EReal) y = y
  rw [neg_bits]
  exact max_eq_right bot_le

theorem exp_at (H : Holds D x3 x4 x5 x6 x7 x8 r0 r1 r2) (b s h q) : ∃ e : ℝ, 0 < e ∧ ∀ k, val_main_v32 (F := Ideal) x3 x4 r0 r1 (ix5 b s h q k) = (((D.cell b h s).wt k q * e : ℝ) : EReal) := by
  obtain ⟨m, hm⟩ := max_at H b s h q
  refine ⟨Real.exp (-m), Real.exp_pos _, fun k => ?_⟩
  have h1 : val_main_v30 (F := Ideal) x3 x4 r0 r1 (ix5 b s h q k) = (m : EReal) := by
    rw [val_main_v30_apply, ix_v30, val_main_v29_apply, ix_v29, val_main_v28_apply, val_main_v27_apply, val_main_cst_2_apply, hm]
    exact max_neg _
  rw [val_main_v32_apply, val_main_v31_apply, h1, logit_at H]
  unfold Cell.wt
  by_cases h' : k ≤ q
  · rw [if_pos h', if_pos h']; exact exp_coe _ _
  · rw [if_neg h', if_neg h', zero_mul, EReal.coe_zero]; exact exp_bot _

theorem att_at (H : Holds D x3 x4 x5 x6 x7 x8 r0 r1 r2) (b s l h j) : val_main_v44 (F := Ideal) x3 x4 x5 r0 r1 r2 (ix5 b s l h j) = (((D.cell b h s).att j l : ℝ) : EReal) := by
  obtain ⟨e, he, hx⟩ := exp_at H b s h l
  simp only [val_main_v44_apply, ix_v44, val_main_v43_apply, lix_v43, rix_v43, val_main_v42_apply, val_main_v6_apply, ix_v6, val_main_v41_apply, val_main_v40_apply, val_main_v36_apply, val_main_v35_apply, ix_v35, val_main_v34_apply, ix_v34, val_main_v33_apply, ix_v33, val_main_cst_3_apply, val_main_v39_apply, ix_v39, val_main_v38_apply, ix_v38, val_main_v37_apply, ix_v37, val_main_v8_apply, ix_v8, hx, H.hv, H.hvs, zero_bits, EReal.coe_zero, zero_add, coe_sum, Ideal.mulf_def, Ideal.hostDivf_def, Ideal.truncf_def]
  have hs : (∑ k, (D.cell b h s).wt k l * e) ≠ 0 := by
    rw [← Finset.sum_mul]
    exact ne_of_gt (mul_pos (Cell.wtSum_pos _ l) he)
  simp only [div_coe' _ _ hs, ← EReal.coe_mul, coe_sum]
  refine congrArg _ ?_
  unfold Cell.att
  rw [← Finset.sum_mul, Finset.sum_div]
  refine Finset.sum_congr rfl fun k _ => ?_
  have h1 := (Cell.wtSum_pos (D.cell b h s) l).ne'
  have h2 := he.ne'
  show D.v b h j (pos s k) * ((D.cell b h s).wt k l * e / _ * D.vs b h (pos s k)) = (D.cell b h s).wt k l * (D.v b h j (pos s k) * D.vs b h (pos s k)) / _
  field_simp

theorem gate_at (H : Holds D x3 x4 x5 x6 x7 x8 r0 r1 r2) (h) : val_main_v200 (F := Ideal) x8 (ix1 h) = ((D.g h : ℝ) : EReal) := by
  simp only [val_main_v200_apply, val_main_v199_apply, ix_v199, val_main_cst_14_apply, val_main_v198_apply, val_main_v197_apply, ix_v197, val_main_cst_13_apply, val_main_v196_apply, val_main_v195_apply, one_bits]
  rw [← H.hg h, ← logistic_real]
  rfl

theorem out_at (H : Holds D x3 x4 x5 x6 x7 x8 r0 r1 r2) (b h j s l) : val_main_v213 (F := Ideal) x3 x4 x5 x6 x7 x8 r0 r1 r2 (ix4 b h j (pos s l)) = ((D.out b h s j l : ℝ) : EReal) := by
  simp only [val_main_v213_apply, val_main_v212_apply, ix_v212, val_main_v211_apply, ix_v211, val_main_v210_apply, val_main_v204_apply, val_main_v203_apply, ix_v203, val_main_v202_apply, ix_v202, val_main_v201_apply, ix_v201, val_main_v209_apply, val_main_v208_apply, ix_v208, val_main_v207_apply, ix_v207, val_main_v206_apply, val_main_v205_apply, ix_v205, val_main_cst_15_apply, gate_at H, mem_at H, att_at H, one_bits, Ideal.addf_def, Ideal.subf_def, Ideal.mulf_def, Ideal.truncf_def, ← EReal.coe_sub, ← EReal.coe_mul, ← EReal.coe_add]
  rfl

end Cert.ReferenceIdeal.Hand

end
-- ==== Proof.ReferenceIdeal.Decode.lean ====
/-
  What the reference's decoding call leaves: each byte's value in the eight-bit format.
-/
module

public import proofs.«01_k».proof.Proof.Gen.ReferenceIdeal.Frame
public import proofs.«01_k».proof.Proof.Gen.ReferenceIdeal.Run
public import Idealize.ShloMosaic.Lib.Pipeline.ValueKit
public import Idealize.ShloMosaic.Lib.Pipeline.ValueKit.Point
public import Idealize.ShloMosaic.Lib.Claim
public import Idealize.ShloMosaic.Lib.Pointwise

@[expose] public section

noncomputable section

namespace Cert.ReferenceIdeal.Hand

open Cert.ReferenceIdeal Cert.ReferenceIdeal.Gen Cert.ReferenceIdeal.Value Idealize.ShloMosaic Idealize.ShloMosaic.TcCoe
open Idealize.ShloMosaic.Pipeline (Dat)

variable (m : (ℓ : Loc nD τ sig) → Buf (Elt Ideal) ℓ) (c : Dev nD)

theorem V_v0 : V m c main_v0 = fun i => Ideal.ofBits .fp8e4m3 (m ((c : Thread nD τ).loc main_arg0) i) := by
  entry_read
  rfl

theorem idx3 : ∀ t : Fin cfg0.N, win0_3.index t = ![0, 0, 0, 0] := (by decide +kernel : ∀ t : Fin grid0.N, _)
theorem idx0 : ∀ t : Fin cfg0.N, win0_0.index t = ![0, 0, 0, 0] := (by decide +kernel : ∀ t : Fin grid0.N, _)

/-- Argument 0 decoded. -/
theorem reg0 (i : S3x10240x30x96.Idx) : reg_main_v3_0 m c i = Ideal.ofBits .fp8e4m3 (m ((c : Thread nD τ).loc main_arg0) i) := by
  refine congrFun (Dat.arrAt_eq_of_covers (cfg := cfg0) (dats m 0 c) 3 (fun i => Ideal.ofBits .fp8e4m3 (m ((c : Thread nD τ).loc main_arg0) i)) (by decide +kernel) fun t hf y => ?_) i
  blk_simp
  rw [after0_3]
  frame_out
  refine Eq.trans ?_ (congrFun (V_v0 m c) _)
  have hp : ∀ x : FVec Ideal S3x10240x30x96 .fp8e4m3, (k0_pay1 x : FVec Ideal S3x10240x30x96 .f32) = x := fun x => by
    unfold k0_pay1
    exact shapeCast_self _ _
  rw [hp]
  blk_simp [iblk]
  refine congrArg _ ?_
  blk_ext [idx0 t, idx3 t]

theorem V_v1 : V m c main_v1 = fun i => Ideal.ofBits .fp8e4m3 (m ((c : Thread nD τ).loc main_arg1) i) := by
  entry_read
  rfl

theorem idx4 : ∀ t : Fin cfg0.N, win0_4.index t = ![0, 0, 0, 0] := (by decide +kernel : ∀ t : Fin grid0.N, _)
theorem idx1 : ∀ t : Fin cfg0.N, win0_1.index t = ![0, 0, 0, 0] := (by decide +kernel : ∀ t : Fin grid0.N, _)

/-- Argument 1 decoded. -/
theorem reg1 (i : S3x10240x30x96.Idx) : reg_main_v3_1 m c i = Ideal.ofBits .fp8e4m3 (m ((c : Thread nD τ).loc main_arg1) i) := by
  refine congrFun (Dat.arrAt_eq_of_covers (cfg := cfg0) (dats m 0 c) 4 (fun i => Ideal.ofBits .fp8e4m3 (m ((c : Thread nD τ).loc main_arg1) i)) (by decide +kernel) fun t hf y => ?_) i
  blk_simp
  rw [after0_4]
  frame_out
  refine Eq.trans ?_ (congrFun (V_v1 m c) _)
  have hp : ∀ x : FVec Ideal S3x10240x30x96 .fp8e4m3, (k0_pay2 x : FVec Ideal S3x10240x30x96 .f32) = x := fun x => by
    unfold k0_pay2
    exact shapeCast_self _ _
  rw [hp]
  blk_simp [iblk]
  refine congrArg _ ?_
  blk_ext [idx1 t, idx4 t]

theorem V_v2 : V m c main_v2 = fun i => Ideal.ofBits .fp8e4m3 (m ((c : Thread nD τ).loc main_arg2) i) := by
  entry_read
  rfl

theorem idx5 : ∀ t : Fin cfg0.N, win0_5.index t = ![0, 0, 0, 0] := (by decide +kernel : ∀ t : Fin grid0.N, _)
theorem idx2 : ∀ t : Fin cfg0.N, win0_2.index t = ![0, 0, 0, 0] := (by decide +kernel : ∀ t : Fin grid0.N, _)

/-- Argument 2 decoded. -/
theorem reg2 (i : S3x10240x30x96.Idx) : reg_main_v3_2 m c i = Ideal.ofBits .fp8e4m3 (m ((c : Thread nD τ).loc main_arg2) i) := by
  refine congrFun (Dat.arrAt_eq_of_covers (cfg := cfg0) (dats m 0 c) 5 (fun i => Ideal.ofBits .fp8e4m3 (m ((c : Thread nD τ).loc main_arg2) i)) (by decide +kernel) fun t hf y => ?_) i
  blk_simp
  rw [after0_5]
  frame_out
  refine Eq.trans ?_ (congrFun (V_v2 m c) _)
  have hp : ∀ x : FVec Ideal S3x10240x30x96 .fp8e4m3, (k0_pay3 x : FVec Ideal S3x10240x30x96 .f32) = x := fun x => by
    unfold k0_pay3
    exact shapeCast_self _ _
  rw [hp]
  blk_simp [iblk]
  refine congrArg _ ?_
  blk_ext [idx2 t, idx5 t]

end Cert.ReferenceIdeal.Hand
-- ==== Proof.ReferenceIdeal.Final.lean ====
/-
  The reference's run over data: its three results at the specification's values.
-/
module

public import proofs.«01_k».proof.Proof.ReferenceIdeal.Output
public import proofs.«01_k».proof.Proof.ReferenceIdeal.Decode
public import proofs.«01_k».proof.Proof.Args

@[expose] public section

noncomputable section

namespace Cert.ReferenceIdeal.Hand

open Cert.ReferenceIdeal Cert.ReferenceIdeal.Gen Cert.ReferenceIdeal.Read Cert.ReferenceIdeal.Value Idealize.ShloMosaic Idealize.ShloMosaic.TcCoe Cert.Spec

variable (m : (ℓ : Loc nD τ sig) → Buf (Elt Ideal) ℓ) (c : Dev nD) (Dt : Data)

/-- Arguments that hold data give stages that hold it. -/
theorem holds_of (F : Fits Dt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    Holds Dt (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      (reg_main_v3_0 m c) (reg_main_v3_1 m c) (reg_main_v3_2 m c) where
  hq := fun b h c' p => (reg0 m c _).trans (F.hq b p h c')
  hk := fun b h c' p => (reg1 m c _).trans (F.hk b p h c')
  hv := fun b h c' p => (reg2 m c _).trans (F.hv b p h c')
  hqs := F.hqs
  hks := fun b h p => F.hks b p h
  hvs := fun b h p => F.hvs b p h
  hm0 := F.hm0
  hz0 := F.hz0
  hg := F.hg
  hpos := F.hpos

variable {m c Dt}

/-- The output. -/
theorem fin0 (F : Fits Dt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    val_main_v213 (F := Ideal) (exitV m c (Proc.devRef .tc main_arg3)) (exitV m c (Proc.devRef .tc main_arg4)) (exitV m c (Proc.devRef .tc main_arg5)) (exitV m c (Proc.devRef .tc main_arg6)) (exitV m c (Proc.devRef .tc main_arg7)) (exitV m c (Proc.devRef .tc main_arg8)) (exitV m c (Proc.devRef .tc main_v3_0)) (exitV m c (Proc.devRef .tc main_v3_1)) (exitV m c (Proc.devRef .tc main_v3_2)) = outV Dt := by
  rw [exit_main_arg3 m c, exit_main_arg4 m c, exit_main_arg5 m c, exit_main_arg6 m c, exit_main_arg7 m c, exit_main_arg8 m c, exit_main_v3_0 m c, exit_main_v3_1 m c, exit_main_v3_2 m c]
  have H := holds_of m c Dt F
  refine funext fun (i : S3x30x96x10240.Idx) => ?_
  have hi : i = ix4 (i 0) (i 1) (i 2) (pos (segOf (i 3)) (locOf (i 3))) := by
    funext a
    fin_cases a
    · rfl
    · rfl
    · rfl
    · exact (pos_of (i 3)).symm
  exact (congrArg _ hi).trans (out_at H (i 0) (i 1) (i 2) (segOf (i 3)) (locOf (i 3)))

/-- The final memory. -/
theorem fin1 (F : Fits Dt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    val_main_v162 (F := Ideal) (exitV m c (Proc.devRef .tc main_arg4)) (exitV m c (Proc.devRef .tc main_arg5)) (exitV m c (Proc.devRef .tc main_arg6)) (exitV m c (Proc.devRef .tc main_arg7)) (exitV m c (Proc.devRef .tc main_v3_1)) (exitV m c (Proc.devRef .tc main_v3_2)) = memV Dt := by
  rw [exit_main_arg4 m c, exit_main_arg5 m c, exit_main_arg6 m c, exit_main_arg7 m c, exit_main_v3_1 m c, exit_main_v3_2 m c]
  have H := holds_of m c Dt F
  refine funext fun (i : S3x30x96x96.Idx) => ?_
  have hi : i = ix4 (i 0) (i 1) (i 2) (i 3) := by
    funext a
    fin_cases a <;> rfl
  exact (congrArg _ hi).trans (m_5 H (i 0) (i 1) (i 2) (i 3))

/-- The final normaliser. -/
theorem fin2 (F : Fits Dt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    val_main_v166 (F := Ideal) (exitV m c (Proc.devRef .tc main_arg4)) (exitV m c (Proc.devRef .tc main_arg7)) (exitV m c (Proc.devRef .tc main_v3_1)) = norV Dt := by
  rw [exit_main_arg4 m c, exit_main_arg7 m c, exit_main_v3_1 m c]
  have H := holds_of m c Dt F
  refine funext fun (i : S3x30x96.Idx) => ?_
  have hi : i = ix3 (i 0) (i 1) (i 2) := by
    funext a
    fin_cases a <;> rfl
  exact (congrArg _ hi).trans (z_5 H (i 0) (i 1) (i 2))

variable (m Dt)

/-- The reference's run over data. -/
theorem run_value (ρ : Dev nD → PrngReg) (F : ∀ c : Dev nD, Fits Dt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :
    θ_run defs (onTc (τ := τ) (main (F := Ideal))) ⟨m, fun _ => 0, ρ⟩ (fun r => ∀ c : Dev nD,
      r.2.mem ((c.tc : Thread nD τ).loc main_v213) = outV Dt ∧ r.2.mem ((c.tc : Thread nD τ).loc main_v162) = memV Dt ∧ r.2.mem ((c.tc : Thread nD τ).loc main_v166) = norV Dt
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans ((val_main_v213_eq (exitV m c)).trans (fin0 (F c))), (h c).2.1.trans ((val_main_v162_eq (exitV m c)).trans (fin1 (F c))),
    (h c).2.2.1.trans ((val_main_v166_eq (exitV m c)).trans (fin2 (F c))), (h c).2.2.2⟩) (run m ρ)

end Cert.ReferenceIdeal.Hand

end
-- ==== Proof.Pre.lean ====
/-
  The precondition read as real data: under it every argument element that matters is a real number.
-/
module

public import proofs.«01_k».proof.Proof.Args
public import proofs.«01_k».proof.Proof.Gen.Pre_finite_positive

@[expose] public section

noncomputable section

namespace Cert.Spec

open Idealize.ShloMosaic

/-- An eight-bit pattern that is not a NaN denotes a real number. -/
theorem byte_real (b : BitVec 8) (h : (b.setWidth 32) &&& 127#32 ≠ 127#32) : Ideal.ofBits .fp8e4m3 b = (((Ideal.ofBits .fp8e4m3 b).toReal : ℝ) : EReal) := by
  have hb : ¬ ((b.extractLsb' 3 4).toNat = 15 ∧ (b.extractLsb' 0 3).toNat = 7) := by
    revert b; decide
  have : ∃ r : ℝ, Ideal.e4m3fn b = ((r : ℝ) : EReal) := by
    unfold Ideal.e4m3fn
    dsimp only
    rw [if_neg hb]
    split_ifs <;> exact ⟨_, rfl⟩
  obtain ⟨r, hr⟩ := this
  show Ideal.e4m3fn b = (((Ideal.e4m3fn b).toReal : ℝ) : EReal)
  rw [hr, EReal.toReal_coe]

/-- The comparison the precondition makes of a byte. -/
theorem byte_of (b : BitVec 8) (h : Scalar.cmpi .ne (Scalar.andi (b.setWidth 32) 127#32) 127#32 = 1#1) :
    Ideal.ofBits .fp8e4m3 b = (((Ideal.ofBits .fp8e4m3 b).toReal : ℝ) : EReal) := by
  refine byte_real b fun e => ?_
  have e' : Scalar.andi (b.setWidth 32) 127#32 = 127#32 := e
  rw [e'] at h
  exact absurd h (by decide)

theorem inf_bits : Ideal.ofBits .f32 0x7F800000#32 = (⊤ : EReal) := by simp [Ideal.ofBits, Ideal.ieee]
theorem zero_bits' : Ideal.ofBits .f32 0x00000000#32 = (0 : EReal) := by simp [Ideal.ofBits, Ideal.ieee]

/-- A value below infinity in absolute value is real. -/
theorem real_of (x : EReal) (h : FloatOps.cmpf (F := Ideal) (φ := .f32) .olt (FloatOps.hostAbsf (F := Ideal) (φ := .f32) x) (FloatOps.ofBits (F := Ideal) .f32 0x7F800000#32) = 1#1) :
    x = ((x.toReal : ℝ) : EReal) := by
  have h2 : Ideal.cmp .olt (max x (-x)) (Ideal.ofBits .f32 0x7F800000#32) = 1#1 := h
  rw [inf_bits] at h2
  have h3 : max x (-x) < ⊤ := by
    by_contra hc
    have : Ideal.cmp .olt (max x (-x)) ⊤ = 0#1 := by
      show BitVec.ofBool (decide (max x (-x) < ⊤)) = _
      rw [decide_eq_false hc]; rfl
    rw [this] at h2
    exact absurd h2 (by decide)
  have h4 := max_lt_iff.1 h3
  refine (EReal.coe_toReal h4.1.ne fun hb => ?_).symm
  rw [hb] at h4
  exact absurd h4.2 (by simp)

/-- A value the precondition finds positive. -/
theorem pos_of_cmp (x : EReal) (h : FloatOps.cmpf (F := Ideal) (φ := .f32) .ogt x (FloatOps.ofBits (F := Ideal) .f32 0x00000000#32) = 1#1) : 0 < x := by
  have h2 : Ideal.cmp .ogt x (Ideal.ofBits .f32 0x00000000#32) = 1#1 := h
  rw [zero_bits'] at h2
  by_contra hc
  have : Ideal.cmp .ogt x 0 = 0#1 := by
    show BitVec.ofBool (decide ((0 : EReal) < x)) = _
    rw [decide_eq_false hc]; rfl
  rw [this] at h2
  exact absurd h2 (by decide)

/-- The real data that nine arguments hold. -/
def dataOf (a0 a1 a2 : (⟨4, ![3, 10240, 30, 96]⟩ : Shape).Idx → BitVec 8) (a3 : (⟨3, ![3, 5, 30]⟩ : Shape).Idx → EReal)
    (a4 a5 : (⟨3, ![3, 10240, 30]⟩ : Shape).Idx → EReal) (a6 : (⟨4, ![3, 30, 96, 96]⟩ : Shape).Idx → EReal)
    (a7 : (⟨3, ![3, 30, 96]⟩ : Shape).Idx → EReal) (a8 : (⟨1, ![30]⟩ : Shape).Idx → EReal) : Data where
  q b h c p := (Ideal.ofBits .fp8e4m3 (a0 (ix4 b p h c)) : EReal).toReal
  k b h c p := (Ideal.ofBits .fp8e4m3 (a1 (ix4 b p h c)) : EReal).toReal
  v b h c p := (Ideal.ofBits .fp8e4m3 (a2 (ix4 b p h c)) : EReal).toReal
  qs b s h := (a3 (ix3 b s h)).toReal
  ks b h p := (a4 (ix3 b p h)).toReal
  vs b h p := (a5 (ix3 b p h)).toReal
  m0 b h c j := (a6 (ix4 b h c j)).toReal
  z0 b h c := (a7 (ix3 b h c)).toReal
  g h := (Ideal.logistic (a8 (ix1 h))).toReal

open Cert.Pre_finite_positive in
/-- Under the precondition the arguments hold that data. -/
theorem fits_dataOf [Cert.Pre_finite_positive.Facts] (a0 a1 a2 : IVec S3x10240x30x96 8) (a3 : FVec Ideal S3x5x30 .f32) (a4 a5 : FVec Ideal S3x10240x30 .f32)
    (a6 : FVec Ideal S3x30x96x96 .f32) (a7 : FVec Ideal S3x30x96 .f32) (a8 : FVec Ideal S30 .f32)
    (h : (fn (F := Ideal) a0 a1 a2 a3 a4 a5 a6 a7 a8).1 = (fun _ => 1#1) ∧ (fn (F := Ideal) a0 a1 a2 a3 a4 a5 a6 a7 a8).2.1 = (fun _ => 1#1)
      ∧ (fn (F := Ideal) a0 a1 a2 a3 a4 a5 a6 a7 a8).2.2.1 = (fun _ => 1#1) ∧ (fn (F := Ideal) a0 a1 a2 a3 a4 a5 a6 a7 a8).2.2.2.1 = (fun _ => 1#1)
      ∧ (fn (F := Ideal) a0 a1 a2 a3 a4 a5 a6 a7 a8).2.2.2.2.1 = (fun _ => 1#1) ∧ (fn (F := Ideal) a0 a1 a2 a3 a4 a5 a6 a7 a8).2.2.2.2.2.1 = (fun _ => 1#1)
      ∧ (fn (F := Ideal) a0 a1 a2 a3 a4 a5 a6 a7 a8).2.2.2.2.2.2.1 = (fun _ => 1#1) ∧ (fn (F := Ideal) a0 a1 a2 a3 a4 a5 a6 a7 a8).2.2.2.2.2.2.2.1 = (fun _ => 1#1)
      ∧ (fn (F := Ideal) a0 a1 a2 a3 a4 a5 a6 a7 a8).2.2.2.2.2.2.2.2 = (fun _ => 1#1)) :
    Fits (dataOf a0 a1 a2 a3 a4 a5 a6 a7 a8) a0 a1 a2 a3 a4 a5 a6 a7 a8 := by
  obtain ⟨h0, h1, h2, h3, h4, h5, h6, h7, h8⟩ := h
  have z : ∀ i, a7 i = (((a7 i).toReal : ℝ) : EReal) := fun i => real_of _ (congrFun h7 i)
  exact {
    hq := fun b p h c => byte_of _ (congrFun h0 (ix4 b p h c))
    hk := fun b p h c => byte_of _ (congrFun h1 (ix4 b p h c))
    hv := fun b p h c => byte_of _ (congrFun h2 (ix4 b p h c))
    hqs := fun b s h => real_of _ (congrFun h3 (ix3 b s h))
    hks := fun b p h => real_of _ (congrFun h4 (ix3 b p h))
    hvs := fun b p h => real_of _ (congrFun h5 (ix3 b p h))
    hm0 := fun b h c j => real_of _ (congrFun h6 (ix4 b h c j))
    hz0 := fun b h c => z _
    hg := fun h => rfl
    hpos := fun b h c => by
      have := pos_of_cmp _ (congrFun h8 (ix3 b h c))
      rw [z] at this
      exact EReal.coe_pos.1 this }

end Cert.Spec

end
-- ==== Proof.lean ====
/-
  The proof of `Cert.Claim` (Defs.lean). The three programs run and leave their arguments; the kernel over the reals differs
  from the printed one in the reading of one constant; and where the precondition holds, kernel and reference both end with
  the specification's three arrays.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_finite_positive
public import proofs.«01_k».proof.Proof.Kernel.Launch
public import proofs.«01_k».proof.Proof.KernelIdeal.Launch
public import proofs.«01_k».proof.Proof.KernelIdeal.Final
public import proofs.«01_k».proof.Proof.ReferenceIdeal.Final
public import proofs.«01_k».proof.Proof.Pre

@[expose] public section

noncomputable section

namespace Cert.Proof

open Idealize.ShloMosaic Idealize.SL.Sem Cert.Spec

/-- Naming the constant `log2 e` keeps the kernel's meaning. -/
theorem preserves : Cert.preserves_Kernel_KernelIdeal :=
  IdealRules.named_const.statement Cert.KernelIdeal.κ "log2_e" .f32 0x3FB8AA3B#32 (((Real.log 2)⁻¹ : ℝ) : EReal) rfl

/-- There is one device. -/
abbrev c₀ : Dev Cert.KernelIdeal.nD := 0

/-- The data of a memory. -/
def dataAt (m : (ℓ : Loc Cert.KernelIdeal.nD Cert.KernelIdeal.τ Cert.KernelIdeal.sig) → Buf (Elt Ideal) ℓ) : Data :=
  dataOf (m ((c₀.tc : Thread Cert.KernelIdeal.nD Cert.KernelIdeal.τ).loc Cert.KernelIdeal.main_arg0)) (m ((c₀.tc : Thread Cert.KernelIdeal.nD Cert.KernelIdeal.τ).loc Cert.KernelIdeal.main_arg1)) (m ((c₀.tc : Thread Cert.KernelIdeal.nD Cert.KernelIdeal.τ).loc Cert.KernelIdeal.main_arg2)) (m ((c₀.tc : Thread Cert.KernelIdeal.nD Cert.KernelIdeal.τ).loc Cert.KernelIdeal.main_arg3)) (m ((c₀.tc : Thread Cert.KernelIdeal.nD Cert.KernelIdeal.τ).loc Cert.KernelIdeal.main_arg4)) (m ((c₀.tc : Thread Cert.KernelIdeal.nD Cert.KernelIdeal.τ).loc Cert.KernelIdeal.main_arg5)) (m ((c₀.tc : Thread Cert.KernelIdeal.nD Cert.KernelIdeal.τ).loc Cert.KernelIdeal.main_arg6)) (m ((c₀.tc : Thread Cert.KernelIdeal.nD Cert.KernelIdeal.τ).loc Cert.KernelIdeal.main_arg7)) (m ((c₀.tc : Thread Cert.KernelIdeal.nD Cert.KernelIdeal.τ).loc Cert.KernelIdeal.main_arg8))

/-- Kernel and reference end with equal results. -/
theorem algebraic : Cert.algebraic_KernelIdeal_ReferenceIdeal_pre_finite_positive (hKernelIdeal := Cert.KernelIdeal.Gen.facts)
    (hReferenceIdeal := Cert.ReferenceIdeal.Gen.facts) (hPre_finite_positive := Cert.Pre_finite_positive.Gen.facts) := by
  intro m g m' g' hpre hargs
  have hF := fits_dataOf (m ((c₀.tc : Thread Cert.KernelIdeal.nD Cert.KernelIdeal.τ).loc Cert.KernelIdeal.main_arg0)) (m ((c₀.tc : Thread Cert.KernelIdeal.nD Cert.KernelIdeal.τ).loc Cert.KernelIdeal.main_arg1)) (m ((c₀.tc : Thread Cert.KernelIdeal.nD Cert.KernelIdeal.τ).loc Cert.KernelIdeal.main_arg2)) (m ((c₀.tc : Thread Cert.KernelIdeal.nD Cert.KernelIdeal.τ).loc Cert.KernelIdeal.main_arg3)) (m ((c₀.tc : Thread Cert.KernelIdeal.nD Cert.KernelIdeal.τ).loc Cert.KernelIdeal.main_arg4)) (m ((c₀.tc : Thread Cert.KernelIdeal.nD Cert.KernelIdeal.τ).loc Cert.KernelIdeal.main_arg5)) (m ((c₀.tc : Thread Cert.KernelIdeal.nD Cert.KernelIdeal.τ).loc Cert.KernelIdeal.main_arg6)) (m ((c₀.tc : Thread Cert.KernelIdeal.nD Cert.KernelIdeal.τ).loc Cert.KernelIdeal.main_arg7)) (m ((c₀.tc : Thread Cert.KernelIdeal.nD Cert.KernelIdeal.τ).loc Cert.KernelIdeal.main_arg8)) (hpre c₀)
  have one : ∀ c : Dev Cert.KernelIdeal.nD, c = c₀ := fun c => Subsingleton.elim (α := Fin 1) c c₀
  refine ⟨fun _ => outV (dataAt m), fun _ => memV (dataAt m), fun _ => norV (dataAt m),
    Cert.KernelIdeal.Hand.run_value m (dataAt m) g fun c => by rw [one c]; exact hF,
    Cert.ReferenceIdeal.Hand.run_value m' (dataAt m) g' fun c => ?_⟩
  obtain ⟨e0, e1, e2, e3, e4, e5, e6, e7, e8⟩ := hargs c
  obtain rfl : c = c₀ := one c
  have h : Fits (dataAt m) (m' ((c₀.tc : Thread Cert.ReferenceIdeal.nD Cert.ReferenceIdeal.τ).loc Cert.ReferenceIdeal.main_arg0)) (m' ((c₀.tc : Thread Cert.ReferenceIdeal.nD Cert.ReferenceIdeal.τ).loc Cert.ReferenceIdeal.main_arg1)) (m' ((c₀.tc : Thread Cert.ReferenceIdeal.nD Cert.ReferenceIdeal.τ).loc Cert.ReferenceIdeal.main_arg2)) (m' ((c₀.tc : Thread Cert.ReferenceIdeal.nD Cert.ReferenceIdeal.τ).loc Cert.ReferenceIdeal.main_arg3)) (m' ((c₀.tc : Thread Cert.ReferenceIdeal.nD Cert.ReferenceIdeal.τ).loc Cert.ReferenceIdeal.main_arg4)) (m' ((c₀.tc : Thread Cert.ReferenceIdeal.nD Cert.ReferenceIdeal.τ).loc Cert.ReferenceIdeal.main_arg5)) (m' ((c₀.tc : Thread Cert.ReferenceIdeal.nD Cert.ReferenceIdeal.τ).loc Cert.ReferenceIdeal.main_arg6)) (m' ((c₀.tc : Thread Cert.ReferenceIdeal.nD Cert.ReferenceIdeal.τ).loc Cert.ReferenceIdeal.main_arg7)) (m' ((c₀.tc : Thread Cert.ReferenceIdeal.nD Cert.ReferenceIdeal.τ).loc Cert.ReferenceIdeal.main_arg8)) := by
    rw [e0, e1, e2, e3, e4, e5, e6, e7, e8]
    exact hF
  exact h

theorem claim : Cert.Claim :=
  ⟨Cert.Kernel.Gen.facts, Cert.KernelIdeal.Gen.facts, Cert.ReferenceIdeal.Gen.facts, Cert.Pre_finite_positive.Gen.facts,
    fun m ρ _ => Cert.Kernel.Hand.frame m ρ, fun m ρ _ => Cert.KernelIdeal.Hand.frame m ρ, fun m ρ _ => Cert.KernelIdeal.Hand.frame m ρ,
    fun m ρ _ => Cert.ReferenceIdeal.Gen.frame m ρ, fun m ρ _ => Cert.ReferenceIdeal.Gen.frame m ρ, preserves, algebraic⟩

end Cert.Proof

end
